-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gate_finite [hPre_gate_finite : Cert.Pre_gate_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).1 = (fun _ => 1#1)
    ∧ (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gate_finite [hPre_gate_finite : Cert.Pre_gate_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).1 = (fun _ => 1#1)
    ∧ (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Kernel3Ideal_pre_gate_finite [hKernel3Ideal : Cert.Kernel3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gate_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Reference3Ideal_pre_gate_finite [hReference3Ideal : Cert.Reference3Ideal.Facts] [hPre_gate_finite : Cert.Pre_gate_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gate_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_gate_finite [hKernel3Ideal : Cert.Kernel3Ideal.Facts] [hReference3Ideal : Cert.Reference3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gate_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gate_finite : Cert.Pre_gate_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_gate_finite (hKernel3Ideal := hKernel3Ideal) (hPre_gate_finite := hPre_gate_finite)
    ∧ quiescent_Reference3Ideal (hReference3Ideal := hReference3Ideal)
    ∧ quiescent_Reference3Ideal_pre_gate_finite (hReference3Ideal := hReference3Ideal) (hPre_gate_finite := hPre_gate_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_gate_finite (hKernel3Ideal := hKernel3Ideal) (hReference3Ideal := hReference3Ideal) (hPre_gate_finite := hPre_gate_finite)
-- ==== Pre_gate_finite.lean ====
abbrev S8192x4096 : Shape := ⟨2, ![8192, 4096]⟩
abbrev S4096x20480 : Shape := ⟨2, ![4096, 20480]⟩
abbrev S8192 : Shape := ⟨1, ![8192]⟩
abbrev S4x4096 : Shape := ⟨2, ![4, 4096]⟩
abbrev S4096 : Shape := ⟨1, ![4096]⟩
abbrev S16x256x256 : Shape := ⟨3, ![16, 256, 256]⟩
abbrev S16x256 : Shape := ⟨2, ![16, 256]⟩
abbrev S16x128x128 : Shape := ⟨3, ![16, 128, 128]⟩
abbrev S16x128 : Shape := ⟨2, ![16, 128]⟩
abbrev S_ : Shape := ⟨0, ![]⟩
abbrev S4096x4096 : Shape := ⟨2, ![4096, 4096]⟩

class Facts : Prop where
  bcast_S_S8192x4096 : S_.BroadcastsInDim S8192x4096 (![] : Fin 0 → Fin S8192x4096.rank)
  slices_S4096x20480_S4096x4096_0_16384 : S4096x20480.Slices ![0, 16384] S4096x4096
  bcast_S_S4096x4096 : S_.BroadcastsInDim S4096x4096 (![] : Fin 0 → Fin S4096x4096.rank)

variable [Facts]

def fn {F : FTy → Type} [FloatOps F] (main_arg0 : FVec F S8192x4096 .bf16) (main_arg1 : FVec F S4096x20480 .f32) (main_arg2 : FVec F S8192x4096 .bf16) (main_arg3 : FVec F S8192 .f32) (main_arg4 : FVec F S8192 .f32) (main_arg5 : FVec F S4x4096 .f32) (main_arg6 : FVec F S4096 .f32) (main_arg7 : FVec F S16x256x256 .f32) (main_arg8 : FVec F S16x256 .f32) (main_arg9 : FVec F S16x256x256 .f32) (main_arg10 : FVec F S16x256 .f32) (main_arg11 : FVec F S4096 .f32) (main_arg12 : FVec F S4096 .f32) (main_arg13 : FVec F S4096 .f32) (main_arg14 : FVec F S16x128x128 .f32) (main_arg15 : FVec F S16x128 .f32) (main_arg16 : FVec F S8192x4096 .f32) : IVec S8192x4096 1 × IVec S4096x4096 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_v3 : FVec F S4096x4096 .f32 := (extractStridedSlice S4096x4096 ![0, 16384] · slices_S4096x20480_S4096x4096_0_16384) main_arg1
  let main_v4 : FVec F S4096x4096 .f32 := Host.absf main_v3
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  (main_v2, main_v6)
-- ==== Kernel.lean ====
abbrev S8192x8192 : Shape := ⟨2, ![8192, 8192]⟩
abbrev S8192x4096 : Shape := ⟨2, ![8192, 4096]⟩
abbrev S4096 : Shape := ⟨1, ![4096]⟩
abbrev S8192x2x4096 : Shape := ⟨3, ![8192, 2, 4096]⟩
abbrev S2x8192x4096 : Shape := ⟨3, ![2, 8192, 4096]⟩
abbrev S8192x8x512 : Shape := ⟨3, ![8192, 8, 512]⟩
abbrev S8x8192x512 : Shape := ⟨3, ![8, 8192, 512]⟩
abbrev S1x4096 : Shape := ⟨2, ![1, 4096]⟩
abbrev S2x2x512x4096 : Shape := ⟨4, ![2, 2, 512, 4096]⟩
abbrev S2 : Shape := ⟨1, ![2]⟩
abbrev S2x1x8192x512 : Shape := ⟨4, ![2, 1, 8192, 512]⟩
abbrev S2x512x512 : Shape := ⟨3, ![2, 512, 512]⟩
abbrev S2x512x4096 : Shape := ⟨3, ![2, 512, 4096]⟩
abbrev S_ : Shape := ⟨0, ![]⟩
abbrev S1 : Shape := ⟨1, ![1]⟩
abbrev S1x2x512x4096 : Shape := ⟨4, ![1, 2, 512, 4096]⟩
abbrev S1x1x8192x512 : Shape := ⟨4, ![1, 1, 8192, 512]⟩
abbrev S1x8192x512 : Shape := ⟨3, ![1, 8192, 512]⟩
abbrev S1x512x512 : Shape := ⟨3, ![1, 512, 512]⟩
abbrev S512x512 : Shape := ⟨2, ![512, 512]⟩
abbrev S1x512x4096 : Shape := ⟨3, ![1, 512, 4096]⟩
abbrev S512x4096 : Shape := ⟨2, ![512, 4096]⟩
abbrev S1x4096x512 : Shape := ⟨3, ![1, 4096, 512]⟩
abbrev S4096x512 : Shape := ⟨2, ![4096, 512]⟩
abbrev S512 : Shape := ⟨1, ![512]⟩
abbrev S512x1 : Shape := ⟨2, ![512, 1]⟩

abbrev nBuf : Space → Nat
  | .hbm => 11
  | .vmem => 5
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S4096, .f32⟩
  | .hbm, ⟨4, _⟩ => ⟨S8192x2x4096, .bf16⟩
  | .hbm, ⟨5, _⟩ => ⟨S2x8192x4096, .bf16⟩
  | .hbm, ⟨6, _⟩ => ⟨S8192x4096, .bf16⟩
  | .hbm, ⟨7, _⟩ => ⟨S8192x8x512, .bf16⟩
  | .hbm, ⟨8, _⟩ => ⟨S8x8192x512, .bf16⟩
  | .hbm, ⟨9, _⟩ => ⟨S1x4096, .f32⟩
  | .hbm, ⟨10, _⟩ => ⟨S8192x4096, .f32⟩
  | .local _ .vmem, ⟨0, _⟩ => ⟨S2x2x512x4096, .bf16⟩
  | .local _ .vmem, ⟨1, _⟩ => ⟨S2x1x8192x512, .bf16⟩
  | .local _ .vmem, ⟨2, _⟩ => ⟨S2x512x512, .f32⟩
  | .local _ .vmem, ⟨3, _⟩ => ⟨S1x4096, .f32⟩
  | .local _ .vmem, ⟨4, _⟩ => ⟨S2x512x4096, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped7 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_27_r0 : BitVec 32 := 0#32
  let c2_i32_r0 : BitVec 32 := 2#32
  let v30_r0 : BitVec 32 := Scalar.remui c0_i32_27_r0 c2_i32_r0
  ![v30_r0.toNat]
def k0_off2 : Fin 4 → Nat :=
  let c0_i32_27_r0 : BitVec 32 := 0#32
  let c2_i32_r0 : BitVec 32 := 2#32
  let v30_r0 : BitVec 32 := Scalar.remui c0_i32_27_r0 c2_i32_r0
  let c0_i32_28_r0 : BitVec 32 := 0#32
  let c0_i32_29_r0 : BitVec 32 := 0#32
  let c0_i32_30_r0 : BitVec 32 := 0#32
  ![v30_r0.toNat, 0, 0, 0]
def k0_off3 : Fin 4 → Nat :=
  let c0_i32_36_r0 : BitVec 32 := 0#32
  let c2_i32_37_r0 : BitVec 32 := 2#32
  let v37_r0 : BitVec 32 := Scalar.remui c0_i32_36_r0 c2_i32_37_r0
  let c0_i32_38_r0 : BitVec 32 := 0#32
  let c0_i32_39_r0 : BitVec 32 := 0#32
  let c0_i32_40_r0 : BitVec 32 := 0#32
  ![v37_r0.toNat, 0, 0, 0]
def k0_off4 : Fin 3 → Nat :=
  let c0_i32_46_r0 : BitVec 32 := 0#32
  let c2_i32_47_r0 : BitVec 32 := 2#32
  let v44_r0 : BitVec 32 := Scalar.remui c0_i32_46_r0 c2_i32_47_r0
  let c0_i32_48_r0 : BitVec 32 := 0#32
  let c0_i32_49_r0 : BitVec 32 := 0#32
  ![v44_r0.toNat, 0, 0]
@[reducible] def k0_t1_loop : Scf.Loop 32 :=
  let c0_i32_63_r0 : BitVec 32 := 0#32
  let c128_i32_r0 : BitVec 32 := 128#32
  let v51_r0 : BitVec 32 := Scalar.addi c0_i32_63_r0 c128_i32_r0
  let c1_i32_64_r0 : BitVec 32 := 1#32
  ⟨c0_i32_63_r0, v51_r0, c1_i32_64_r0⟩
def k0_off5 (arg6_r0 : BitVec 32) : Fin 1 → Nat :=
  let c2_i32_231_r0 : BitVec 32 := 2#32
  let v309_r0 : BitVec 32 := Scalar.remui arg6_r0 c2_i32_231_r0
  ![v309_r0.toNat]
def k0_cond1 (k0_t1 : Fin k0_t1_loop.trips) (arg15_r0 : BitVec 32) (arg16_r0 : BitVec 32) : BitVec 1 :=
  let c0_i32_107_r0 : BitVec 32 := 0#32
  let v102_r0 : BitVec 32 := Scalar.addi arg15_r0 c0_i32_107_r0
  let true_119_r0 : BitVec 1 := 1#1
  let c1_i32_118_r0 : BitVec 32 := 1#32
  let v114_r0 : BitVec 32 := Scalar.addi arg16_r0 c1_i32_118_r0
  let v115_r0 : BitVec 32 := Scalar.select true_119_r0 v114_r0 arg16_r0
  let c8_i32_120_r0 : BitVec 32 := 8#32
  let v116_r0 : BitVec 1 := Scalar.cmpi .eq v115_r0 c8_i32_120_r0
  let c1_i32_122_r0 : BitVec 32 := 1#32
  let v118_r0 : BitVec 32 := Scalar.addi arg15_r0 c1_i32_122_r0
  let v119_r0 : BitVec 32 := Scalar.select v116_r0 v118_r0 arg15_r0
  let c16_i32_123_r0 : BitVec 32 := 16#32
  let v120_r0 : BitVec 1 := Scalar.cmpi .eq v119_r0 c16_i32_123_r0
  let c0_i32_124_r0 : BitVec 32 := 0#32
  let v121_r0 : BitVec 32 := Scalar.select v120_r0 c0_i32_124_r0 v119_r0
  let c0_i32_125_r0 : BitVec 32 := 0#32
  let v122_r0 : BitVec 32 := Scalar.addi v121_r0 c0_i32_125_r0
  let v134_r0 : BitVec 1 := Scalar.cmpi .ne v102_r0 v122_r0
  let c0_i32_63_r0 : BitVec 32 := 0#32
  let c1_i32_64_r0 : BitVec 32 := 1#32
  let arg5_r0 : BitVec 32 := Scf.iv c0_i32_63_r0 c1_i32_64_r0 k0_t1
  let c127_i32_136_r0 : BitVec 32 := 127#32
  let v135_r0 : BitVec 1 := Scalar.cmpi .sge arg5_r0 c127_i32_136_r0
  let true_137_r0 : BitVec 1 := 1#1
  let v136_r0 : BitVec 1 := Scalar.xori v135_r0 true_137_r0
  let v137_r0 : BitVec 1 := Scalar.andi v134_r0 v136_r0
  let true_138_r0 : BitVec 1 := 1#1
  let v138_r0 : BitVec 1 := Scalar.andi v137_r0 true_138_r0
  let v139_r0 : BitVec 32 := Scalar.extui v138_r0
  let c0_i32_139_r0 : BitVec 32 := 0#32
  let v140_r0 : BitVec 1 := Scalar.cmpi .ne v139_r0 c0_i32_139_r0
  v140_r0

def k0_off6 (arg6_r0 : BitVec 32) : Fin 4 → Nat :=
  let c2_i32_231_r0 : BitVec 32 := 2#32
  let v309_r0 : BitVec 32 := Scalar.remui arg6_r0 c2_i32_231_r0
  let c0_i32_233_r0 : BitVec 32 := 0#32
  let c0_i32_234_r0 : BitVec 32 := 0#32
  let c0_i32_235_r0 : BitVec 32 := 0#32
  ![v309_r0.toNat, 0, 0, 0]
def k0_off7 (arg15_r0 : BitVec 32) (arg16_r0 : BitVec 32) : Fin 3 → Nat :=
  let c0_i32_236_r0 : BitVec 32 := 0#32
  let c512_i32_232_r0 : BitVec 32 := 512#32
  let true_119_r0 : BitVec 1 := 1#1
  let c1_i32_118_r0 : BitVec 32 := 1#32
  let v114_r0 : BitVec 32 := Scalar.addi arg16_r0 c1_i32_118_r0
  let v115_r0 : BitVec 32 := Scalar.select true_119_r0 v114_r0 arg16_r0
  let c8_i32_120_r0 : BitVec 32 := 8#32
  let v116_r0 : BitVec 1 := Scalar.cmpi .eq v115_r0 c8_i32_120_r0
  let c1_i32_122_r0 : BitVec 32 := 1#32
  let v118_r0 : BitVec 32 := Scalar.addi arg15_r0 c1_i32_122_r0
  let v119_r0 : BitVec 32 := Scalar.select v116_r0 v118_r0 arg15_r0
  let c16_i32_123_r0 : BitVec 32 := 16#32
  let v120_r0 : BitVec 1 := Scalar.cmpi .eq v119_r0 c16_i32_123_r0
  let c0_i32_124_r0 : BitVec 32 := 0#32
  let v121_r0 : BitVec 32 := Scalar.select v120_r0 c0_i32_124_r0 v119_r0
  let c0_i32_125_r0 : BitVec 32 := 0#32
  let v122_r0 : BitVec 32 := Scalar.addi v121_r0 c0_i32_125_r0
  let v310_r0 : BitVec 32 := Scalar.muli c512_i32_232_r0 v122_r0
  let c0_i32_237_r0 : BitVec 32 := 0#32
  ![0, v310_r0.toNat, 0]
def k0_off8 (arg8_r0 : BitVec 32) : Fin 1 → Nat :=
  let c2_i32_231_r0 : BitVec 32 := 2#32
  let v309_r0 : BitVec 32 := Scalar.remui arg8_r0 c2_i32_231_r0
  ![v309_r0.toNat]
def k0_cond2 (k0_t1 : Fin k0_t1_loop.trips) (arg16_r0 : BitVec 32) : BitVec 1 :=
  let c0_i32_108_r0 : BitVec 32 := 0#32
  let v103_r0 : BitVec 32 := Scalar.addi arg16_r0 c0_i32_108_r0
  let true_119_r0 : BitVec 1 := 1#1
  let c1_i32_118_r0 : BitVec 32 := 1#32
  let v114_r0 : BitVec 32 := Scalar.addi arg16_r0 c1_i32_118_r0
  let v115_r0 : BitVec 32 := Scalar.select true_119_r0 v114_r0 arg16_r0
  let c8_i32_120_r0 : BitVec 32 := 8#32
  let v116_r0 : BitVec 1 := Scalar.cmpi .eq v115_r0 c8_i32_120_r0
  let c0_i32_121_r0 : BitVec 32 := 0#32
  let v117_r0 : BitVec 32 := Scalar.select v116_r0 c0_i32_121_r0 v115_r0
  let c0_i32_126_r0 : BitVec 32 := 0#32
  let v123_r0 : BitVec 32 := Scalar.addi v117_r0 c0_i32_126_r0
  let v144_r0 : BitVec 1 := Scalar.cmpi .ne v103_r0 v123_r0
  let c0_i32_63_r0 : BitVec 32 := 0#32
  let c1_i32_64_r0 : BitVec 32 := 1#32
  let arg5_r0 : BitVec 32 := Scf.iv c0_i32_63_r0 c1_i32_64_r0 k0_t1
  let c127_i32_142_r0 : BitVec 32 := 127#32
  let v145_r0 : BitVec 1 := Scalar.cmpi .sge arg5_r0 c127_i32_142_r0
  let true_143_r0 : BitVec 1 := 1#1
  let v146_r0 : BitVec 1 := Scalar.xori v145_r0 true_143_r0
  let v147_r0 : BitVec 1 := Scalar.andi v144_r0 v146_r0
  let true_144_r0 : BitVec 1 := 1#1
  let v148_r0 : BitVec 1 := Scalar.andi v147_r0 true_144_r0
  let v149_r0 : BitVec 32 := Scalar.extui v148_r0
  let c0_i32_145_r0 : BitVec 32 := 0#32
  let v150_r0 : BitVec 1 := Scalar.cmpi .ne v149_r0 c0_i32_145_r0
  v150_r0

def k0_off9 (arg8_r0 : BitVec 32) : Fin 4 → Nat :=
  let c2_i32_231_r0 : BitVec 32 := 2#32
  let v309_r0 : BitVec 32 := Scalar.remui arg8_r0 c2_i32_231_r0
  let c0_i32_233_r0 : BitVec 32 := 0#32
  let c0_i32_234_r0 : BitVec 32 := 0#32
  let c0_i32_235_r0 : BitVec 32 := 0#32
  ![v309_r0.toNat, 0, 0, 0]
def k0_off10 (arg16_r0 : BitVec 32) : Fin 3 → Nat :=
  let c1_i32_232_r0 : BitVec 32 := 1#32
  let true_119_r0 : BitVec 1 := 1#1
  let c1_i32_118_r0 : BitVec 32 := 1#32
  let v114_r0 : BitVec 32 := Scalar.addi arg16_r0 c1_i32_118_r0
  let v115_r0 : BitVec 32 := Scalar.select true_119_r0 v114_r0 arg16_r0
  let c8_i32_120_r0 : BitVec 32 := 8#32
  let v116_r0 : BitVec 1 := Scalar.cmpi .eq v115_r0 c8_i32_120_r0
  let c0_i32_121_r0 : BitVec 32 := 0#32
  let v117_r0 : BitVec 32 := Scalar.select v116_r0 c0_i32_121_r0 v115_r0
  let c0_i32_126_r0 : BitVec 32 := 0#32
  let v123_r0 : BitVec 32 := Scalar.addi v117_r0 c0_i32_126_r0
  let v310_r0 : BitVec 32 := Scalar.muli c1_i32_232_r0 v123_r0
  let c0_i32_236_r0 : BitVec 32 := 0#32
  let c0_i32_237_r0 : BitVec 32 := 0#32
  ![v310_r0.toNat, 0, 0]
def k0_off11 (arg10_r0 : BitVec 32) : Fin 1 → Nat :=
  let c2_i32_231_r0 : BitVec 32 := 2#32
  let v309_r0 : BitVec 32 := Scalar.remui arg10_r0 c2_i32_231_r0
  ![v309_r0.toNat]
def k0_cond3 (k0_t1 : Fin k0_t1_loop.trips) (arg15_r0 : BitVec 32) (arg16_r0 : BitVec 32) : BitVec 1 :=
  let c0_i32_107_r0 : BitVec 32 := 0#32
  let v102_r0 : BitVec 32 := Scalar.addi arg15_r0 c0_i32_107_r0
  let true_119_r0 : BitVec 1 := 1#1
  let c1_i32_118_r0 : BitVec 32 := 1#32
  let v114_r0 : BitVec 32 := Scalar.addi arg16_r0 c1_i32_118_r0
  let v115_r0 : BitVec 32 := Scalar.select true_119_r0 v114_r0 arg16_r0
  let c8_i32_120_r0 : BitVec 32 := 8#32
  let v116_r0 : BitVec 1 := Scalar.cmpi .eq v115_r0 c8_i32_120_r0
  let c1_i32_122_r0 : BitVec 32 := 1#32
  let v118_r0 : BitVec 32 := Scalar.addi arg15_r0 c1_i32_122_r0
  let v119_r0 : BitVec 32 := Scalar.select v116_r0 v118_r0 arg15_r0
  let c16_i32_123_r0 : BitVec 32 := 16#32
  let v120_r0 : BitVec 1 := Scalar.cmpi .eq v119_r0 c16_i32_123_r0
  let c0_i32_124_r0 : BitVec 32 := 0#32
  let v121_r0 : BitVec 32 := Scalar.select v120_r0 c0_i32_124_r0 v119_r0
  let c0_i32_125_r0 : BitVec 32 := 0#32
  let v122_r0 : BitVec 32 := Scalar.addi v121_r0 c0_i32_125_r0
  let v154_r0 : BitVec 1 := Scalar.cmpi .ne v102_r0 v122_r0
  let c0_i32_108_r0 : BitVec 32 := 0#32
  let v103_r0 : BitVec 32 := Scalar.addi arg16_r0 c0_i32_108_r0
  let c0_i32_121_r0 : BitVec 32 := 0#32
  let v117_r0 : BitVec 32 := Scalar.select v116_r0 c0_i32_121_r0 v115_r0
  let c0_i32_126_r0 : BitVec 32 := 0#32
  let v123_r0 : BitVec 32 := Scalar.addi v117_r0 c0_i32_126_r0
  let v155_r0 : BitVec 1 := Scalar.cmpi .ne v103_r0 v123_r0
  let v156_r0 : BitVec 1 := Scalar.ori v154_r0 v155_r0
  let c0_i32_63_r0 : BitVec 32 := 0#32
  let c1_i32_64_r0 : BitVec 32 := 1#32
  let arg5_r0 : BitVec 32 := Scf.iv c0_i32_63_r0 c1_i32_64_r0 k0_t1
  let c127_i32_148_r0 : BitVec 32 := 127#32
  let v157_r0 : BitVec 1 := Scalar.cmpi .sge arg5_r0 c127_i32_148_r0
  let true_149_r0 : BitVec 1 := 1#1
  let v158_r0 : BitVec 1 := Scalar.xori v157_r0 true_149_r0
  let v159_r0 : BitVec 1 := Scalar.andi v156_r0 v158_r0
  let true_150_r0 : BitVec 1 := 1#1
  let v160_r0 : BitVec 1 := Scalar.andi v159_r0 true_150_r0
  let v161_r0 : BitVec 32 := Scalar.extui v160_r0
  let c0_i32_151_r0 : BitVec 32 := 0#32
  let v162_r0 : BitVec 1 := Scalar.cmpi .ne v161_r0 c0_i32_151_r0
  v162_r0

def k0_off12 (arg10_r0 : BitVec 32) : Fin 3 → Nat :=
  let c2_i32_231_r0 : BitVec 32 := 2#32
  let v309_r0 : BitVec 32 := Scalar.remui arg10_r0 c2_i32_231_r0
  let c0_i32_234_r0 : BitVec 32 := 0#32
  let c0_i32_235_r0 : BitVec 32 := 0#32
  ![v309_r0.toNat, 0, 0]
def k0_off13 (arg15_r0 : BitVec 32) (arg16_r0 : BitVec 32) : Fin 2 → Nat :=
  let c512_i32_232_r0 : BitVec 32 := 512#32
  let true_119_r0 : BitVec 1 := 1#1
  let c1_i32_118_r0 : BitVec 32 := 1#32
  let v114_r0 : BitVec 32 := Scalar.addi arg16_r0 c1_i32_118_r0
  let v115_r0 : BitVec 32 := Scalar.select true_119_r0 v114_r0 arg16_r0
  let c8_i32_120_r0 : BitVec 32 := 8#32
  let v116_r0 : BitVec 1 := Scalar.cmpi .eq v115_r0 c8_i32_120_r0
  let c1_i32_122_r0 : BitVec 32 := 1#32
  let v118_r0 : BitVec 32 := Scalar.addi arg15_r0 c1_i32_122_r0
  let v119_r0 : BitVec 32 := Scalar.select v116_r0 v118_r0 arg15_r0
  let c16_i32_123_r0 : BitVec 32 := 16#32
  let v120_r0 : BitVec 1 := Scalar.cmpi .eq v119_r0 c16_i32_123_r0
  let c0_i32_124_r0 : BitVec 32 := 0#32
  let v121_r0 : BitVec 32 := Scalar.select v120_r0 c0_i32_124_r0 v119_r0
  let c0_i32_125_r0 : BitVec 32 := 0#32
  let v122_r0 : BitVec 32 := Scalar.addi v121_r0 c0_i32_125_r0
  let v310_r0 : BitVec 32 := Scalar.muli c512_i32_232_r0 v122_r0
  let c512_i32_233_r0 : BitVec 32 := 512#32
  let c0_i32_121_r0 : BitVec 32 := 0#32
  let v117_r0 : BitVec 32 := Scalar.select v116_r0 c0_i32_121_r0 v115_r0
  let c0_i32_126_r0 : BitVec 32 := 0#32
  let v123_r0 : BitVec 32 := Scalar.addi v117_r0 c0_i32_126_r0
  let v311_r0 : BitVec 32 := Scalar.muli c512_i32_233_r0 v123_r0
  ![v310_r0.toNat, v311_r0.toNat]
def k0_off14 (arg7_r0 : BitVec 32) : Fin 1 → Nat :=
  let c2_i32_232_r0 : BitVec 32 := 2#32
  let v310_r0 : BitVec 32 := Scalar.remui arg7_r0 c2_i32_232_r0
  ![v310_r0.toNat]
def k0_cond4 (k0_t1 : Fin k0_t1_loop.trips) (arg15_r0 : BitVec 32) (arg16_r0 : BitVec 32) : BitVec 1 :=
  let c0_i32_107_r0 : BitVec 32 := 0#32
  let v102_r0 : BitVec 32 := Scalar.addi arg15_r0 c0_i32_107_r0
  let true_110_r0 : BitVec 1 := 1#1
  let c1_i32_109_r0 : BitVec 32 := 1#32
  let v104_r0 : BitVec 32 := Scalar.subi arg16_r0 c1_i32_109_r0
  let v105_r0 : BitVec 32 := Scalar.select true_110_r0 v104_r0 arg16_r0
  let c_m1_i32_111_r0 : BitVec 32 := 4294967295#32
  let v106_r0 : BitVec 1 := Scalar.cmpi .eq v105_r0 c_m1_i32_111_r0
  let c1_i32_113_r0 : BitVec 32 := 1#32
  let v108_r0 : BitVec 32 := Scalar.subi arg15_r0 c1_i32_113_r0
  let v109_r0 : BitVec 32 := Scalar.select v106_r0 v108_r0 arg15_r0
  let c_m1_i32_114_r0 : BitVec 32 := 4294967295#32
  let v110_r0 : BitVec 1 := Scalar.cmpi .eq v109_r0 c_m1_i32_114_r0
  let c15_i32_115_r0 : BitVec 32 := 15#32
  let v111_r0 : BitVec 32 := Scalar.select v110_r0 c15_i32_115_r0 v109_r0
  let c0_i32_116_r0 : BitVec 32 := 0#32
  let v112_r0 : BitVec 32 := Scalar.addi v111_r0 c0_i32_116_r0
  let v170_r0 : BitVec 1 := Scalar.cmpi .ne v102_r0 v112_r0
  let c0_i32_63_r0 : BitVec 32 := 0#32
  let c1_i32_64_r0 : BitVec 32 := 1#32
  let arg5_r0 : BitVec 32 := Scf.iv c0_i32_63_r0 c1_i32_64_r0 k0_t1
  let c0_i32_106_r0 : BitVec 32 := 0#32
  let v100_r0 : BitVec 1 := Scalar.cmpi .eq arg5_r0 c0_i32_106_r0
  let v171_r0 : BitVec 1 := Scalar.ori v170_r0 v100_r0
  let c0_i32_156_r0 : BitVec 32 := 0#32
  let v172_r0 : BitVec 1 := Scalar.cmpi .sge arg5_r0 c0_i32_156_r0
  let v173_r0 : BitVec 1 := Scalar.andi v171_r0 v172_r0
  let v174_r0 : BitVec 32 := Scalar.extui v173_r0
  let c0_i32_157_r0 : BitVec 32 := 0#32
  let v175_r0 : BitVec 1 := Scalar.cmpi .ne v174_r0 c0_i32_157_r0
  v175_r0

def k0_off15 (arg7_r0 : BitVec 32) : Fin 4 → Nat :=
  let c2_i32_232_r0 : BitVec 32 := 2#32
  let v310_r0 : BitVec 32 := Scalar.remui arg7_r0 c2_i32_232_r0
  let c0_i32_233_r0 : BitVec 32 := 0#32
  let c0_i32_234_r0 : BitVec 32 := 0#32
  let c0_i32_235_r0 : BitVec 32 := 0#32
  ![v310_r0.toNat, 0, 0, 0]
def k0_off16 (arg15_r0 : BitVec 32) : Fin 3 → Nat :=
  let c0_i32_236_r0 : BitVec 32 := 0#32
  let c512_i32_231_r0 : BitVec 32 := 512#32
  let c0_i32_107_r0 : BitVec 32 := 0#32
  let v102_r0 : BitVec 32 := Scalar.addi arg15_r0 c0_i32_107_r0
  let v309_r0 : BitVec 32 := Scalar.muli c512_i32_231_r0 v102_r0
  let c0_i32_237_r0 : BitVec 32 := 0#32
  ![0, v309_r0.toNat, 0]
def k0_off17 (arg9_r0 : BitVec 32) : Fin 1 → Nat :=
  let c2_i32_232_r0 : BitVec 32 := 2#32
  let v310_r0 : BitVec 32 := Scalar.remui arg9_r0 c2_i32_232_r0
  ![v310_r0.toNat]
def k0_cond5 (k0_t1 : Fin k0_t1_loop.trips) (arg16_r0 : BitVec 32) : BitVec 1 :=
  let c0_i32_108_r0 : BitVec 32 := 0#32
  let v103_r0 : BitVec 32 := Scalar.addi arg16_r0 c0_i32_108_r0
  let true_110_r0 : BitVec 1 := 1#1
  let c1_i32_109_r0 : BitVec 32 := 1#32
  let v104_r0 : BitVec 32 := Scalar.subi arg16_r0 c1_i32_109_r0
  let v105_r0 : BitVec 32 := Scalar.select true_110_r0 v104_r0 arg16_r0
  let c_m1_i32_111_r0 : BitVec 32 := 4294967295#32
  let v106_r0 : BitVec 1 := Scalar.cmpi .eq v105_r0 c_m1_i32_111_r0
  let c7_i32_112_r0 : BitVec 32 := 7#32
  let v107_r0 : BitVec 32 := Scalar.select v106_r0 c7_i32_112_r0 v105_r0
  let c0_i32_117_r0 : BitVec 32 := 0#32
  let v113_r0 : BitVec 32 := Scalar.addi v107_r0 c0_i32_117_r0
  let v176_r0 : BitVec 1 := Scalar.cmpi .ne v103_r0 v113_r0
  let c0_i32_63_r0 : BitVec 32 := 0#32
  let c1_i32_64_r0 : BitVec 32 := 1#32
  let arg5_r0 : BitVec 32 := Scf.iv c0_i32_63_r0 c1_i32_64_r0 k0_t1
  let c0_i32_106_r0 : BitVec 32 := 0#32
  let v100_r0 : BitVec 1 := Scalar.cmpi .eq arg5_r0 c0_i32_106_r0
  let v177_r0 : BitVec 1 := Scalar.ori v176_r0 v100_r0
  let c0_i32_158_r0 : BitVec 32 := 0#32
  let v178_r0 : BitVec 1 := Scalar.cmpi .sge arg5_r0 c0_i32_158_r0
  let v179_r0 : BitVec 1 := Scalar.andi v177_r0 v178_r0
  let v180_r0 : BitVec 32 := Scalar.extui v179_r0
  let c0_i32_159_r0 : BitVec 32 := 0#32
  let v181_r0 : BitVec 1 := Scalar.cmpi .ne v180_r0 c0_i32_159_r0
  v181_r0

def k0_off18 (arg9_r0 : BitVec 32) : Fin 4 → Nat :=
  let c2_i32_232_r0 : BitVec 32 := 2#32
  let v310_r0 : BitVec 32 := Scalar.remui arg9_r0 c2_i32_232_r0
  let c0_i32_233_r0 : BitVec 32 := 0#32
  let c0_i32_234_r0 : BitVec 32 := 0#32
  let c0_i32_235_r0 : BitVec 32 := 0#32
  ![v310_r0.toNat, 0, 0, 0]
def k0_off19 (arg16_r0 : BitVec 32) : Fin 3 → Nat :=
  let c1_i32_231_r0 : BitVec 32 := 1#32
  let c0_i32_108_r0 : BitVec 32 := 0#32
  let v103_r0 : BitVec 32 := Scalar.addi arg16_r0 c0_i32_108_r0
  let v309_r0 : BitVec 32 := Scalar.muli c1_i32_231_r0 v103_r0
  let c0_i32_236_r0 : BitVec 32 := 0#32
  let c0_i32_237_r0 : BitVec 32 := 0#32
  ![v309_r0.toNat, 0, 0]
def k0_off20 (arg11_r0 : BitVec 32) : Fin 1 → Nat :=
  let c2_i32_233_r0 : BitVec 32 := 2#32
  let v311_r0 : BitVec 32 := Scalar.remui arg11_r0 c2_i32_233_r0
  ![v311_r0.toNat]
def k0_cond6 (k0_t1 : Fin k0_t1_loop.trips) (arg15_r0 : BitVec 32) (arg16_r0 : BitVec 32) : BitVec 1 :=
  let c0_i32_107_r0 : BitVec 32 := 0#32
  let v102_r0 : BitVec 32 := Scalar.addi arg15_r0 c0_i32_107_r0
  let true_110_r0 : BitVec 1 := 1#1
  let c1_i32_109_r0 : BitVec 32 := 1#32
  let v104_r0 : BitVec 32 := Scalar.subi arg16_r0 c1_i32_109_r0
  let v105_r0 : BitVec 32 := Scalar.select true_110_r0 v104_r0 arg16_r0
  let c_m1_i32_111_r0 : BitVec 32 := 4294967295#32
  let v106_r0 : BitVec 1 := Scalar.cmpi .eq v105_r0 c_m1_i32_111_r0
  let c1_i32_113_r0 : BitVec 32 := 1#32
  let v108_r0 : BitVec 32 := Scalar.subi arg15_r0 c1_i32_113_r0
  let v109_r0 : BitVec 32 := Scalar.select v106_r0 v108_r0 arg15_r0
  let c_m1_i32_114_r0 : BitVec 32 := 4294967295#32
  let v110_r0 : BitVec 1 := Scalar.cmpi .eq v109_r0 c_m1_i32_114_r0
  let c15_i32_115_r0 : BitVec 32 := 15#32
  let v111_r0 : BitVec 32 := Scalar.select v110_r0 c15_i32_115_r0 v109_r0
  let c0_i32_116_r0 : BitVec 32 := 0#32
  let v112_r0 : BitVec 32 := Scalar.addi v111_r0 c0_i32_116_r0
  let v182_r0 : BitVec 1 := Scalar.cmpi .ne v102_r0 v112_r0
  let c0_i32_108_r0 : BitVec 32 := 0#32
  let v103_r0 : BitVec 32 := Scalar.addi arg16_r0 c0_i32_108_r0
  let c7_i32_112_r0 : BitVec 32 := 7#32
  let v107_r0 : BitVec 32 := Scalar.select v106_r0 c7_i32_112_r0 v105_r0
  let c0_i32_117_r0 : BitVec 32 := 0#32
  let v113_r0 : BitVec 32 := Scalar.addi v107_r0 c0_i32_117_r0
  let v183_r0 : BitVec 1 := Scalar.cmpi .ne v103_r0 v113_r0
  let v184_r0 : BitVec 1 := Scalar.ori v182_r0 v183_r0
  let c0_i32_63_r0 : BitVec 32 := 0#32
  let c1_i32_64_r0 : BitVec 32 := 1#32
  let arg5_r0 : BitVec 32 := Scf.iv c0_i32_63_r0 c1_i32_64_r0 k0_t1
  let c0_i32_106_r0 : BitVec 32 := 0#32
  let v100_r0 : BitVec 1 := Scalar.cmpi .eq arg5_r0 c0_i32_106_r0
  let v185_r0 : BitVec 1 := Scalar.ori v184_r0 v100_r0
  let c0_i32_160_r0 : BitVec 32 := 0#32
  let v186_r0 : BitVec 1 := Scalar.cmpi .sge arg5_r0 c0_i32_160_r0
  let v187_r0 : BitVec 1 := Scalar.andi v185_r0 v186_r0
  let v188_r0 : BitVec 32 := Scalar.extui v187_r0
  let c0_i32_161_r0 : BitVec 32 := 0#32
  let v189_r0 : BitVec 1 := Scalar.cmpi .ne v188_r0 c0_i32_161_r0
  v189_r0

def k0_off21 (arg11_r0 : BitVec 32) : Fin 3 → Nat :=
  let c2_i32_233_r0 : BitVec 32 := 2#32
  let v311_r0 : BitVec 32 := Scalar.remui arg11_r0 c2_i32_233_r0
  let c0_i32_234_r0 : BitVec 32 := 0#32
  let c0_i32_235_r0 : BitVec 32 := 0#32
  ![v311_r0.toNat, 0, 0]
def k0_off22 (arg15_r0 : BitVec 32) (arg16_r0 : BitVec 32) : Fin 2 → Nat :=
  let c512_i32_231_r0 : BitVec 32 := 512#32
  let c0_i32_107_r0 : BitVec 32 := 0#32
  let v102_r0 : BitVec 32 := Scalar.addi arg15_r0 c0_i32_107_r0
  let v309_r0 : BitVec 32 := Scalar.muli c512_i32_231_r0 v102_r0
  let c512_i32_232_r0 : BitVec 32 := 512#32
  let c0_i32_108_r0 : BitVec 32 := 0#32
  let v103_r0 : BitVec 32 := Scalar.addi arg16_r0 c0_i32_108_r0
  let v310_r0 : BitVec 32 := Scalar.muli c512_i32_232_r0 v103_r0
  ![v309_r0.toNat, v310_r0.toNat]
def k0_off23 (arg11_r0 : BitVec 32) : Fin 3 → Nat :=
  let c2_i32_166_r0 : BitVec 32 := 2#32
  let v198_r0 : BitVec 32 := Scalar.remui arg11_r0 c2_i32_166_r0
  let v200_r0 : Index := Scalar.indexCast v198_r0
  let c0_r0 : Index := 0#32
  let c0_168_r0 : Index := 0#32
  ![v200_r0.toNat, 0, 0]

def k0_chk2 (arg11_r0 : BitVec 32) : Prop :=
  (∀ a, (k0_off23 arg11_r0) a + S1x512x512.size a ≤ S2x512x512.size a)
theorem k0_off23_inb : ∀ (arg11_r0 : BitVec 32) (k0_hw2 : k0_chk2 arg11_r0), ∀ a, (k0_off23 arg11_r0) a + S1x512x512.size a ≤ S2x512x512.size a := fun arg11_r0 k0_hw2 => k0_hw2

def k0_off24 (arg7_r0 : BitVec 32) : Fin 4 → Nat :=
  let c2_i32_164_r0 : BitVec 32 := 2#32
  let v196_r0 : BitVec 32 := Scalar.remui arg7_r0 c2_i32_164_r0
  let c0_i32_169_r0 : BitVec 32 := 0#32
  let c0_i32_170_r0 : BitVec 32 := 0#32
  let c0_i32_171_r0 : BitVec 32 := 0#32
  ![v196_r0.toNat, 0, 0, 0]

def k0_chk3 (arg7_r0 : BitVec 32) : Prop :=
  (∀ a, (k0_off24 arg7_r0) a + S1x2x512x4096.size a ≤ S2x2x512x4096.size a)
theorem k0_off24_inb : ∀ (arg7_r0 : BitVec 32) (k0_hw3 : k0_chk3 arg7_r0), ∀ a, (k0_off24 arg7_r0) a + S1x2x512x4096.size a ≤ S2x2x512x4096.size a := fun arg7_r0 k0_hw3 => k0_hw3

def k0_off25 (arg9_r0 : BitVec 32) : Fin 4 → Nat :=
  let c2_i32_165_r0 : BitVec 32 := 2#32
  let v197_r0 : BitVec 32 := Scalar.remui arg9_r0 c2_i32_165_r0
  let c0_i32_175_r0 : BitVec 32 := 0#32
  let c0_i32_176_r0 : BitVec 32 := 0#32
  let c0_i32_177_r0 : BitVec 32 := 0#32
  ![v197_r0.toNat, 0, 0, 0]

def k0_chk4 (arg9_r0 : BitVec 32) : Prop :=
  (∀ a, (k0_off25 arg9_r0) a + S1x1x8192x512.size a ≤ S2x1x8192x512.size a)
theorem k0_off25_inb : ∀ (arg9_r0 : BitVec 32) (k0_hw4 : k0_chk4 arg9_r0), ∀ a, (k0_off25 arg9_r0) a + S1x1x8192x512.size a ≤ S2x1x8192x512.size a := fun arg9_r0 k0_hw4 => k0_hw4

def k0_mult1 (arg16_r0 : BitVec 32) : BitVec 32 :=
  let c0_i32_108_r0 : BitVec 32 := 0#32
  let v103_r0 : BitVec 32 := Scalar.addi arg16_r0 c0_i32_108_r0
  let c512_i32_192_r0 : BitVec 32 := 512#32
  let v223_r0 : BitVec 32 := Scalar.muli v103_r0 c512_i32_192_r0
  v223_r0
def k0_off26 (arg13_r0 : BitVec 32) : Fin 3 → Nat :=
  let c2_i32_167_r0 : BitVec 32 := 2#32
  let v199_r0 : BitVec 32 := Scalar.remui arg13_r0 c2_i32_167_r0
  let c0_i32_193_r0 : BitVec 32 := 0#32
  let c0_i32_194_r0 : BitVec 32 := 0#32
  ![v199_r0.toNat, 0, 0]

def k0_chk5 (arg13_r0 : BitVec 32) : Prop :=
  (∀ a, (k0_off26 arg13_r0) a + S1x512x4096.size a ≤ S2x512x4096.size a)
theorem k0_off26_inb : ∀ (arg13_r0 : BitVec 32) (k0_hw5 : k0_chk5 arg13_r0), ∀ a, (k0_off26 arg13_r0) a + S1x512x4096.size a ≤ S2x512x4096.size a := fun arg13_r0 k0_hw5 => k0_hw5

def k0_off27 (arg16_r0 : BitVec 32) : Fin 2 → Nat :=
  let c0_195_r0 : Index := 0#32
  let c0_i32_108_r0 : BitVec 32 := 0#32
  let v103_r0 : BitVec 32 := Scalar.addi arg16_r0 c0_i32_108_r0
  let c512_i32_192_r0 : BitVec 32 := 512#32
  let v223_r0 : BitVec 32 := Scalar.muli v103_r0 c512_i32_192_r0
  let v224_r0 : BitVec 32 := v223_r0
  let v227_r0 : Index := Scalar.indexCast v224_r0
  ![0, v227_r0.toNat]
def k0_off28 (arg13_r0 : BitVec 32) : Fin 3 → Nat :=
  let c2_i32_167_r0 : BitVec 32 := 2#32
  let v199_r0 : BitVec 32 := Scalar.remui arg13_r0 c2_i32_167_r0
  let v309_r0 : Index := Scalar.indexCast v199_r0
  let c0_231_r0 : Index := 0#32
  let c0_232_r0 : Index := 0#32
  ![v309_r0.toNat, 0, 0]
def k0_cond8 (arg16_r0 : BitVec 32) : BitVec 1 :=
  let c0_i32_108_r0 : BitVec 32 := 0#32
  let v103_r0 : BitVec 32 := Scalar.addi arg16_r0 c0_i32_108_r0
  let c7_i32_196_r0 : BitVec 32 := 7#32
  let v229_r0 : BitVec 1 := Scalar.cmpi .eq v103_r0 c7_i32_196_r0
  let v230_r0 : BitVec 32 := Scalar.extui v229_r0
  let c0_i32_197_r0 : BitVec 32 := 0#32
  let v231_r0 : BitVec 1 := Scalar.cmpi .ne v230_r0 c0_i32_197_r0
  v231_r0

def k0_off29 (arg13_r0 : BitVec 32) : Fin 1 → Nat :=
  let c2_i32_231_r0 : BitVec 32 := 2#32
  let v309_r0 : BitVec 32 := Scalar.remui arg13_r0 c2_i32_231_r0
  ![v309_r0.toNat]
def k0_cond12 (k0_t1 : Fin k0_t1_loop.trips) (arg15_r0 : BitVec 32) (arg16_r0 : BitVec 32) : BitVec 1 :=
  let c0_i32_107_r0 : BitVec 32 := 0#32
  let v102_r0 : BitVec 32 := Scalar.addi arg15_r0 c0_i32_107_r0
  let true_119_r0 : BitVec 1 := 1#1
  let c1_i32_118_r0 : BitVec 32 := 1#32
  let v114_r0 : BitVec 32 := Scalar.addi arg16_r0 c1_i32_118_r0
  let v115_r0 : BitVec 32 := Scalar.select true_119_r0 v114_r0 arg16_r0
  let c8_i32_120_r0 : BitVec 32 := 8#32
  let v116_r0 : BitVec 1 := Scalar.cmpi .eq v115_r0 c8_i32_120_r0
  let c1_i32_122_r0 : BitVec 32 := 1#32
  let v118_r0 : BitVec 32 := Scalar.addi arg15_r0 c1_i32_122_r0
  let v119_r0 : BitVec 32 := Scalar.select v116_r0 v118_r0 arg15_r0
  let c16_i32_123_r0 : BitVec 32 := 16#32
  let v120_r0 : BitVec 1 := Scalar.cmpi .eq v119_r0 c16_i32_123_r0
  let c0_i32_124_r0 : BitVec 32 := 0#32
  let v121_r0 : BitVec 32 := Scalar.select v120_r0 c0_i32_124_r0 v119_r0
  let c0_i32_125_r0 : BitVec 32 := 0#32
  let v122_r0 : BitVec 32 := Scalar.addi v121_r0 c0_i32_125_r0
  let v249_r0 : BitVec 1 := Scalar.cmpi .ne v102_r0 v122_r0
  let c0_i32_63_r0 : BitVec 32 := 0#32
  let c1_i32_64_r0 : BitVec 32 := 1#32
  let arg5_r0 : BitVec 32 := Scf.iv c0_i32_63_r0 c1_i32_64_r0 k0_t1
  let c127_i32_r0 : BitVec 32 := 127#32
  let v101_r0 : BitVec 1 := Scalar.cmpi .eq arg5_r0 c127_i32_r0
  let v250_r0 : BitVec 1 := Scalar.ori v249_r0 v101_r0
  let v251_r0 : BitVec 32 := Scalar.extui v250_r0
  let c0_i32_203_r0 : BitVec 32 := 0#32
  let v252_r0 : BitVec 1 := Scalar.cmpi .ne v251_r0 c0_i32_203_r0
  v252_r0

def k0_off30 (arg15_r0 : BitVec 32) : Fin 2 → Nat :=
  let c512_i32_232_r0 : BitVec 32 := 512#32
  let c0_i32_107_r0 : BitVec 32 := 0#32
  let v102_r0 : BitVec 32 := Scalar.addi arg15_r0 c0_i32_107_r0
  let v310_r0 : BitVec 32 := Scalar.muli c512_i32_232_r0 v102_r0
  let c0_i32_233_r0 : BitVec 32 := 0#32
  ![v310_r0.toNat, 0]
def k0_off31 (arg13_r0 : BitVec 32) : Fin 3 → Nat :=
  let c2_i32_231_r0 : BitVec 32 := 2#32
  let v309_r0 : BitVec 32 := Scalar.remui arg13_r0 c2_i32_231_r0
  let c0_i32_234_r0 : BitVec 32 := 0#32
  let c0_i32_235_r0 : BitVec 32 := 0#32
  ![v309_r0.toNat, 0, 0]
def k0_off32 (arg14_r0 : BitVec 32) : Fin 1 → Nat :=
  let c2_i32_231_r0 : BitVec 32 := 2#32
  let v309_r0 : BitVec 32 := Scalar.remui arg14_r0 c2_i32_231_r0
  ![v309_r0.toNat]
def k0_cond16 (k0_t1 : Fin k0_t1_loop.trips) (arg15_r0 : BitVec 32) (arg16_r0 : BitVec 32) : BitVec 1 :=
  let c0_i32_107_r0 : BitVec 32 := 0#32
  let v102_r0 : BitVec 32 := Scalar.addi arg15_r0 c0_i32_107_r0
  let true_110_r0 : BitVec 1 := 1#1
  let c1_i32_109_r0 : BitVec 32 := 1#32
  let v104_r0 : BitVec 32 := Scalar.subi arg16_r0 c1_i32_109_r0
  let v105_r0 : BitVec 32 := Scalar.select true_110_r0 v104_r0 arg16_r0
  let c_m1_i32_111_r0 : BitVec 32 := 4294967295#32
  let v106_r0 : BitVec 1 := Scalar.cmpi .eq v105_r0 c_m1_i32_111_r0
  let c1_i32_113_r0 : BitVec 32 := 1#32
  let v108_r0 : BitVec 32 := Scalar.subi arg15_r0 c1_i32_113_r0
  let v109_r0 : BitVec 32 := Scalar.select v106_r0 v108_r0 arg15_r0
  let c_m1_i32_114_r0 : BitVec 32 := 4294967295#32
  let v110_r0 : BitVec 1 := Scalar.cmpi .eq v109_r0 c_m1_i32_114_r0
  let c15_i32_115_r0 : BitVec 32 := 15#32
  let v111_r0 : BitVec 32 := Scalar.select v110_r0 c15_i32_115_r0 v109_r0
  let c0_i32_116_r0 : BitVec 32 := 0#32
  let v112_r0 : BitVec 32 := Scalar.addi v111_r0 c0_i32_116_r0
  let v276_r0 : BitVec 1 := Scalar.cmpi .ne v102_r0 v112_r0
  let c0_i32_63_r0 : BitVec 32 := 0#32
  let c1_i32_64_r0 : BitVec 32 := 1#32
  let arg5_r0 : BitVec 32 := Scf.iv c0_i32_63_r0 c1_i32_64_r0 k0_t1
  let c0_i32_106_r0 : BitVec 32 := 0#32
  let v100_r0 : BitVec 1 := Scalar.cmpi .eq arg5_r0 c0_i32_106_r0
  let true_215_r0 : BitVec 1 := 1#1
  let v277_r0 : BitVec 1 := Scalar.xori v100_r0 true_215_r0
  let v278_r0 : BitVec 1 := Scalar.andi v276_r0 v277_r0
  let v279_r0 : BitVec 32 := Scalar.extui v278_r0
  let c0_i32_216_r0 : BitVec 32 := 0#32
  let v280_r0 : BitVec 1 := Scalar.cmpi .ne v279_r0 c0_i32_216_r0
  v280_r0

def k0_off33 (arg15_r0 : BitVec 32) (arg16_r0 : BitVec 32) : Fin 2 → Nat :=
  let c512_i32_232_r0 : BitVec 32 := 512#32
  let true_110_r0 : BitVec 1 := 1#1
  let c1_i32_109_r0 : BitVec 32 := 1#32
  let v104_r0 : BitVec 32 := Scalar.subi arg16_r0 c1_i32_109_r0
  let v105_r0 : BitVec 32 := Scalar.select true_110_r0 v104_r0 arg16_r0
  let c_m1_i32_111_r0 : BitVec 32 := 4294967295#32
  let v106_r0 : BitVec 1 := Scalar.cmpi .eq v105_r0 c_m1_i32_111_r0
  let c1_i32_113_r0 : BitVec 32 := 1#32
  let v108_r0 : BitVec 32 := Scalar.subi arg15_r0 c1_i32_113_r0
  let v109_r0 : BitVec 32 := Scalar.select v106_r0 v108_r0 arg15_r0
  let c_m1_i32_114_r0 : BitVec 32 := 4294967295#32
  let v110_r0 : BitVec 1 := Scalar.cmpi .eq v109_r0 c_m1_i32_114_r0
  let c15_i32_115_r0 : BitVec 32 := 15#32
  let v111_r0 : BitVec 32 := Scalar.select v110_r0 c15_i32_115_r0 v109_r0
  let c0_i32_116_r0 : BitVec 32 := 0#32
  let v112_r0 : BitVec 32 := Scalar.addi v111_r0 c0_i32_116_r0
  let v310_r0 : BitVec 32 := Scalar.muli c512_i32_232_r0 v112_r0
  let c0_i32_233_r0 : BitVec 32 := 0#32
  ![v310_r0.toNat, 0]
def k0_off34 (arg14_r0 : BitVec 32) : Fin 3 → Nat :=
  let c2_i32_231_r0 : BitVec 32 := 2#32
  let v309_r0 : BitVec 32 := Scalar.remui arg14_r0 c2_i32_231_r0
  let c0_i32_234_r0 : BitVec 32 := 0#32
  let c0_i32_235_r0 : BitVec 32 := 0#32
  ![v309_r0.toNat, 0, 0]

def k0_chk1_0 (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) : Prop :=
  (∀ (k0_h1 : k0_cond1 k0_t1 arg15_r0 arg16_r0 = 1#1), ∀ a, (k0_off5 arg6_r0) a + S1.size a ≤ S2.size a) ∧
  (∀ (k0_h1 : k0_cond1 k0_t1 arg15_r0 arg16_r0 = 1#1), ∀ a, (k0_off6 arg6_r0) a + S1x2x512x4096.size a ≤ S2x2x512x4096.size a) ∧
  (∀ (k0_h1 : k0_cond1 k0_t1 arg15_r0 arg16_r0 = 1#1), ∀ a, (k0_off7 arg15_r0 arg16_r0) a + S2x512x4096.size a ≤ S2x8192x4096.size a) ∧
  (∀ (k0_h1 : k0_cond1 k0_t1 arg15_r0 arg16_r0 = 1#1), ∀ (hinb : ∀ a, (k0_off7 arg15_r0 arg16_r0) a + S2x512x4096.size a ≤ S2x8192x4096.size a), (Rect.unit (s := S2x8192x4096) (k0_off7 arg15_r0 arg16_r0) S2x512x4096.size hinb).WholeWords (EltTy.packing .bf16)) ∧
  (∀ (k0_h1 : k0_cond1 k0_t1 arg15_r0 arg16_r0 = 1#1), ∀ (hinb : ∀ a, (k0_off6 arg6_r0) a + S1x2x512x4096.size a ≤ S2x2x512x4096.size a), (Rect.unit (s := S2x2x512x4096) (k0_off6 arg6_r0) S1x2x512x4096.size hinb).WholeWords (EltTy.packing .bf16)) ∧
  (∀ (k0_h2 : k0_cond2 k0_t1 arg16_r0 = 1#1), ∀ a, (k0_off8 arg8_r0) a + S1.size a ≤ S2.size a) ∧
  (∀ (k0_h2 : k0_cond2 k0_t1 arg16_r0 = 1#1), ∀ a, (k0_off9 arg8_r0) a + S1x1x8192x512.size a ≤ S2x1x8192x512.size a) ∧
  (∀ (k0_h2 : k0_cond2 k0_t1 arg16_r0 = 1#1), ∀ a, (k0_off10 arg16_r0) a + S1x8192x512.size a ≤ S8x8192x512.size a) ∧
  (∀ (k0_h2 : k0_cond2 k0_t1 arg16_r0 = 1#1), ∀ (hinb : ∀ a, (k0_off10 arg16_r0) a + S1x8192x512.size a ≤ S8x8192x512.size a), (Rect.unit (s := S8x8192x512) (k0_off10 arg16_r0) S1x8192x512.size hinb).WholeWords (EltTy.packing .bf16)) ∧
  (∀ (k0_h2 : k0_cond2 k0_t1 arg16_r0 = 1#1), ∀ (hinb : ∀ a, (k0_off9 arg8_r0) a + S1x1x8192x512.size a ≤ S2x1x8192x512.size a), (Rect.unit (s := S2x1x8192x512) (k0_off9 arg8_r0) S1x1x8192x512.size hinb).WholeWords (EltTy.packing .bf16)) ∧
  (∀ (k0_h3 : k0_cond3 k0_t1 arg15_r0 arg16_r0 = 1#1), ∀ a, (k0_off11 arg10_r0) a + S1.size a ≤ S2.size a) ∧
  (∀ (k0_h3 : k0_cond3 k0_t1 arg15_r0 arg16_r0 = 1#1), ∀ a, (k0_off12 arg10_r0) a + S1x512x512.size a ≤ S2x512x512.size a) ∧
  (∀ (k0_h3 : k0_cond3 k0_t1 arg15_r0 arg16_r0 = 1#1), ∀ a, (k0_off13 arg15_r0 arg16_r0) a + S512x512.size a ≤ S8192x4096.size a) ∧
  (∀ (k0_h4 : k0_cond4 k0_t1 arg15_r0 arg16_r0 = 1#1), ∀ a, (k0_off14 arg7_r0) a + S1.size a ≤ S2.size a) ∧
  (∀ (k0_h4 : k0_cond4 k0_t1 arg15_r0 arg16_r0 = 1#1), ∀ a, (k0_off15 arg7_r0) a + S1x2x512x4096.size a ≤ S2x2x512x4096.size a) ∧
  (∀ (k0_h4 : k0_cond4 k0_t1 arg15_r0 arg16_r0 = 1#1), ∀ a, (k0_off16 arg15_r0) a + S2x512x4096.size a ≤ S2x8192x4096.size a) ∧
  (∀ (k0_h4 : k0_cond4 k0_t1 arg15_r0 arg16_r0 = 1#1), ∀ (hinb : ∀ a, (k0_off16 arg15_r0) a + S2x512x4096.size a ≤ S2x8192x4096.size a), (Rect.unit (s := S2x8192x4096) (k0_off16 arg15_r0) S2x512x4096.size hinb).WholeWords (EltTy.packing .bf16)) ∧
  (∀ (k0_h4 : k0_cond4 k0_t1 arg15_r0 arg16_r0 = 1#1), ∀ (hinb : ∀ a, (k0_off15 arg7_r0) a + S1x2x512x4096.size a ≤ S2x2x512x4096.size a), (Rect.unit (s := S2x2x512x4096) (k0_off15 arg7_r0) S1x2x512x4096.size hinb).WholeWords (EltTy.packing .bf16)) ∧
  (∀ (k0_h5 : k0_cond5 k0_t1 arg16_r0 = 1#1), ∀ a, (k0_off17 arg9_r0) a + S1.size a ≤ S2.size a) ∧
  (∀ (k0_h5 : k0_cond5 k0_t1 arg16_r0 = 1#1), ∀ a, (k0_off18 arg9_r0) a + S1x1x8192x512.size a ≤ S2x1x8192x512.size a) ∧
  (∀ (k0_h5 : k0_cond5 k0_t1 arg16_r0 = 1#1), ∀ a, (k0_off19 arg16_r0) a + S1x8192x512.size a ≤ S8x8192x512.size a) ∧
  (∀ (k0_h5 : k0_cond5 k0_t1 arg16_r0 = 1#1), ∀ (hinb : ∀ a, (k0_off19 arg16_r0) a + S1x8192x512.size a ≤ S8x8192x512.size a), (Rect.unit (s := S8x8192x512) (k0_off19 arg16_r0) S1x8192x512.size hinb).WholeWords (EltTy.packing .bf16)) ∧
  (∀ (k0_h5 : k0_cond5 k0_t1 arg16_r0 = 1#1), ∀ (hinb : ∀ a, (k0_off18 arg9_r0) a + S1x1x8192x512.size a ≤ S2x1x8192x512.size a), (Rect.unit (s := S2x1x8192x512) (k0_off18 arg9_r0) S1x1x8192x512.size hinb).WholeWords (EltTy.packing .bf16)) ∧
  (∀ (k0_h6 : k0_cond6 k0_t1 arg15_r0 arg16_r0 = 1#1), ∀ a, (k0_off20 arg11_r0) a + S1.size a ≤ S2.size a) ∧
  (∀ (k0_h6 : k0_cond6 k0_t1 arg15_r0 arg16_r0 = 1#1), ∀ a, (k0_off21 arg11_r0) a + S1x512x512.size a ≤ S2x512x512.size a) ∧
  (∀ (k0_h6 : k0_cond6 k0_t1 arg15_r0 arg16_r0 = 1#1), ∀ a, (k0_off22 arg15_r0 arg16_r0) a + S512x512.size a ≤ S8192x4096.size a) ∧
  (512 ∣ (k0_mult1 arg16_r0).toNat) ∧
  (∀ a, (k0_off27 arg16_r0) a + S512x512.size a ≤ S512x4096.size a) ∧
  (∀ (k0_h8 : k0_cond8 arg16_r0 = 1#1), ∀ a, (k0_off28 arg13_r0) a + S1x512x4096.size a ≤ S2x512x4096.size a) ∧
  (∀ (k0_h12 : k0_cond12 k0_t1 arg15_r0 arg16_r0 = 1#1), ∀ a, (k0_off29 arg13_r0) a + S1.size a ≤ S2.size a) ∧
  (∀ (k0_h12 : k0_cond12 k0_t1 arg15_r0 arg16_r0 = 1#1), ∀ a, (k0_off30 arg15_r0) a + S512x4096.size a ≤ S8192x4096.size a) ∧
  (∀ (k0_h12 : k0_cond12 k0_t1 arg15_r0 arg16_r0 = 1#1), ∀ a, (k0_off31 arg13_r0) a + S1x512x4096.size a ≤ S2x512x4096.size a)
def k0_chk1_1 (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) : Prop :=
  (∀ (k0_h16 : k0_cond16 k0_t1 arg15_r0 arg16_r0 = 1#1), ∀ a, (k0_off32 arg14_r0) a + S1.size a ≤ S2.size a) ∧
  (∀ (k0_h16 : k0_cond16 k0_t1 arg15_r0 arg16_r0 = 1#1), ∀ a, (k0_off33 arg15_r0 arg16_r0) a + S512x4096.size a ≤ S8192x4096.size a) ∧
  (∀ (k0_h16 : k0_cond16 k0_t1 arg15_r0 arg16_r0 = 1#1), ∀ a, (k0_off34 arg14_r0) a + S1x512x4096.size a ≤ S2x512x4096.size a)
def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) : Prop :=
  k0_chk1_0 k0_t1 arg6_r0 arg7_r0 arg8_r0 arg9_r0 arg10_r0 arg11_r0 arg13_r0 arg14_r0 arg15_r0 arg16_r0 ∧
  k0_chk1_1 k0_t1 arg6_r0 arg7_r0 arg8_r0 arg9_r0 arg10_r0 arg11_r0 arg13_r0 arg14_r0 arg15_r0 arg16_r0
theorem k0_off5_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h1 : k0_cond1 k0_t1 arg15_r0 arg16_r0 = 1#1), ∀ a, (k0_off5 arg6_r0) a + S1.size a ≤ S2.size a := fun k0_t1 arg6_r0 arg7_r0 arg8_r0 arg9_r0 arg10_r0 arg11_r0 arg13_r0 arg14_r0 arg15_r0 arg16_r0 k0_hw1 k0_h1 => k0_hw1.1.1 k0_h1
theorem k0_off6_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h1 : k0_cond1 k0_t1 arg15_r0 arg16_r0 = 1#1), ∀ a, (k0_off6 arg6_r0) a + S1x2x512x4096.size a ≤ S2x2x512x4096.size a := fun k0_t1 arg6_r0 arg7_r0 arg8_r0 arg9_r0 arg10_r0 arg11_r0 arg13_r0 arg14_r0 arg15_r0 arg16_r0 k0_hw1 k0_h1 => k0_hw1.1.2.1 k0_h1
theorem k0_off7_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h1 : k0_cond1 k0_t1 arg15_r0 arg16_r0 = 1#1), ∀ a, (k0_off7 arg15_r0 arg16_r0) a + S2x512x4096.size a ≤ S2x8192x4096.size a := fun k0_t1 arg6_r0 arg7_r0 arg8_r0 arg9_r0 arg10_r0 arg11_r0 arg13_r0 arg14_r0 arg15_r0 arg16_r0 k0_hw1 k0_h1 => k0_hw1.1.2.2.1 k0_h1
theorem k0_off7_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h1 : k0_cond1 k0_t1 arg15_r0 arg16_r0 = 1#1), (Rect.unit (s := S2x8192x4096) (k0_off7 arg15_r0 arg16_r0) S2x512x4096.size (k0_off7_inb k0_t1 arg6_r0 arg7_r0 arg8_r0 arg9_r0 arg10_r0 arg11_r0 arg13_r0 arg14_r0 arg15_r0 arg16_r0 k0_hw1 k0_h1)).WholeWords (EltTy.packing .bf16) := fun k0_t1 arg6_r0 arg7_r0 arg8_r0 arg9_r0 arg10_r0 arg11_r0 arg13_r0 arg14_r0 arg15_r0 arg16_r0 k0_hw1 k0_h1 => k0_hw1.1.2.2.2.1 k0_h1 (k0_off7_inb k0_t1 arg6_r0 arg7_r0 arg8_r0 arg9_r0 arg10_r0 arg11_r0 arg13_r0 arg14_r0 arg15_r0 arg16_r0 k0_hw1 k0_h1)
theorem k0_off6_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h1 : k0_cond1 k0_t1 arg15_r0 arg16_r0 = 1#1), (Rect.unit (s := S2x2x512x4096) (k0_off6 arg6_r0) S1x2x512x4096.size (k0_off6_inb k0_t1 arg6_r0 arg7_r0 arg8_r0 arg9_r0 arg10_r0 arg11_r0 arg13_r0 arg14_r0 arg15_r0 arg16_r0 k0_hw1 k0_h1)).WholeWords (EltTy.packing .bf16) := fun k0_t1 arg6_r0 arg7_r0 arg8_r0 arg9_r0 arg10_r0 arg11_r0 arg13_r0 arg14_r0 arg15_r0 arg16_r0 k0_hw1 k0_h1 => k0_hw1.1.2.2.2.2.1 k0_h1 (k0_off6_inb k0_t1 arg6_r0 arg7_r0 arg8_r0 arg9_r0 arg10_r0 arg11_r0 arg13_r0 arg14_r0 arg15_r0 arg16_r0 k0_hw1 k0_h1)
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h2 : k0_cond2 k0_t1 arg16_r0 = 1#1), ∀ a, (k0_off8 arg8_r0) a + S1.size a ≤ S2.size a := fun k0_t1 arg6_r0 arg7_r0 arg8_r0 arg9_r0 arg10_r0 arg11_r0 arg13_r0 arg14_r0 arg15_r0 arg16_r0 k0_hw1 k0_h2 => k0_hw1.1.2.2.2.2.2.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h2 : k0_cond2 k0_t1 arg16_r0 = 1#1), ∀ a, (k0_off9 arg8_r0) a + S1x1x8192x512.size a ≤ S2x1x8192x512.size a := fun k0_t1 arg6_r0 arg7_r0 arg8_r0 arg9_r0 arg10_r0 arg11_r0 arg13_r0 arg14_r0 arg15_r0 arg16_r0 k0_hw1 k0_h2 => k0_hw1.1.2.2.2.2.2.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h2 : k0_cond2 k0_t1 arg16_r0 = 1#1), ∀ a, (k0_off10 arg16_r0) a + S1x8192x512.size a ≤ S8x8192x512.size a := fun k0_t1 arg6_r0 arg7_r0 arg8_r0 arg9_r0 arg10_r0 arg11_r0 arg13_r0 arg14_r0 arg15_r0 arg16_r0 k0_hw1 k0_h2 => k0_hw1.1.2.2.2.2.2.2.2.1 k0_h2
theorem k0_off10_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h2 : k0_cond2 k0_t1 arg16_r0 = 1#1), (Rect.unit (s := S8x8192x512) (k0_off10 arg16_r0) S1x8192x512.size (k0_off10_inb k0_t1 arg6_r0 arg7_r0 arg8_r0 arg9_r0 arg10_r0 arg11_r0 arg13_r0 arg14_r0 arg15_r0 arg16_r0 k0_hw1 k0_h2)).WholeWords (EltTy.packing .bf16) := fun k0_t1 arg6_r0 arg7_r0 arg8_r0 arg9_r0 arg10_r0 arg11_r0 arg13_r0 arg14_r0 arg15_r0 arg16_r0 k0_hw1 k0_h2 => k0_hw1.1.2.2.2.2.2.2.2.2.1 k0_h2 (k0_off10_inb k0_t1 arg6_r0 arg7_r0 arg8_r0 arg9_r0 arg10_r0 arg11_r0 arg13_r0 arg14_r0 arg15_r0 arg16_r0 k0_hw1 k0_h2)
theorem k0_off9_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h2 : k0_cond2 k0_t1 arg16_r0 = 1#1), (Rect.unit (s := S2x1x8192x512) (k0_off9 arg8_r0) S1x1x8192x512.size (k0_off9_inb k0_t1 arg6_r0 arg7_r0 arg8_r0 arg9_r0 arg10_r0 arg11_r0 arg13_r0 arg14_r0 arg15_r0 arg16_r0 k0_hw1 k0_h2)).WholeWords (EltTy.packing .bf16) := fun k0_t1 arg6_r0 arg7_r0 arg8_r0 arg9_r0 arg10_r0 arg11_r0 arg13_r0 arg14_r0 arg15_r0 arg16_r0 k0_hw1 k0_h2 => k0_hw1.1.2.2.2.2.2.2.2.2.2.1 k0_h2 (k0_off9_inb k0_t1 arg6_r0 arg7_r0 arg8_r0 arg9_r0 arg10_r0 arg11_r0 arg13_r0 arg14_r0 arg15_r0 arg16_r0 k0_hw1 k0_h2)
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h3 : k0_cond3 k0_t1 arg15_r0 arg16_r0 = 1#1), ∀ a, (k0_off11 arg10_r0) a + S1.size a ≤ S2.size a := fun k0_t1 arg6_r0 arg7_r0 arg8_r0 arg9_r0 arg10_r0 arg11_r0 arg13_r0 arg14_r0 arg15_r0 arg16_r0 k0_hw1 k0_h3 => k0_hw1.1.2.2.2.2.2.2.2.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h3 : k0_cond3 k0_t1 arg15_r0 arg16_r0 = 1#1), ∀ a, (k0_off12 arg10_r0) a + S1x512x512.size a ≤ S2x512x512.size a := fun k0_t1 arg6_r0 arg7_r0 arg8_r0 arg9_r0 arg10_r0 arg11_r0 arg13_r0 arg14_r0 arg15_r0 arg16_r0 k0_hw1 k0_h3 => k0_hw1.1.2.2.2.2.2.2.2.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h3 : k0_cond3 k0_t1 arg15_r0 arg16_r0 = 1#1), ∀ a, (k0_off13 arg15_r0 arg16_r0) a + S512x512.size a ≤ S8192x4096.size a := fun k0_t1 arg6_r0 arg7_r0 arg8_r0 arg9_r0 arg10_r0 arg11_r0 arg13_r0 arg14_r0 arg15_r0 arg16_r0 k0_hw1 k0_h3 => k0_hw1.1.2.2.2.2.2.2.2.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h4 : k0_cond4 k0_t1 arg15_r0 arg16_r0 = 1#1), ∀ a, (k0_off14 arg7_r0) a + S1.size a ≤ S2.size a := fun k0_t1 arg6_r0 arg7_r0 arg8_r0 arg9_r0 arg10_r0 arg11_r0 arg13_r0 arg14_r0 arg15_r0 arg16_r0 k0_hw1 k0_h4 => k0_hw1.1.2.2.2.2.2.2.2.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h4 : k0_cond4 k0_t1 arg15_r0 arg16_r0 = 1#1), ∀ a, (k0_off15 arg7_r0) a + S1x2x512x4096.size a ≤ S2x2x512x4096.size a := fun k0_t1 arg6_r0 arg7_r0 arg8_r0 arg9_r0 arg10_r0 arg11_r0 arg13_r0 arg14_r0 arg15_r0 arg16_r0 k0_hw1 k0_h4 => k0_hw1.1.2.2.2.2.2.2.2.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h4 : k0_cond4 k0_t1 arg15_r0 arg16_r0 = 1#1), ∀ a, (k0_off16 arg15_r0) a + S2x512x4096.size a ≤ S2x8192x4096.size a := fun k0_t1 arg6_r0 arg7_r0 arg8_r0 arg9_r0 arg10_r0 arg11_r0 arg13_r0 arg14_r0 arg15_r0 arg16_r0 k0_hw1 k0_h4 => k0_hw1.1.2.2.2.2.2.2.2.2.2.2.2.2.2.2.2.1 k0_h4
theorem k0_off16_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h4 : k0_cond4 k0_t1 arg15_r0 arg16_r0 = 1#1), (Rect.unit (s := S2x8192x4096) (k0_off16 arg15_r0) S2x512x4096.size (k0_off16_inb k0_t1 arg6_r0 arg7_r0 arg8_r0 arg9_r0 arg10_r0 arg11_r0 arg13_r0 arg14_r0 arg15_r0 arg16_r0 k0_hw1 k0_h4)).WholeWords (EltTy.packing .bf16) := fun k0_t1 arg6_r0 arg7_r0 arg8_r0 arg9_r0 arg10_r0 arg11_r0 arg13_r0 arg14_r0 arg15_r0 arg16_r0 k0_hw1 k0_h4 => k0_hw1.1.2.2.2.2.2.2.2.2.2.2.2.2.2.2.2.2.1 k0_h4 (k0_off16_inb k0_t1 arg6_r0 arg7_r0 arg8_r0 arg9_r0 arg10_r0 arg11_r0 arg13_r0 arg14_r0 arg15_r0 arg16_r0 k0_hw1 k0_h4)
theorem k0_off15_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h4 : k0_cond4 k0_t1 arg15_r0 arg16_r0 = 1#1), (Rect.unit (s := S2x2x512x4096) (k0_off15 arg7_r0) S1x2x512x4096.size (k0_off15_inb k0_t1 arg6_r0 arg7_r0 arg8_r0 arg9_r0 arg10_r0 arg11_r0 arg13_r0 arg14_r0 arg15_r0 arg16_r0 k0_hw1 k0_h4)).WholeWords (EltTy.packing .bf16) := fun k0_t1 arg6_r0 arg7_r0 arg8_r0 arg9_r0 arg10_r0 arg11_r0 arg13_r0 arg14_r0 arg15_r0 arg16_r0 k0_hw1 k0_h4 => k0_hw1.1.2.2.2.2.2.2.2.2.2.2.2.2.2.2.2.2.2.1 k0_h4 (k0_off15_inb k0_t1 arg6_r0 arg7_r0 arg8_r0 arg9_r0 arg10_r0 arg11_r0 arg13_r0 arg14_r0 arg15_r0 arg16_r0 k0_hw1 k0_h4)
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h5 : k0_cond5 k0_t1 arg16_r0 = 1#1), ∀ a, (k0_off17 arg9_r0) a + S1.size a ≤ S2.size a := fun k0_t1 arg6_r0 arg7_r0 arg8_r0 arg9_r0 arg10_r0 arg11_r0 arg13_r0 arg14_r0 arg15_r0 arg16_r0 k0_hw1 k0_h5 => k0_hw1.1.2.2.2.2.2.2.2.2.2.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h5 : k0_cond5 k0_t1 arg16_r0 = 1#1), ∀ a, (k0_off18 arg9_r0) a + S1x1x8192x512.size a ≤ S2x1x8192x512.size a := fun k0_t1 arg6_r0 arg7_r0 arg8_r0 arg9_r0 arg10_r0 arg11_r0 arg13_r0 arg14_r0 arg15_r0 arg16_r0 k0_hw1 k0_h5 => k0_hw1.1.2.2.2.2.2.2.2.2.2.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h5 : k0_cond5 k0_t1 arg16_r0 = 1#1), ∀ a, (k0_off19 arg16_r0) a + S1x8192x512.size a ≤ S8x8192x512.size a := fun k0_t1 arg6_r0 arg7_r0 arg8_r0 arg9_r0 arg10_r0 arg11_r0 arg13_r0 arg14_r0 arg15_r0 arg16_r0 k0_hw1 k0_h5 => k0_hw1.1.2.2.2.2.2.2.2.2.2.2.2.2.2.2.2.2.2.2.2.2.1 k0_h5
theorem k0_off19_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h5 : k0_cond5 k0_t1 arg16_r0 = 1#1), (Rect.unit (s := S8x8192x512) (k0_off19 arg16_r0) S1x8192x512.size (k0_off19_inb k0_t1 arg6_r0 arg7_r0 arg8_r0 arg9_r0 arg10_r0 arg11_r0 arg13_r0 arg14_r0 arg15_r0 arg16_r0 k0_hw1 k0_h5)).WholeWords (EltTy.packing .bf16) := fun k0_t1 arg6_r0 arg7_r0 arg8_r0 arg9_r0 arg10_r0 arg11_r0 arg13_r0 arg14_r0 arg15_r0 arg16_r0 k0_hw1 k0_h5 => k0_hw1.1.2.2.2.2.2.2.2.2.2.2.2.2.2.2.2.2.2.2.2.2.2.1 k0_h5 (k0_off19_inb k0_t1 arg6_r0 arg7_r0 arg8_r0 arg9_r0 arg10_r0 arg11_r0 arg13_r0 arg14_r0 arg15_r0 arg16_r0 k0_hw1 k0_h5)
theorem k0_off18_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h5 : k0_cond5 k0_t1 arg16_r0 = 1#1), (Rect.unit (s := S2x1x8192x512) (k0_off18 arg9_r0) S1x1x8192x512.size (k0_off18_inb k0_t1 arg6_r0 arg7_r0 arg8_r0 arg9_r0 arg10_r0 arg11_r0 arg13_r0 arg14_r0 arg15_r0 arg16_r0 k0_hw1 k0_h5)).WholeWords (EltTy.packing .bf16) := fun k0_t1 arg6_r0 arg7_r0 arg8_r0 arg9_r0 arg10_r0 arg11_r0 arg13_r0 arg14_r0 arg15_r0 arg16_r0 k0_hw1 k0_h5 => k0_hw1.1.2.2.2.2.2.2.2.2.2.2.2.2.2.2.2.2.2.2.2.2.2.2.1 k0_h5 (k0_off18_inb k0_t1 arg6_r0 arg7_r0 arg8_r0 arg9_r0 arg10_r0 arg11_r0 arg13_r0 arg14_r0 arg15_r0 arg16_r0 k0_hw1 k0_h5)
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h6 : k0_cond6 k0_t1 arg15_r0 arg16_r0 = 1#1), ∀ a, (k0_off20 arg11_r0) a + S1.size a ≤ S2.size a := fun k0_t1 arg6_r0 arg7_r0 arg8_r0 arg9_r0 arg10_r0 arg11_r0 arg13_r0 arg14_r0 arg15_r0 arg16_r0 k0_hw1 k0_h6 => k0_hw1.1.2.2.2.2.2.2.2.2.2.2.2.2.2.2.2.2.2.2.2.2.2.2.2.1 k0_h6
theorem k0_off21_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h6 : k0_cond6 k0_t1 arg15_r0 arg16_r0 = 1#1), ∀ a, (k0_off21 arg11_r0) a + S1x512x512.size a ≤ S2x512x512.size a := fun k0_t1 arg6_r0 arg7_r0 arg8_r0 arg9_r0 arg10_r0 arg11_r0 arg13_r0 arg14_r0 arg15_r0 arg16_r0 k0_hw1 k0_h6 => k0_hw1.1.2.2.2.2.2.2.2.2.2.2.2.2.2.2.2.2.2.2.2.2.2.2.2.2.1 k0_h6
theorem k0_off22_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h6 : k0_cond6 k0_t1 arg15_r0 arg16_r0 = 1#1), ∀ a, (k0_off22 arg15_r0 arg16_r0) a + S512x512.size a ≤ S8192x4096.size a := fun k0_t1 arg6_r0 arg7_r0 arg8_r0 arg9_r0 arg10_r0 arg11_r0 arg13_r0 arg14_r0 arg15_r0 arg16_r0 k0_hw1 k0_h6 => k0_hw1.1.2.2.2.2.2.2.2.2.2.2.2.2.2.2.2.2.2.2.2.2.2.2.2.2.2.1 k0_h6
theorem k0_mult1_dvd : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), 512 ∣ (k0_mult1 arg16_r0).toNat := fun k0_t1 arg6_r0 arg7_r0 arg8_r0 arg9_r0 arg10_r0 arg11_r0 arg13_r0 arg14_r0 arg15_r0 arg16_r0 k0_hw1 => k0_hw1.1.2.2.2.2.2.2.2.2.2.2.2.2.2.2.2.2.2.2.2.2.2.2.2.2.2.2.1
theorem k0_off27_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ a, (k0_off27 arg16_r0) a + S512x512.size a ≤ S512x4096.size a := fun k0_t1 arg6_r0 arg7_r0 arg8_r0 arg9_r0 arg10_r0 arg11_r0 arg13_r0 arg14_r0 arg15_r0 arg16_r0 k0_hw1 => k0_hw1.1.2.2.2.2.2.2.2.2.2.2.2.2.2.2.2.2.2.2.2.2.2.2.2.2.2.2.2.1
theorem k0_off28_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h8 : k0_cond8 arg16_r0 = 1#1), ∀ a, (k0_off28 arg13_r0) a + S1x512x4096.size a ≤ S2x512x4096.size a := fun k0_t1 arg6_r0 arg7_r0 arg8_r0 arg9_r0 arg10_r0 arg11_r0 arg13_r0 arg14_r0 arg15_r0 arg16_r0 k0_hw1 k0_h8 => k0_hw1.1.2.2.2.2.2.2.2.2.2.2.2.2.2.2.2.2.2.2.2.2.2.2.2.2.2.2.2.2.1 k0_h8
theorem k0_off29_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h12 : k0_cond12 k0_t1 arg15_r0 arg16_r0 = 1#1), ∀ a, (k0_off29 arg13_r0) a + S1.size a ≤ S2.size a := fun k0_t1 arg6_r0 arg7_r0 arg8_r0 arg9_r0 arg10_r0 arg11_r0 arg13_r0 arg14_r0 arg15_r0 arg16_r0 k0_hw1 k0_h12 => k0_hw1.1.2.2.2.2.2.2.2.2.2.2.2.2.2.2.2.2.2.2.2.2.2.2.2.2.2.2.2.2.2.1 k0_h12
theorem k0_off30_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h12 : k0_cond12 k0_t1 arg15_r0 arg16_r0 = 1#1), ∀ a, (k0_off30 arg15_r0) a + S512x4096.size a ≤ S8192x4096.size a := fun k0_t1 arg6_r0 arg7_r0 arg8_r0 arg9_r0 arg10_r0 arg11_r0 arg13_r0 arg14_r0 arg15_r0 arg16_r0 k0_hw1 k0_h12 => k0_hw1.1.2.2.2.2.2.2.2.2.2.2.2.2.2.2.2.2.2.2.2.2.2.2.2.2.2.2.2.2.2.2.1 k0_h12
theorem k0_off31_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h12 : k0_cond12 k0_t1 arg15_r0 arg16_r0 = 1#1), ∀ a, (k0_off31 arg13_r0) a + S1x512x4096.size a ≤ S2x512x4096.size a := fun k0_t1 arg6_r0 arg7_r0 arg8_r0 arg9_r0 arg10_r0 arg11_r0 arg13_r0 arg14_r0 arg15_r0 arg16_r0 k0_hw1 k0_h12 => k0_hw1.1.2.2.2.2.2.2.2.2.2.2.2.2.2.2.2.2.2.2.2.2.2.2.2.2.2.2.2.2.2.2.2 k0_h12
theorem k0_off32_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h16 : k0_cond16 k0_t1 arg15_r0 arg16_r0 = 1#1), ∀ a, (k0_off32 arg14_r0) a + S1.size a ≤ S2.size a := fun k0_t1 arg6_r0 arg7_r0 arg8_r0 arg9_r0 arg10_r0 arg11_r0 arg13_r0 arg14_r0 arg15_r0 arg16_r0 k0_hw1 k0_h16 => k0_hw1.2.1 k0_h16
theorem k0_off33_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h16 : k0_cond16 k0_t1 arg15_r0 arg16_r0 = 1#1), ∀ a, (k0_off33 arg15_r0 arg16_r0) a + S512x4096.size a ≤ S8192x4096.size a := fun k0_t1 arg6_r0 arg7_r0 arg8_r0 arg9_r0 arg10_r0 arg11_r0 arg13_r0 arg14_r0 arg15_r0 arg16_r0 k0_hw1 k0_h16 => k0_hw1.2.2.1 k0_h16
theorem k0_off34_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg13_r0 arg14_r0 arg15_r0 arg16_r0), ∀ (k0_h16 : k0_cond16 k0_t1 arg15_r0 arg16_r0 = 1#1), ∀ a, (k0_off34 arg14_r0) a + S1x512x4096.size a ≤ S2x512x4096.size a := fun k0_t1 arg6_r0 arg7_r0 arg8_r0 arg9_r0 arg10_r0 arg11_r0 arg13_r0 arg14_r0 arg15_r0 arg16_r0 k0_hw1 k0_h16 => k0_hw1.2.2.2 k0_h16

def k0_off35 (v52_8_r0 : BitVec 32) : Fin 1 → Nat :=
  let c2_i32_102_r0 : BitVec 32 := 2#32
  let v93_r0 : BitVec 32 := Scalar.remui v52_8_r0 c2_i32_102_r0
  ![v93_r0.toNat]

def k0_off36 (v52_10_r0 : BitVec 32) (v52_9_r0 : BitVec 32) : Fin 2 → Nat :=
  let c512_i32_r0 : BitVec 32 := 512#32
  let true_67_r0 : BitVec 1 := 1#1
  let c1_i32_66_r0 : BitVec 32 := 1#32
  let v53_r0 : BitVec 32 := Scalar.subi v52_10_r0 c1_i32_66_r0
  let v54_r0 : BitVec 32 := Scalar.select true_67_r0 v53_r0 v52_10_r0
  let c_m1_i32_68_r0 : BitVec 32 := 4294967295#32
  let v55_r0 : BitVec 1 := Scalar.cmpi .eq v54_r0 c_m1_i32_68_r0
  let c1_i32_70_r0 : BitVec 32 := 1#32
  let v57_r0 : BitVec 32 := Scalar.subi v52_9_r0 c1_i32_70_r0
  let v58_r0 : BitVec 32 := Scalar.select v55_r0 v57_r0 v52_9_r0
  let c_m1_i32_71_r0 : BitVec 32 := 4294967295#32
  let v59_r0 : BitVec 1 := Scalar.cmpi .eq v58_r0 c_m1_i32_71_r0
  let c15_i32_72_r0 : BitVec 32 := 15#32
  let v60_r0 : BitVec 32 := Scalar.select v59_r0 c15_i32_72_r0 v58_r0
  let c0_i32_73_r0 : BitVec 32 := 0#32
  let v61_r0 : BitVec 32 := Scalar.addi v60_r0 c0_i32_73_r0
  let v94_r0 : BitVec 32 := Scalar.muli c512_i32_r0 v61_r0
  let c0_i32_103_r0 : BitVec 32 := 0#32
  ![v94_r0.toNat, 0]

def k0_chk7 (v52_10_r0 : BitVec 32) (v52_9_r0 : BitVec 32) : Prop :=
  (∀ a, (k0_off36 v52_10_r0 v52_9_r0) a + S512x4096.size a ≤ S8192x4096.size a)
theorem k0_off36_inb : ∀ (v52_10_r0 : BitVec 32) (v52_9_r0 : BitVec 32) (k0_hw7 : k0_chk7 v52_10_r0 v52_9_r0), ∀ a, (k0_off36 v52_10_r0 v52_9_r0) a + S512x4096.size a ≤ S8192x4096.size a := fun v52_10_r0 v52_9_r0 k0_hw7 => k0_hw7

def k0_off37 (v52_8_r0 : BitVec 32) : Fin 3 → Nat :=
  let c2_i32_102_r0 : BitVec 32 := 2#32
  let v93_r0 : BitVec 32 := Scalar.remui v52_8_r0 c2_i32_102_r0
  let c0_i32_104_r0 : BitVec 32 := 0#32
  let c0_i32_105_r0 : BitVec 32 := 0#32
  ![v93_r0.toNat, 0, 0]

def k0_chk6 (v52_8_r0 : BitVec 32) : Prop :=
  (∀ a, (k0_off35 v52_8_r0) a + S1.size a ≤ S2.size a) ∧
  (∀ a, (k0_off37 v52_8_r0) a + S1x512x4096.size a ≤ S2x512x4096.size a)
theorem k0_off35_inb : ∀ (v52_8_r0 : BitVec 32) (k0_hw6 : k0_chk6 v52_8_r0), ∀ a, (k0_off35 v52_8_r0) a + S1.size a ≤ S2.size a := fun v52_8_r0 k0_hw6 => k0_hw6.1
theorem k0_off37_inb : ∀ (v52_8_r0 : BitVec 32) (k0_hw6 : k0_chk6 v52_8_r0), ∀ a, (k0_off37 v52_8_r0) a + S1x512x4096.size a ≤ S2x512x4096.size a := fun v52_8_r0 k0_hw6 => k0_hw6.2
-- ==== ReferenceIdeal.lean ====
abbrev S8192x8192 : Shape := ⟨2, ![8192, 8192]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S4096, .f32⟩
  | .hbm, ⟨4, _⟩ => ⟨S8192x8192, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel2.lean ====
abbrev S8192x4096 : Shape := ⟨2, ![8192, 4096]⟩
abbrev S4096 : Shape := ⟨1, ![4096]⟩
abbrev S4096x20480 : Shape := ⟨2, ![4096, 20480]⟩
abbrev S4096x4096 : Shape := ⟨2, ![4096, 4096]⟩
abbrev S1x4096 : Shape := ⟨2, ![1, 4096]⟩
abbrev S8192x128 : Shape := ⟨2, ![8192, 128]⟩
abbrev S16x4096x1024 : Shape := ⟨3, ![16, 4096, 1024]⟩
abbrev S128x4096 : Shape := ⟨2, ![128, 4096]⟩
abbrev S4096x512 : Shape := ⟨2, ![4096, 512]⟩
abbrev S1024x256 : Shape := ⟨2, ![1024, 256]⟩
abbrev S1024x512 : Shape := ⟨2, ![1024, 512]⟩
abbrev S1024x128 : Shape := ⟨2, ![1024, 128]⟩
abbrev S1x1024x1024 : Shape := ⟨3, ![1, 1024, 1024]⟩
abbrev S1024x4096 : Shape := ⟨2, ![1024, 4096]⟩
abbrev S128 : Shape := ⟨1, ![128]⟩
abbrev S128x1 : Shape := ⟨2, ![128, 1]⟩
abbrev S256x1024 : Shape := ⟨2, ![256, 1024]⟩
abbrev S256x512 : Shape := ⟨2, ![256, 512]⟩
abbrev S1x1024x256 : Shape := ⟨3, ![1, 1024, 256]⟩
abbrev S256x128 : Shape := ⟨2, ![256, 128]⟩
abbrev S1024 : Shape := ⟨1, ![1024]⟩
abbrev S1024x1 : Shape := ⟨2, ![1024, 1]⟩

abbrev nBuf : Space → Nat
  | .hbm => 11
  | .vmem => 27
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x20480, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S8192x4096, .bf16⟩
  | .hbm, ⟨7, _⟩ => ⟨S8192x4096, .bf16⟩
  | .hbm, ⟨8, _⟩ => ⟨S8192x128, .f32⟩
  | .hbm, ⟨9, _⟩ => ⟨S8192x128, .f32⟩
  | .hbm, ⟨10, _⟩ => ⟨S16x4096x1024, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S128x4096, .bf16⟩
  | .local _ .vmem, ⟨14, _⟩ => ⟨S128x4096, .bf16⟩
  | .local _ .vmem, ⟨15, _⟩ => ⟨S1024x512, .bf16⟩
  | .local _ .vmem, ⟨16, _⟩ => ⟨S1024x512, .bf16⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1x1024x1024, .bf16⟩
  | .local _ .vmem, ⟨22, _⟩ => ⟨S1x1024x1024, .bf16⟩
  | .local _ .vmem, ⟨23, _⟩ => ⟨S1024x4096, .bf16⟩
  | .local _ .vmem, ⟨24, _⟩ => ⟨S1024x4096, .bf16⟩
  | .local _ .vmem, ⟨25, _⟩ => ⟨S1024x128, .f32⟩
  | .local _ .vmem, ⟨26, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c128_i32 : BitVec 32 := 128#32
  let v23 : BitVec 32 := Scalar.muli arg1 c128_i32
  v23
def k0_off1 (i : grid0.Coords) : Fin 2 → Nat :=
  let arg1 : BitVec 32 := BitVec.ofNat 32 (i 1).val
  let c128_i32 : BitVec 32 := 128#32
  let v23 : BitVec 32 := Scalar.muli arg1 c128_i32
  let v24 : BitVec 32 := v23
  let v25 : Index := Scalar.indexCast v24
  let c0_10 : Index := 0#32
  ![v25.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_mult2 (i : grid0.Coords) : BitVec 32 :=
  let arg1 : BitVec 32 := BitVec.ofNat 32 (i 1).val
  let c128_i32 : BitVec 32 := 128#32
  let v30 : BitVec 32 := Scalar.muli arg1 c128_i32
  v30
def k0_off2 (i : grid0.Coords) : Fin 2 → Nat :=
  let arg1 : BitVec 32 := BitVec.ofNat 32 (i 1).val
  let c128_i32 : BitVec 32 := 128#32
  let v30 : BitVec 32 := Scalar.muli arg1 c128_i32
  let v31 : BitVec 32 := v30
  let v32 : Index := Scalar.indexCast v31
  let c0_17 : Index := 0#32
  ![v32.toNat, 0]
def k0_cond4 (i : grid0.Coords) : BitVec 1 :=
  let arg1 : BitVec 32 := BitVec.ofNat 32 (i 1).val
  let c7_i32 : BitVec 32 := 7#32
  let v268 : BitVec 1 := Scalar.cmpi .eq arg1 c7_i32
  let v269 : BitVec 32 := Scalar.extui v268
  let c0_i32_159 : BitVec 32 := 0#32
  let v270 : BitVec 1 := Scalar.cmpi .ne v269 c0_i32_159
  v270

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c4_i32 : BitVec 32 := 4#32
  let c0_i32_1 : BitVec 32 := 0#32
  let v5 : BitVec 1 := Scalar.cmpi .eq c4_i32 c0_i32_1
  let c1_i32_2 : BitVec 32 := 1#32
  let v6 : BitVec 32 := Scalar.select v5 c1_i32_2 c4_i32
  let v7 : BitVec 32 := Scalar.remsi v4 v6
  let c0_i32_3 : BitVec 32 := 0#32
  let v8 : BitVec 1 := Scalar.cmpi .ne v7 c0_i32_3
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq arg0 c0_i32_6
  let c1_i32_7 : BitVec 32 := 1#32
  let v16 : BitVec 32 := Scalar.subi arg0 c1_i32_7
  let c8_i32_8 : BitVec 32 := 8#32
  let v17 : BitVec 32 := Scalar.muli v16 c8_i32_8
  let v18 : BitVec 32 := Scalar.addi v17 arg1
  let c0_i32_9 : BitVec 32 := 0#32
  let v19 : BitVec 32 := Scalar.select v15 c0_i32_9 v18
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c0_i32_17 : BitVec 32 := 0#32
  let v37 : BitVec 32 := Scalar.addi c0_i32_17 v36
  let c0_i32_18 : BitVec 32 := 0#32
  ![v14.toNat, v37.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c4_i32 : BitVec 32 := 4#32
  let c0_i32_1 : BitVec 32 := 0#32
  let v5 : BitVec 1 := Scalar.cmpi .eq c4_i32 c0_i32_1
  let c1_i32_2 : BitVec 32 := 1#32
  let v6 : BitVec 32 := Scalar.select v5 c1_i32_2 c4_i32
  let v7 : BitVec 32 := Scalar.remsi v4 v6
  let c0_i32_3 : BitVec 32 := 0#32
  let v8 : BitVec 1 := Scalar.cmpi .ne v7 c0_i32_3
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq arg0 c0_i32_6
  let c1_i32_7 : BitVec 32 := 1#32
  let v16 : BitVec 32 := Scalar.subi arg0 c1_i32_7
  let c8_i32_8 : BitVec 32 := 8#32
  let v17 : BitVec 32 := Scalar.muli v16 c8_i32_8
  let v18 : BitVec 32 := Scalar.addi v17 arg1
  let c0_i32_9 : BitVec 32 := 0#32
  let v19 : BitVec 32 := Scalar.select v15 c0_i32_9 v18
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c16_i32 : BitVec 32 := 16#32
  let v37 : BitVec 32 := Scalar.addi c16_i32 v36
  let c0_i32_17 : BitVec 32 := 0#32
  ![v14.toNat, v37.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c4_i32 : BitVec 32 := 4#32
  let c0_i32_1 : BitVec 32 := 0#32
  let v5 : BitVec 1 := Scalar.cmpi .eq c4_i32 c0_i32_1
  let c1_i32_2 : BitVec 32 := 1#32
  let v6 : BitVec 32 := Scalar.select v5 c1_i32_2 c4_i32
  let v7 : BitVec 32 := Scalar.remsi v4 v6
  let c0_i32_3 : BitVec 32 := 0#32
  let v8 : BitVec 1 := Scalar.cmpi .ne v7 c0_i32_3
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq arg0 c0_i32_6
  let c1_i32_7 : BitVec 32 := 1#32
  let v16 : BitVec 32 := Scalar.subi arg0 c1_i32_7
  let c8_i32_8 : BitVec 32 := 8#32
  let v17 : BitVec 32 := Scalar.muli v16 c8_i32_8
  let v18 : BitVec 32 := Scalar.addi v17 arg1
  let c0_i32_9 : BitVec 32 := 0#32
  let v19 : BitVec 32 := Scalar.select v15 c0_i32_9 v18
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c32_i32 : BitVec 32 := 32#32
  let v37 : BitVec 32 := Scalar.addi c32_i32 v36
  let c0_i32_17 : BitVec 32 := 0#32
  ![v14.toNat, v37.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c4_i32 : BitVec 32 := 4#32
  let c0_i32_1 : BitVec 32 := 0#32
  let v5 : BitVec 1 := Scalar.cmpi .eq c4_i32 c0_i32_1
  let c1_i32_2 : BitVec 32 := 1#32
  let v6 : BitVec 32 := Scalar.select v5 c1_i32_2 c4_i32
  let v7 : BitVec 32 := Scalar.remsi v4 v6
  let c0_i32_3 : BitVec 32 := 0#32
  let v8 : BitVec 1 := Scalar.cmpi .ne v7 c0_i32_3
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq arg0 c0_i32_6
  let c1_i32_7 : BitVec 32 := 1#32
  let v16 : BitVec 32 := Scalar.subi arg0 c1_i32_7
  let c8_i32_8 : BitVec 32 := 8#32
  let v17 : BitVec 32 := Scalar.muli v16 c8_i32_8
  let v18 : BitVec 32 := Scalar.addi v17 arg1
  let c0_i32_9 : BitVec 32 := 0#32
  let v19 : BitVec 32 := Scalar.select v15 c0_i32_9 v18
  let c4_i32_10 : BitVec 32 := 4#32
  let v20 : BitVec 32 := Scalar.divsi v19 c4_i32_10
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c0_i32_13 : BitVec 32 := 0#32
  let v26 : BitVec 1 := Scalar.cmpi .sgt c4_i32_10 c0_i32_13
  let v27 : BitVec 32 := Scalar.extui v26
  let c0_i32_14 : BitVec 32 := 0#32
  let v28 : BitVec 1 := Scalar.cmpi .slt c4_i32_10 c0_i32_14
  let v29 : BitVec 32 := Scalar.extui v28
  let v30 : BitVec 32 := Scalar.subi v27 v29
  let v31 : BitVec 1 := Scalar.cmpi .ne v25 v30
  let v32 : BitVec 32 := Scalar.remsi v19 c4_i32_10
  let c0_i32_15 : BitVec 32 := 0#32
  let v33 : BitVec 1 := Scalar.cmpi .ne v32 c0_i32_15
  let v34 : BitVec 1 := Scalar.andi v31 v33
  let c1_i32_16 : BitVec 32 := 1#32
  let v35 : BitVec 32 := Scalar.subi v20 c1_i32_16
  let v36 : BitVec 32 := Scalar.select v34 v35 v20
  let c64_i32 : BitVec 32 := 64#32
  let v37 : BitVec 32 := Scalar.addi c64_i32 v36
  let c0_i32_17 : BitVec 32 := 0#32
  ![v14.toNat, v37.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c4_i32 : BitVec 32 := 4#32
  let v5 : BitVec 32 := Scalar.divsi v4 c4_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c4_i32 c0_i32_3
  let v12 : BitVec 32 := Scalar.extui v11
  let c0_i32_4 : BitVec 32 := 0#32
  let v13 : BitVec 1 := Scalar.cmpi .slt c4_i32 c0_i32_4
  let v14 : BitVec 32 := Scalar.extui v13
  let v15 : BitVec 32 := Scalar.subi v12 v14
  let v16 : BitVec 1 := Scalar.cmpi .ne v10 v15
  let v17 : BitVec 32 := Scalar.remsi v4 c4_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c0_i32_7 : BitVec 32 := 0#32
  let v22 : BitVec 1 := Scalar.cmpi .eq arg0 c0_i32_7
  let c1_i32_8 : BitVec 32 := 1#32
  let v23 : BitVec 32 := Scalar.subi arg0 c1_i32_8
  let c8_i32_9 : BitVec 32 := 8#32
  let v24 : BitVec 32 := Scalar.muli v23 c8_i32_9
  let v25 : BitVec 32 := Scalar.addi v24 arg1
  let c0_i32_10 : BitVec 32 := 0#32
  let v26 : BitVec 32 := Scalar.select v22 c0_i32_10 v25
  let c4_i32_11 : BitVec 32 := 4#32
  let c0_i32_12 : BitVec 32 := 0#32
  let v27 : BitVec 1 := Scalar.cmpi .eq c4_i32_11 c0_i32_12
  let c1_i32_13 : BitVec 32 := 1#32
  let v28 : BitVec 32 := Scalar.select v27 c1_i32_13 c4_i32_11
  let v29 : BitVec 32 := Scalar.remsi v26 v28
  let c0_i32_14 : BitVec 32 := 0#32
  let v30 : BitVec 1 := Scalar.cmpi .ne v29 c0_i32_14
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let v34 : BitVec 1 := Scalar.andi v33 v30
  let v35 : BitVec 32 := Scalar.addi v29 v28
  let v36 : BitVec 32 := Scalar.select v34 v35 v29
  let c0_i32_17 : BitVec 32 := 0#32
  let c0_i32_18 : BitVec 32 := 0#32
  ![v21.toNat, v36.toNat, c0_i32_17.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8192x4096 : Shape := ⟨2, ![8192, 4096]⟩
abbrev S4096 : Shape := ⟨1, ![4096]⟩
abbrev S4096x20480 : Shape := ⟨2, ![4096, 20480]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x4096 : Shape := ⟨2, ![4096, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x20480, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S4096x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | .hbm, ⟨33, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S8192x4096 : Shape := ⟨2, ![8192, 4096]⟩
abbrev S4096x20480 : Shape := ⟨2, ![4096, 20480]⟩
abbrev S8192 : Shape := ⟨1, ![8192]⟩
abbrev S4x4096 : Shape := ⟨2, ![4, 4096]⟩
abbrev S4096 : Shape := ⟨1, ![4096]⟩
abbrev S16x256x256 : Shape := ⟨3, ![16, 256, 256]⟩
abbrev S16x256 : Shape := ⟨2, ![16, 256]⟩
abbrev S16x128x128 : Shape := ⟨3, ![16, 128, 128]⟩
abbrev S16x128 : Shape := ⟨2, ![16, 128]⟩
abbrev S4096x5x16x256 : Shape := ⟨4, ![4096, 5, 16, 256]⟩
abbrev S4096x1x16x256 : Shape := ⟨4, ![4096, 1, 16, 256]⟩
abbrev S4096x16x256 : Shape := ⟨3, ![4096, 16, 256]⟩
abbrev S4096x16x1024 : Shape := ⟨3, ![4096, 16, 1024]⟩
abbrev S16x4096x1024 : Shape := ⟨3, ![16, 4096, 1024]⟩
abbrev S8192x1 : Shape := ⟨2, ![8192, 1]⟩
abbrev S8192x128 : Shape := ⟨2, ![8192, 128]⟩
abbrev S1x4096 : Shape := ⟨2, ![1, 4096]⟩
abbrev S16x1x256 : Shape := ⟨3, ![16, 1, 256]⟩
abbrev S16x128x1 : Shape := ⟨3, ![16, 128, 1]⟩
abbrev S2x8192x4096 : Shape := ⟨3, ![2, 8192, 4096]⟩
abbrev S8x8192x512 : Shape := ⟨3, ![8, 8192, 512]⟩
abbrev S1024x4096 : Shape := ⟨2, ![1024, 4096]⟩
abbrev S1x4096x512 : Shape := ⟨3, ![1, 4096, 512]⟩
abbrev S1024x256 : Shape := ⟨2, ![1024, 256]⟩
abbrev S1024x128 : Shape := ⟨2, ![1024, 128]⟩
abbrev S4x256 : Shape := ⟨2, ![4, 256]⟩
abbrev S1x256 : Shape := ⟨2, ![1, 256]⟩
abbrev S1x256x256 : Shape := ⟨3, ![1, 256, 256]⟩
abbrev S1x1x256 : Shape := ⟨3, ![1, 1, 256]⟩
abbrev S1x128x128 : Shape := ⟨3, ![1, 128, 128]⟩
abbrev S1x128x1 : Shape := ⟨3, ![1, 128, 1]⟩
abbrev S512x512 : Shape := ⟨2, ![512, 512]⟩
abbrev S2x1024x256 : Shape := ⟨3, ![2, 1024, 256]⟩
abbrev S1x512x512 : Shape := ⟨3, ![1, 512, 512]⟩
abbrev S16x8x256 : Shape := ⟨3, ![16, 8, 256]⟩
abbrev S2x320x128 : Shape := ⟨3, ![2, 320, 128]⟩
abbrev S8x256 : Shape := ⟨2, ![8, 256]⟩
abbrev S1x8x256 : Shape := ⟨3, ![1, 8, 256]⟩
abbrev S256x256 : Shape := ⟨2, ![256, 256]⟩
abbrev S256x512 : Shape := ⟨2, ![256, 512]⟩
abbrev S128x128 : Shape := ⟨2, ![128, 128]⟩
abbrev S128x1 : Shape := ⟨2, ![128, 1]⟩
abbrev S256x1024 : Shape := ⟨2, ![256, 1024]⟩
abbrev S1x1024x512 : Shape := ⟨3, ![1, 1024, 512]⟩
abbrev S1024x512 : Shape := ⟨2, ![1024, 512]⟩
abbrev S264x256 : Shape := ⟨2, ![264, 256]⟩
abbrev S256x1 : Shape := ⟨2, ![256, 1]⟩
abbrev S128x256 : Shape := ⟨2, ![128, 256]⟩
abbrev S128x512 : Shape := ⟨2, ![128, 512]⟩
abbrev S32x128 : Shape := ⟨2, ![32, 128]⟩
abbrev S1x32x128 : Shape := ⟨3, ![1, 32, 128]⟩
abbrev S1x8x128 : Shape := ⟨3, ![1, 8, 128]⟩
abbrev S8x128 : Shape := ⟨2, ![8, 128]⟩
abbrev S32x256 : Shape := ⟨2, ![32, 256]⟩
abbrev S1x8192x4096 : Shape := ⟨3, ![1, 8192, 4096]⟩

abbrev nBuf : Space → Nat
  | .hbm => 44
  | .vmem => 44
  | .smem => 0
  | _ => 0

abbrev bufTy : (tb : Table) → Fin (tcTables nBuf tb) → BufTy
  | .hbm, ⟨0, _⟩ => ⟨S8192x4096, .bf16⟩
  | .hbm, ⟨1, _⟩ => ⟨S4096x20480, .f32⟩
  | .hbm, ⟨2, _⟩ => ⟨S8192x4096, .bf16⟩
  | .hbm, ⟨3, _⟩ => ⟨S8192, .f32⟩
  | .hbm, ⟨4, _⟩ => ⟨S8192, .f32⟩
  | .hbm, ⟨5, _⟩ => ⟨S4x4096, .f32⟩
  | .hbm, ⟨6, _⟩ => ⟨S4096, .f32⟩
  | .hbm, ⟨7, _⟩ => ⟨S16x256x256, .f32⟩
  | .hbm, ⟨8, _⟩ => ⟨S16x256, .f32⟩
  | .hbm, ⟨9, _⟩ => ⟨S16x256x256, .f32⟩
  | .hbm, ⟨10, _⟩ => ⟨S16x256, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S16x128x128, .f32⟩
  | .hbm, ⟨15, _⟩ => ⟨S16x128, .f32⟩
  | .hbm, ⟨16, _⟩ => ⟨S8192x4096, .f32⟩
  | .hbm, ⟨17, _⟩ => ⟨S4096x20480, .bf16⟩
  | .hbm, ⟨18, _⟩ => ⟨S4096x5x16x256, .bf16⟩
  | .hbm, ⟨19, _⟩ => ⟨S4096x1x16x256, .bf16⟩
  | .hbm, ⟨20, _⟩ => ⟨S4096x16x256, .bf16⟩
  | .hbm, ⟨21, _⟩ => ⟨S4096x1x16x256, .bf16⟩
  | .hbm, ⟨22, _⟩ => ⟨S4096x16x256, .bf16⟩
  | .hbm, ⟨23, _⟩ => ⟨S4096x1x16x256, .bf16⟩
  | .hbm, ⟨24, _⟩ => ⟨S4096x16x256, .bf16⟩
  | .hbm, ⟨25, _⟩ => ⟨S4096x1x16x256, .bf16⟩
  | .hbm, ⟨26, _⟩ => ⟨S4096x16x256, .bf16⟩
  | .hbm, ⟨27, _⟩ => ⟨S4096x16x1024, .bf16⟩
  | .hbm, ⟨28, _⟩ => ⟨S16x4096x1024, .bf16⟩
  | .hbm, ⟨29, _⟩ => ⟨S8192x1, .f32⟩
  | .hbm, ⟨30, _⟩ => ⟨S8192x128, .f32⟩
  | .hbm, ⟨31, _⟩ => ⟨S8192x1, .f32⟩
  | .hbm, ⟨32, _⟩ => ⟨S8192x128, .f32⟩
  | .hbm, ⟨33, _⟩ => ⟨S1x4096, .f32⟩
  | .hbm, ⟨34, _⟩ => ⟨S16x1x256, .f32⟩
  | .hbm, ⟨35, _⟩ => ⟨S16x1x256, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S16x128x1, .f32⟩
  | .hbm, ⟨40, _⟩ => ⟨S2x8192x4096, .bf16⟩
  | .hbm, ⟨41, _⟩ => ⟨S8x8192x512, .bf16⟩
  | .hbm, ⟨42, _⟩ => ⟨S1x8192x4096, .bf16⟩
  | .hbm, ⟨43, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S4x256, .f32⟩
  | .local _ .vmem, ⟨13, _⟩ => ⟨S4x256, .f32⟩
  | .local _ .vmem, ⟨14, _⟩ => ⟨S1x256, .f32⟩
  | .local _ .vmem, ⟨15, _⟩ => ⟨S1x256, .f32⟩
  | .local _ .vmem, ⟨16, _⟩ => ⟨S1x256x256, .f32⟩
  | .local _ .vmem, ⟨17, _⟩ => ⟨S1x256x256, .f32⟩
  | .local _ .vmem, ⟨18, _⟩ => ⟨S1x1x256, .f32⟩
  | .local _ .vmem, ⟨19, _⟩ => ⟨S1x1x256, .f32⟩
  | .local _ .vmem, ⟨20, _⟩ => ⟨S1x256x256, .f32⟩
  | .local _ .vmem, ⟨21, _⟩ => ⟨S1x256x256, .f32⟩
  | .local _ .vmem, ⟨22, _⟩ => ⟨S1x1x256, .f32⟩
  | .local _ .vmem, ⟨23, _⟩ => ⟨S1x1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x128x128, .f32⟩
  | .local _ .vmem, ⟨31, _⟩ => ⟨S1x128x128, .f32⟩
  | .local _ .vmem, ⟨32, _⟩ => ⟨S1x128x1, .f32⟩
  | .local _ .vmem, ⟨33, _⟩ => ⟨S1x128x1, .f32⟩
  | .local _ .vmem, ⟨34, _⟩ => ⟨S512x512, .f32⟩
  | .local _ .vmem, ⟨35, _⟩ => ⟨S512x512, .f32⟩
  | .local _ .vmem, ⟨36, _⟩ => ⟨S2x1024x256, .bf16⟩
  | .local _ .vmem, ⟨37, _⟩ => ⟨S2x1024x256, .bf16⟩
  | .local _ .vmem, ⟨38, _⟩ => ⟨S1x512x512, .bf16⟩
  | .local _ .vmem, ⟨39, _⟩ => ⟨S1x512x512, .bf16⟩
  | .local _ .vmem, ⟨40, _⟩ => ⟨S16x8x256, .f32⟩
  | .local _ .vmem, ⟨41, _⟩ => ⟨S16x8x256, .f32⟩
  | .local _ .vmem, ⟨42, _⟩ => ⟨S2x320x128, .f32⟩
  | .local _ .vmem, ⟨43, _⟩ => ⟨S2x320x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_4 : BitVec 32 := 0#32
  let v7 : BitVec 1 := Scalar.cmpi .ne v6 c0_i32_4
  v7

def k0_off1 (i : grid0.Coords) : Fin 3 → Nat :=
  let arg1 : BitVec 32 := BitVec.ofNat 32 (i 1).val
  let v4979 : Index := Scalar.indexCast arg1
  let c0_4125 : Index := 0#32
  let c0_4126 : Index := 0#32
  ![v4979.toNat, 0, 0]
def k0_off2 (i : grid0.Coords) : Fin 3 → Nat :=
  let arg1 : BitVec 32 := BitVec.ofNat 32 (i 1).val
  let v97 : Index := Scalar.indexCast arg1
  let c0_46 : Index := 0#32
  let c0_47 : Index := 0#32
  ![v97.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg1.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  let v2 : BitVec 1 := Scalar.cmpi .eq c16_i32_0 c0_i32
  let c1_i32 : BitVec 32 := 1#32
  let v3 : BitVec 32 := Scalar.select v2 c1_i32 c16_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c16_i32_4 : BitVec 32 := 16#32
  let v12 : BitVec 32 := Scalar.muli arg0 c16_i32_4
  let v13 : BitVec 32 := Scalar.addi v12 arg1
  let c16_i32_5 : BitVec 32 := 16#32
  let v14 : BitVec 32 := Scalar.divsi v13 c16_i32_5
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c0_i32_8 : BitVec 32 := 0#32
  let v20 : BitVec 1 := Scalar.cmpi .sgt c16_i32_5 c0_i32_8
  let v21 : BitVec 32 := Scalar.extui v20
  let c0_i32_9 : BitVec 32 := 0#32
  let v22 : BitVec 1 := Scalar.cmpi .slt c16_i32_5 c0_i32_9
  let v23 : BitVec 32 := Scalar.extui v22
  let v24 : BitVec 32 := Scalar.subi v21 v23
  let v25 : BitVec 1 := Scalar.cmpi .ne v19 v24
  let v26 : BitVec 32 := Scalar.remsi v13 c16_i32_5
  let c0_i32_10 : BitVec 32 := 0#32
  let v27 : BitVec 1 := Scalar.cmpi .ne v26 c0_i32_10
  let v28 : BitVec 1 := Scalar.andi v25 v27
  let c1_i32_11 : BitVec 32 := 1#32
  let v29 : BitVec 32 := Scalar.subi v14 c1_i32_11
  let v30 : BitVec 32 := Scalar.select v28 v29 v14
  let c0_i32_12 : BitVec 32 := 0#32
  ![v11.toNat, v30.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_19 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.divsi v1 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32_0 c0_i32_2
  let v9 : BitVec 32 := Scalar.extui v8
  let c0_i32_3 : BitVec 32 := 0#32
  let v10 : BitVec 1 := Scalar.cmpi .slt c16_i32_0 c0_i32_3
  let v11 : BitVec 32 := Scalar.extui v10
  let v12 : BitVec 32 := Scalar.subi v9 v11
  let v13 : BitVec 1 := Scalar.cmpi .ne v7 v12
  let v14 : BitVec 32 := Scalar.remsi v1 c16_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let v19 : BitVec 32 := Scalar.muli arg0 c16_i32_5
  let v20 : BitVec 32 := Scalar.addi v19 arg1
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x128x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S8192x4096 : Shape := ⟨2, ![8192, 4096]⟩
abbrev S4096x20480 : Shape := ⟨2, ![4096, 20480]⟩
abbrev S8192 : Shape := ⟨1, ![8192]⟩
abbrev S4x4096 : Shape := ⟨2, ![4, 4096]⟩
abbrev S4096 : Shape := ⟨1, ![4096]⟩
abbrev S16x256x256 : Shape := ⟨3, ![16, 256, 256]⟩
abbrev S16x256 : Shape := ⟨2, ![16, 256]⟩
abbrev S16x128x128 : Shape := ⟨3, ![16, 128, 128]⟩
abbrev S16x128 : Shape := ⟨2, ![16, 128]⟩
abbrev S8192x20480 : Shape := ⟨2, ![8192, 20480]⟩
abbrev S8192x1 : Shape := ⟨2, ![8192, 1]⟩
abbrev S1x4096 : Shape := ⟨2, ![1, 4096]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S64x128x16x256 : Shape := ⟨4, ![64, 128, 16, 256]⟩
abbrev S16x64x256x128 : Shape := ⟨4, ![16, 64, 256, 128]⟩
abbrev S128x16 : Shape := ⟨2, ![128, 16]⟩
abbrev S1x128x16x1 : Shape := ⟨4, ![1, 128, 16, 1]⟩

abbrev nBuf : Space → Nat
  | .hbm => 90
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x20480, .f32⟩
  | .hbm, ⟨2, _⟩ => ⟨S8192x4096, .bf16⟩
  | .hbm, ⟨3, _⟩ => ⟨S8192, .f32⟩
  | .hbm, ⟨4, _⟩ => ⟨S8192, .f32⟩
  | .hbm, ⟨5, _⟩ => ⟨S4x4096, .f32⟩
  | .hbm, ⟨6, _⟩ => ⟨S4096, .f32⟩
  | .hbm, ⟨7, _⟩ => ⟨S16x256x256, .f32⟩
  | .hbm, ⟨8, _⟩ => ⟨S16x256, .f32⟩
  | .hbm, ⟨9, _⟩ => ⟨S16x256x256, .f32⟩
  | .hbm, ⟨10, _⟩ => ⟨S16x256, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S16x128x128, .f32⟩
  | .hbm, ⟨15, _⟩ => ⟨S16x128, .f32⟩
  | .hbm, ⟨16, _⟩ => ⟨S8192x4096, .f32⟩
  | .hbm, ⟨17, _⟩ => ⟨S8192x4096, .f32⟩
  | .hbm, ⟨18, _⟩ => ⟨S8192x20480, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S128, .i32⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S1x128, .i32⟩
  | .hbm, ⟨54, _⟩ => ⟨S128x1, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S128x128, .f32⟩
  | .hbm, ⟨59, _⟩ => ⟨S1x128x128, .f32⟩
  | .hbm, ⟨60, _⟩ => ⟨S16x128x128, .f32⟩
  | .hbm, ⟨61, _⟩ => ⟨S16x128x128, .f32⟩
  | .hbm, ⟨62, _⟩ => ⟨S64x128x16x256, .f32⟩
  | .hbm, ⟨63, _⟩ => ⟨S16x64x256x128, .f32⟩
  | .hbm, ⟨64, _⟩ => ⟨S64x128x16x256, .f32⟩
  | .hbm, ⟨65, _⟩ => ⟨S128x16, .f32⟩
  | .hbm, ⟨66, _⟩ => ⟨S1x128x16x1, .f32⟩
  | .hbm, ⟨67, _⟩ => ⟨S64x128x16x256, .f32⟩
  | .hbm, ⟨68, _⟩ => ⟨S64x128x16x256, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S_, .f32⟩
  | .hbm, ⟨73, _⟩ => ⟨S8192x4096, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S_, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S8192x4096, .f32⟩
  | .hbm, ⟨89, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst : Ref sig .tc := ⟨.hbm, 69, rfl⟩
abbrev main_v35 : Ref sig .tc := ⟨.hbm, 70, rfl⟩
abbrev main_v36 : Ref sig .tc := ⟨.hbm, 71, rfl⟩
abbrev main_cst_0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_1 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_2 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩

abbrev nD : Nat := 1
abbrev τ : Topo := Topo.v7x

variable {F : FTy → Type} [FloatOps F]
-- ==== Proof.Words.lean ====
/-
  The words the loop of `cc0_out_proj` carries, in closed form: before trip `k` of 128 the row block is `k / 8`, the
  slab `k % 8`, and each copy counter a function of `k`. Every guard, offset and side condition of a trip is decided
  at the 128 literal trips.
-/
module

public import proofs.«01_k».proof.Proof.Gen.KernelIdeal.Loops
public import proofs.«01_k».proof.Proof.Gen.KernelIdeal.Launch
public import Idealize.ShloMosaic.Lib.Ring.Trips

@[expose] public section

set_option maxRecDepth 100000

noncomputable section

namespace Cert.OutProj

open Cert.KernelIdeal Cert.KernelIdeal.Gen
open Idealize.ShloMosaic Idealize.SL.Sem

abbrev Trip : Type := Fin k0_t1_loop.trips

theorem trips_eq : k0_t1_loop.trips = 128 := by decide

/-- The copy counters, block numbers and step numbers before trip `k`. -/
def w6 (k : ℕ) : BitVec 32 := BitVec.ofNat 32 (min (k / 8 + 1) 16)
def w7 (k : ℕ) : BitVec 32 := BitVec.ofNat 32 (k / 8)
def w8 (k : ℕ) : BitVec 32 := BitVec.ofNat 32 (min (k + 1) 128)
def w9 (k : ℕ) : BitVec 32 := BitVec.ofNat 32 k
def w12 (k : ℕ) : BitVec 32 := BitVec.ofNat 32 (k / 128)
def w14 (k : ℕ) : BitVec 32 := BitVec.ofNat 32 ((k - 1) / 8)
def w15 (k : ℕ) : BitVec 32 := BitVec.ofNat 32 (k / 8 % 16)
def w16 (k : ℕ) : BitVec 32 := BitVec.ofNat 32 (k % 8)

/-- What the loop carries into trip `k`. -/
def words (k : ℕ) : BitVec 32 × BitVec 32 × BitVec 32 × BitVec 32 × BitVec 32 × BitVec 32 × BitVec 32 × BitVec 32 × BitVec 32 × BitVec 32 × BitVec 32 :=
  (w6 k, w7 k, w8 k, w9 k, w8 k, w9 k, w12 k, w7 k, w14 k, w15 k, w16 k)

/-- A fact of every trip, from the 128 literal ones. -/
theorem forall_trip {P : ℕ → Prop} (h : ∀ k : Fin 128, P k.val) (k : Trip) : P k.val := h (k.cast trips_eq)

theorem chk1 : ∀ k : Trip, k0_chk1 k (w6 k) (w7 k) (w8 k) (w9 k) (w8 k) (w9 k) (w7 k) (w14 k) (w15 k) (w16 k) := by decide +kernel
theorem chk2 : ∀ k : Trip, k0_chk2 (w9 k) := by decide +kernel
theorem chk3 : ∀ k : Trip, k0_chk3 (w7 k) := by decide +kernel
theorem chk4 : ∀ k : Trip, k0_chk4 (w9 k) := by decide +kernel
theorem chk5 : ∀ k : Trip, k0_chk5 (w7 k) := by decide +kernel
theorem chk6 : k0_chk6 (w14 128) := by decide +kernel
theorem chk7 : k0_chk7 (w16 128) (w15 128) := by decide +kernel

theorem cond1 : ∀ k : Trip, k0_cond1 k (w15 k) (w16 k) = 1#1 ↔ k.val % 8 = 7 ∧ k.val < 127 := by decide +kernel
theorem cond2 : ∀ k : Trip, k0_cond2 k (w16 k) = 1#1 ↔ k.val < 127 := by decide +kernel
theorem cond3 : ∀ k : Trip, k0_cond3 k (w15 k) (w16 k) = 1#1 ↔ k.val < 127 := by decide +kernel
theorem cond4 : ∀ k : Trip, k0_cond4 k (w15 k) (w16 k) = 1#1 ↔ k.val % 8 = 0 := by decide +kernel
theorem cond5 : ∀ k : Trip, k0_cond5 k (w16 k) = 1#1 := by decide +kernel
theorem cond6 : ∀ k : Trip, k0_cond6 k (w15 k) (w16 k) = 1#1 := by decide +kernel
theorem cond8 : ∀ k : Trip, k0_cond8 (w16 k) = 1#1 ↔ k.val % 8 = 7 := by decide +kernel
theorem cond12 : ∀ k : Trip, k0_cond12 k (w15 k) (w16 k) = 1#1 ↔ k.val % 8 = 7 := by decide +kernel
theorem cond16 : ∀ k : Trip, k0_cond16 k (w15 k) (w16 k) = 1#1 ↔ k.val % 8 = 0 ∧ 0 < k.val := by decide +kernel

/-! ## The offsets -/

theorem off5 : ∀ k : Trip, k.val % 8 = 7 → k.val < 127 → k0_off5 (w6 k) = ![(k.val / 8 + 1) % 2] := by decide +kernel
theorem off6 : ∀ k : Trip, k.val % 8 = 7 → k.val < 127 → k0_off6 (w6 k) = ![(k.val / 8 + 1) % 2, 0, 0, 0] := by decide +kernel
theorem off7 : ∀ k : Trip, k.val % 8 = 7 → k.val < 127 → k0_off7 (w15 k) (w16 k) = ![0, 512 * (k.val / 8 + 1), 0] := by decide +kernel
theorem off8 : ∀ k : Trip, k.val < 127 → k0_off8 (w8 k) = ![(k.val + 1) % 2] := by decide +kernel
theorem off9 : ∀ k : Trip, k.val < 127 → k0_off9 (w8 k) = ![(k.val + 1) % 2, 0, 0, 0] := by decide +kernel
theorem off10 : ∀ k : Trip, k0_off10 (w16 k) = ![(k.val + 1) % 8, 0, 0] := by decide +kernel
theorem off11 : ∀ k : Trip, k.val < 127 → k0_off11 (w8 k) = ![(k.val + 1) % 2] := by decide +kernel
theorem off12 : ∀ k : Trip, k.val < 127 → k0_off12 (w8 k) = ![(k.val + 1) % 2, 0, 0] := by decide +kernel
theorem off13 : ∀ k : Trip, k.val < 127 → k0_off13 (w15 k) (w16 k) = ![512 * ((k.val + 1) / 8), 512 * ((k.val + 1) % 8)] := by decide +kernel
theorem off14 : ∀ k : Trip, k0_off14 (w7 k) = ![k.val / 8 % 2] := by decide +kernel
theorem off15 : ∀ k : Trip, k0_off15 (w7 k) = ![k.val / 8 % 2, 0, 0, 0] := by decide +kernel
theorem off16 : ∀ k : Trip, k0_off16 (w15 k) = ![0, 512 * (k.val / 8), 0] := by decide +kernel
theorem off17 : ∀ k : Trip, k0_off17 (w9 k) = ![k.val % 2] := by decide +kernel
theorem off18 : ∀ k : Trip, k0_off18 (w9 k) = ![k.val % 2, 0, 0, 0] := by decide +kernel
theorem off19 : ∀ k : Trip, k0_off19 (w16 k) = ![k.val % 8, 0, 0] := by decide +kernel
theorem off20 : ∀ k : Trip, k0_off20 (w9 k) = ![k.val % 2] := by decide +kernel
theorem off21 : ∀ k : Trip, k0_off21 (w9 k) = ![k.val % 2, 0, 0] := by decide +kernel
theorem off22 : ∀ k : Trip, k0_off22 (w15 k) (w16 k) = ![512 * (k.val / 8), 512 * (k.val % 8)] := by decide +kernel
theorem off23 : ∀ k : Trip, k0_off23 (w9 k) = ![k.val % 2, 0, 0] := by decide +kernel
theorem off24 : ∀ k : Trip, k0_off24 (w7 k) = ![k.val / 8 % 2, 0, 0, 0] := by decide +kernel
theorem off25 : ∀ k : Trip, k0_off25 (w9 k) = ![k.val % 2, 0, 0, 0] := by decide +kernel
theorem off26 : ∀ k : Trip, k0_off26 (w7 k) = ![k.val / 8 % 2, 0, 0] := by decide +kernel
theorem off27 : ∀ k : Trip, k0_off27 (w16 k) = ![0, 512 * (k.val % 8)] := by decide +kernel
theorem off28 : ∀ k : Trip, k0_off28 (w7 k) = ![k.val / 8 % 2, 0, 0] := by decide +kernel
theorem off29 : ∀ k : Trip, k0_off29 (w7 k) = ![k.val / 8 % 2] := by decide +kernel
theorem off30 : ∀ k : Trip, k0_off30 (w15 k) = ![512 * (k.val / 8), 0] := by decide +kernel
theorem off31 : ∀ k : Trip, k0_off31 (w7 k) = ![k.val / 8 % 2, 0, 0] := by decide +kernel
theorem off32 : ∀ k : Trip, k0_off32 (w14 k) = ![(k.val - 1) / 8 % 2] := by decide +kernel
theorem off33 : ∀ k : Trip, k.val % 8 = 0 → 0 < k.val → k0_off33 (w15 k) (w16 k) = ![512 * ((k.val - 1) / 8), 0] := by decide +kernel
theorem off34 : ∀ k : Trip, k0_off34 (w14 k) = ![(k.val - 1) / 8 % 2, 0, 0] := by decide +kernel
theorem off35 : k0_off35 (w14 128) = ![1] := by decide +kernel
theorem off36 : k0_off36 (w16 128) (w15 128) = ![7680, 0] := by decide +kernel
theorem off37 : k0_off37 (w14 128) = ![1, 0, 0] := by decide +kernel

end Cert.OutProj

end
-- ==== Proof.Names.lean ====
/-
  Canonical names of the windows `cc0_out_proj` touches: the two slots and the two semaphores of each of its four
  rings, the blocks of its three operands and of its result; each printed slice of a trip is one of them.
-/
module

public import proofs.«01_k».proof.Proof.Words
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Tactic

@[expose] public section

set_option maxRecDepth 100000

noncomputable section

namespace Cert.OutProj

open Cert.KernelIdeal Cert.KernelIdeal.Gen
open Idealize.ShloMosaic Idealize.ShloMosaic.TcCoe Idealize.ShloMosaic.Tactic Idealize.SL.Sem

abbrev mixM : Memref sig .tc .hbm S2x8192x4096 .bf16 := Memref.whole main_v1
abbrev woM : Memref sig .tc .hbm S8x8192x512 .bf16 := Memref.whole main_v4
abbrev xM : Memref sig .tc .hbm S8192x4096 .f32 := Memref.whole main_arg2
abbrev fgM : Memref sig .tc .hbm S1x4096 .f32 := Memref.whole main_v5
abbrev resM : Memref sig .tc .hbm S8192x4096 .f32 := Memref.whole main_v6
abbrev mixS : Memref sig .tc .vmem S2x2x512x4096 .bf16 := Memref.whole cc0_scoped0
abbrev woS : Memref sig .tc .vmem S2x1x8192x512 .bf16 := Memref.whole cc0_scoped2
abbrev xS : Memref sig .tc .vmem S2x512x512 .f32 := Memref.whole cc0_scoped4
abbrev fgS : Memref sig .tc .vmem S1x4096 .f32 := Memref.whole cc0_scoped6
abbrev outS : Memref sig .tc .vmem S2x512x4096 .f32 := Memref.whole cc0_scoped7

/-! ## The offsets -/

abbrev off4 (s : Fin 2) : Fin 4 → Nat := ![s.val, 0, 0, 0]
abbrev off3 (s : Fin 2) : Fin 3 → Nat := ![s.val, 0, 0]
abbrev offSem (s : Fin 2) : Fin 1 → Nat := ![s.val]
abbrev mixOff (j : Fin 16) : Fin 3 → Nat := ![0, 512 * j.val, 0]
abbrev woOff (n : Fin 8) : Fin 3 → Nat := ![n.val, 0, 0]
abbrev xOff (i : Fin 128) : Fin 2 → Nat := ![512 * (i.val / 8), 512 * (i.val % 8)]
abbrev rowOff (j : Fin 16) : Fin 2 → Nat := ![512 * j.val, 0]
abbrev colOff (n : Fin 8) : Fin 2 → Nat := ![0, 512 * n.val]

theorem mixS_inb : ∀ (s : Fin 2) a, off4 s a + S1x2x512x4096.size a ≤ S2x2x512x4096.size a := by decide
theorem woS_inb : ∀ (s : Fin 2) a, off4 s a + S1x1x8192x512.size a ≤ S2x1x8192x512.size a := by decide
theorem xS_inb : ∀ (s : Fin 2) a, off3 s a + S1x512x512.size a ≤ S2x512x512.size a := by decide
theorem outS_inb : ∀ (s : Fin 2) a, off3 s a + S1x512x4096.size a ≤ S2x512x4096.size a := by decide
theorem sem_inb : ∀ (s : Fin 2) a, offSem s a + S1.size a ≤ S2.size a := by decide
theorem mix_inb : ∀ (j : Fin 16) a, mixOff j a + S2x512x4096.size a ≤ S2x8192x4096.size a := by decide +kernel
theorem wo_inb : ∀ (n : Fin 8) a, woOff n a + S1x8192x512.size a ≤ S8x8192x512.size a := by decide +kernel
theorem x_inb : ∀ (i : Fin 128) a, xOff i a + S512x512.size a ≤ S8192x4096.size a := by decide +kernel
theorem row_inb : ∀ (j : Fin 16) a, rowOff j a + S512x4096.size a ≤ S8192x4096.size a := by decide +kernel
theorem col_inb : ∀ (n : Fin 8) a, colOff n a + S512x512.size a ≤ S512x4096.size a := by decide +kernel

/-! ## The windows -/

def mixSlot (s : Fin 2) : Memref sig .tc .vmem S2x512x4096 .bf16 :=
  (mixS.slice (Rect.unit (s := S2x2x512x4096) (off4 s) S1x2x512x4096.size (mixS_inb s)) (fun _ => rfl)).squeeze S2x512x4096 squeezes_S1x2x512x4096_S2x512x4096
def woSlot (s : Fin 2) : Memref sig .tc .vmem S1x8192x512 .bf16 :=
  (woS.slice (Rect.unit (s := S2x1x8192x512) (off4 s) S1x1x8192x512.size (woS_inb s)) (fun _ => rfl)).squeeze S1x8192x512 squeezes_S1x1x8192x512_S1x8192x512
def xSlot (s : Fin 2) : Memref sig .tc .vmem S512x512 .f32 :=
  (xS.slice (Rect.unit (s := S2x512x512) (off3 s) S1x512x512.size (xS_inb s)) (fun _ => rfl)).squeeze S512x512 squeezes_S1x512x512_S512x512
def outSlot (s : Fin 2) : Memref sig .tc .vmem S512x4096 .f32 :=
  (outS.slice (Rect.unit (s := S2x512x4096) (off3 s) S1x512x4096.size (outS_inb s)) (fun _ => rfl)).squeeze S512x4096 squeezes_S1x512x4096_S512x4096
def mixSem (s : Fin 2) : DmaSems sig S_ := (cc0_scoped1.slice (Rect.unit (s := S2) (offSem s) S1.size (sem_inb s))).squeeze S_ squeezes_S1_S_
def woSem (s : Fin 2) : DmaSems sig S_ := (cc0_scoped3.slice (Rect.unit (s := S2) (offSem s) S1.size (sem_inb s))).squeeze S_ squeezes_S1_S_
def xSem (s : Fin 2) : DmaSems sig S_ := (cc0_scoped5.slice (Rect.unit (s := S2) (offSem s) S1.size (sem_inb s))).squeeze S_ squeezes_S1_S_
def outSem (s : Fin 2) : DmaSems sig S_ := (cc0_scoped8.slice (Rect.unit (s := S2) (offSem s) S1.size (sem_inb s))).squeeze S_ squeezes_S1_S_
def mixBlk (j : Fin 16) : Memref sig .tc .hbm S2x512x4096 .bf16 :=
  mixM.slice (Rect.unit (s := S2x8192x4096) (mixOff j) S2x512x4096.size (mix_inb j)) (fun _ => rfl)
def woBlk (n : Fin 8) : Memref sig .tc .hbm S1x8192x512 .bf16 :=
  woM.slice (Rect.unit (s := S8x8192x512) (woOff n) S1x8192x512.size (wo_inb n)) (fun _ => rfl)
def xBlk (i : Fin 128) : Memref sig .tc .hbm S512x512 .f32 :=
  xM.slice (Rect.unit (s := S8192x4096) (xOff i) S512x512.size (x_inb i)) (fun _ => rfl)
def rowBlk (j : Fin 16) : Memref sig .tc .hbm S512x4096 .f32 :=
  resM.slice (Rect.unit (s := S8192x4096) (rowOff j) S512x4096.size (row_inb j)) (fun _ => rfl)

instance (s : Fin 2) : ClosedOff (off4 s) := ⟨off4 s, rfl⟩
instance (s : Fin 2) : ClosedOff (off3 s) := ⟨off3 s, rfl⟩
instance (j : Fin 16) : ClosedOff (mixOff j) := ⟨mixOff j, rfl⟩
instance (n : Fin 8) : ClosedOff (woOff n) := ⟨woOff n, rfl⟩
instance (i : Fin 128) : ClosedOff (xOff i) := ⟨xOff i, rfl⟩
instance (j : Fin 16) : ClosedOff (rowOff j) := ⟨rowOff j, rfl⟩
instance (n : Fin 8) : ClosedOff (colOff n) := ⟨colOff n, rfl⟩

/-! ## The printed offsets are these -/

theorem o5 : ∀ k : Trip, k.val % 8 = 7 → k.val < 127 → k0_off5 (w6 k) = offSem (Ring.sl 2 (k.val / 8 + 1)) := by decide +kernel
theorem o6 : ∀ k : Trip, k.val % 8 = 7 → k.val < 127 → k0_off6 (w6 k) = off4 (Ring.sl 2 (k.val / 8 + 1)) := by decide +kernel
theorem o7 : ∀ k : Trip, k.val % 8 = 7 → k.val < 127 → k0_off7 (w15 k) (w16 k) = mixOff (Ring.bk 16 (k.val / 8 + 1)) := by decide +kernel
theorem o8 : ∀ k : Trip, k.val < 127 → k0_off8 (w8 k) = offSem (Ring.sl 2 (k.val + 1)) := by decide +kernel
theorem o9 : ∀ k : Trip, k.val < 127 → k0_off9 (w8 k) = off4 (Ring.sl 2 (k.val + 1)) := by decide +kernel
theorem o10 : ∀ k : Trip, k0_off10 (w16 k) = woOff (Ring.bk 8 (k.val + 1)) := by decide +kernel
theorem o11 : ∀ k : Trip, k.val < 127 → k0_off11 (w8 k) = offSem (Ring.sl 2 (k.val + 1)) := by decide +kernel
theorem o12 : ∀ k : Trip, k.val < 127 → k0_off12 (w8 k) = off3 (Ring.sl 2 (k.val + 1)) := by decide +kernel
theorem o13 : ∀ k : Trip, k.val < 127 → k0_off13 (w15 k) (w16 k) = xOff (Ring.bk 128 (k.val + 1)) := by decide +kernel
theorem o14 : ∀ k : Trip, k0_off14 (w7 k) = offSem (Ring.sl 2 (k.val / 8)) := by decide +kernel
theorem o15 : ∀ k : Trip, k0_off15 (w7 k) = off4 (Ring.sl 2 (k.val / 8)) := by decide +kernel
theorem o16 : ∀ k : Trip, k0_off16 (w15 k) = mixOff (Ring.bk 16 (k.val / 8)) := by decide +kernel
theorem o17 : ∀ k : Trip, k0_off17 (w9 k) = offSem (Ring.sl 2 k.val) := by decide +kernel
theorem o18 : ∀ k : Trip, k0_off18 (w9 k) = off4 (Ring.sl 2 k.val) := by decide +kernel
theorem o19 : ∀ k : Trip, k0_off19 (w16 k) = woOff (Ring.bk 8 k.val) := by decide +kernel
theorem o20 : ∀ k : Trip, k0_off20 (w9 k) = offSem (Ring.sl 2 k.val) := by decide +kernel
theorem o21 : ∀ k : Trip, k0_off21 (w9 k) = off3 (Ring.sl 2 k.val) := by decide +kernel
theorem o22 : ∀ k : Trip, k0_off22 (w15 k) (w16 k) = xOff (Ring.bk 128 k.val) := by decide +kernel
theorem o23 : ∀ k : Trip, k0_off23 (w9 k) = off3 (Ring.sl 2 k.val) := by decide +kernel
theorem o24 : ∀ k : Trip, k0_off24 (w7 k) = off4 (Ring.sl 2 (k.val / 8)) := by decide +kernel
theorem o25 : ∀ k : Trip, k0_off25 (w9 k) = off4 (Ring.sl 2 k.val) := by decide +kernel
theorem o26 : ∀ k : Trip, k0_off26 (w7 k) = off3 (Ring.sl 2 (k.val / 8)) := by decide +kernel
theorem o27 : ∀ k : Trip, k0_off27 (w16 k) = colOff (Ring.bk 8 k.val) := by decide +kernel
theorem o28 : ∀ k : Trip, k0_off28 (w7 k) = off3 (Ring.sl 2 (k.val / 8)) := by decide +kernel
theorem o29 : ∀ k : Trip, k0_off29 (w7 k) = offSem (Ring.sl 2 (k.val / 8)) := by decide +kernel
theorem o30 : ∀ k : Trip, k0_off30 (w15 k) = rowOff (Ring.bk 16 (k.val / 8)) := by decide +kernel
theorem o31 : ∀ k : Trip, k0_off31 (w7 k) = off3 (Ring.sl 2 (k.val / 8)) := by decide +kernel
theorem o32 : ∀ k : Trip, k0_off32 (w14 k) = offSem (Ring.sl 2 ((k.val - 1) / 8)) := by decide +kernel
theorem o33 : ∀ k : Trip, k.val % 8 = 0 → 0 < k.val → k0_off33 (w15 k) (w16 k) = rowOff (Ring.bk 16 ((k.val - 1) / 8)) := by decide +kernel
theorem o34 : ∀ k : Trip, k0_off34 (w14 k) = off3 (Ring.sl 2 ((k.val - 1) / 8)) := by decide +kernel
theorem o35 : k0_off35 15#32 = offSem 1 := by decide +kernel
theorem o36 : k0_off36 0#32 0#32 = rowOff 15 := by decide +kernel
theorem o37 : k0_off37 15#32 = off3 1 := by decide +kernel

instance (k : Trip) : ClosedOff (k0_off18 (w9 k)) := ⟨off4 (Ring.sl 2 k.val), o18 k⟩
instance (k : Trip) : ClosedOff (k0_off21 (w9 k)) := ⟨off3 (Ring.sl 2 k.val), o21 k⟩
instance (k : Trip) : ClosedOff (k0_off23 (w9 k)) := ⟨off3 (Ring.sl 2 k.val), o23 k⟩
instance (k : Trip) : ClosedOff (k0_off24 (w7 k)) := ⟨off4 (Ring.sl 2 (k.val / 8)), o24 k⟩
instance (k : Trip) : ClosedOff (k0_off25 (w9 k)) := ⟨off4 (Ring.sl 2 k.val), o25 k⟩
instance (k : Trip) : ClosedOff (k0_off26 (w7 k)) := ⟨off3 (Ring.sl 2 (k.val / 8)), o26 k⟩
instance (k : Trip) : ClosedOff (k0_off27 (w16 k)) := ⟨colOff (Ring.bk 8 k.val), o27 k⟩
instance (k : Trip) : ClosedOff (k0_off28 (w7 k)) := ⟨off3 (Ring.sl 2 (k.val / 8)), o28 k⟩
instance (k : Trip) : ClosedOff (k0_off31 (w7 k)) := ⟨off3 (Ring.sl 2 (k.val / 8)), o31 k⟩
instance (k : Trip) : ClosedOff (k0_off15 (w7 k)) := ⟨off4 (Ring.sl 2 (k.val / 8)), o15 k⟩

/-! ## The printed slices are the windows -/

private theorem mixSlot_congr {off : Fin 4 → Nat} {s : Fin 2} (e : off = off4 s) (hh hs) :
    (mixS.slice (Rect.unit (s := S2x2x512x4096) off S1x2x512x4096.size hh) hs).squeeze S2x512x4096 squeezes_S1x2x512x4096_S2x512x4096 = mixSlot s :=
  congrArg (fun M : Memref sig .tc .vmem S1x2x512x4096 .bf16 => M.squeeze S2x512x4096 squeezes_S1x2x512x4096_S2x512x4096) (Memref.slice_unit_congr _ e _ _ _ _)
private theorem woSlot_congr {off : Fin 4 → Nat} {s : Fin 2} (e : off = off4 s) (hh hs) :
    (woS.slice (Rect.unit (s := S2x1x8192x512) off S1x1x8192x512.size hh) hs).squeeze S1x8192x512 squeezes_S1x1x8192x512_S1x8192x512 = woSlot s :=
  congrArg (fun M : Memref sig .tc .vmem S1x1x8192x512 .bf16 => M.squeeze S1x8192x512 squeezes_S1x1x8192x512_S1x8192x512) (Memref.slice_unit_congr _ e _ _ _ _)
private theorem xSlot_congr {off : Fin 3 → Nat} {s : Fin 2} (e : off = off3 s) (hh hs) :
    (xS.slice (Rect.unit (s := S2x512x512) off S1x512x512.size hh) hs).squeeze S512x512 squeezes_S1x512x512_S512x512 = xSlot s :=
  congrArg (fun M : Memref sig .tc .vmem S1x512x512 .f32 => M.squeeze S512x512 squeezes_S1x512x512_S512x512) (Memref.slice_unit_congr _ e _ _ _ _)
private theorem outSlot_congr {off : Fin 3 → Nat} {s : Fin 2} (e : off = off3 s) (hh hs) :
    (outS.slice (Rect.unit (s := S2x512x4096) off S1x512x4096.size hh) hs).squeeze S512x4096 squeezes_S1x512x4096_S512x4096 = outSlot s :=
  congrArg (fun M : Memref sig .tc .vmem S1x512x4096 .f32 => M.squeeze S512x4096 squeezes_S1x512x4096_S512x4096) (Memref.slice_unit_congr _ e _ _ _ _)
private theorem mixSem_congr {off : Fin 1 → Nat} {s : Fin 2} (e : off = offSem s) (hh) :
    (cc0_scoped1.slice (Rect.unit (s := S2) off S1.size hh)).squeeze S_ squeezes_S1_S_ = mixSem s :=
  congrArg (fun A : DmaSems sig S1 => A.squeeze S_ squeezes_S1_S_) (SemArray.slice_unit_congr _ e _ _)
private theorem woSem_congr {off : Fin 1 → Nat} {s : Fin 2} (e : off = offSem s) (hh) :
    (cc0_scoped3.slice (Rect.unit (s := S2) off S1.size hh)).squeeze S_ squeezes_S1_S_ = woSem s :=
  congrArg (fun A : DmaSems sig S1 => A.squeeze S_ squeezes_S1_S_) (SemArray.slice_unit_congr _ e _ _)
private theorem xSem_congr {off : Fin 1 → Nat} {s : Fin 2} (e : off = offSem s) (hh) :
    (cc0_scoped5.slice (Rect.unit (s := S2) off S1.size hh)).squeeze S_ squeezes_S1_S_ = xSem s :=
  congrArg (fun A : DmaSems sig S1 => A.squeeze S_ squeezes_S1_S_) (SemArray.slice_unit_congr _ e _ _)
private theorem outSem_congr {off : Fin 1 → Nat} {s : Fin 2} (e : off = offSem s) (hh) :
    (cc0_scoped8.slice (Rect.unit (s := S2) off S1.size hh)).squeeze S_ squeezes_S1_S_ = outSem s :=
  congrArg (fun A : DmaSems sig S1 => A.squeeze S_ squeezes_S1_S_) (SemArray.slice_unit_congr _ e _ _)
private theorem mixBlk_congr {off : Fin 3 → Nat} {j : Fin 16} (e : off = mixOff j) (hh hs) :
    mixM.slice (Rect.unit (s := S2x8192x4096) off S2x512x4096.size hh) hs = mixBlk j := Memref.slice_unit_congr _ e _ _ _ (fun _ => rfl)
private theorem woBlk_congr {off : Fin 3 → Nat} {j : Fin 8} (e : off = woOff j) (hh hs) :
    woM.slice (Rect.unit (s := S8x8192x512) off S1x8192x512.size hh) hs = woBlk j := Memref.slice_unit_congr _ e _ _ _ (fun _ => rfl)
private theorem xBlk_congr {off : Fin 2 → Nat} {j : Fin 128} (e : off = xOff j) (hh hs) :
    xM.slice (Rect.unit (s := S8192x4096) off S512x512.size hh) hs = xBlk j := Memref.slice_unit_congr _ e _ _ _ (fun _ => rfl)
private theorem rowBlk_congr {off : Fin 2 → Nat} {j : Fin 16} (e : off = rowOff j) (hh hs) :
    resM.slice (Rect.unit (s := S8192x4096) off S512x4096.size hh) hs = rowBlk j := Memref.slice_unit_congr _ e _ _ _ (fun _ => rfl)

/-- The prologue's slices, at literal offsets. -/
@[sl_canon] theorem p_mixS (hh hs) :
    (mixS.slice (Rect.unit (s := S2x2x512x4096) k0_off2 S1x2x512x4096.size hh) hs).squeeze S2x512x4096 squeezes_S1x2x512x4096_S2x512x4096 = mixSlot 0 := mixSlot_congr (by decide) _ _
@[sl_canon] theorem p_woS (hh hs) :
    (woS.slice (Rect.unit (s := S2x1x8192x512) k0_off3 S1x1x8192x512.size hh) hs).squeeze S1x8192x512 squeezes_S1x1x8192x512_S1x8192x512 = woSlot 0 := woSlot_congr (by decide) _ _
@[sl_canon] theorem p_xS (hh hs) :
    (xS.slice (Rect.unit (s := S2x512x512) k0_off4 S1x512x512.size hh) hs).squeeze S512x512 squeezes_S1x512x512_S512x512 = xSlot 0 := xSlot_congr (by decide) _ _
@[sl_canon] theorem p_mixSem (hh) :
    (cc0_scoped1.slice (Rect.unit (s := S2) k0_off1 S1.size hh)).squeeze S_ squeezes_S1_S_ = mixSem 0 := mixSem_congr (by decide) _
@[sl_canon] theorem p_woSem (hh) :
    (cc0_scoped3.slice (Rect.unit (s := S2) k0_off1 S1.size hh)).squeeze S_ squeezes_S1_S_ = woSem 0 := woSem_congr (by decide) _
@[sl_canon] theorem p_xSem (hh) :
    (cc0_scoped5.slice (Rect.unit (s := S2) k0_off1 S1.size hh)).squeeze S_ squeezes_S1_S_ = xSem 0 := xSem_congr (by decide) _
@[sl_canon] theorem p_mixBlk (hh hs) :
    mixM.slice (Rect.unit (s := S2x8192x4096) ![0, 0, 0] S2x512x4096.size hh) hs = mixBlk 0 := mixBlk_congr (by decide) _ _
@[sl_canon] theorem p_woBlk (hh hs) :
    woM.slice (Rect.unit (s := S8x8192x512) ![0, 0, 0] S1x8192x512.size hh) hs = woBlk 0 := woBlk_congr (by decide) _ _
@[sl_canon] theorem p_xBlk (hh hs) :
    xM.slice (Rect.unit (s := S8192x4096) ![0, 0] S512x512.size hh) hs = xBlk 0 := xBlk_congr (by decide) _ _

/-- A trip's slices. -/
@[sl_canon] theorem t5 (k : Trip) (h0 : k.val % 8 = 7) (h1 : k.val < 127) (hh) :
    (cc0_scoped1.slice (Rect.unit (s := S2) (k0_off5 (w6 k)) S1.size hh)).squeeze S_ squeezes_S1_S_ = mixSem (Ring.sl 2 (k.val / 8 + 1)) := mixSem_congr (o5 k h0 h1) _
@[sl_canon] theorem t6 (k : Trip) (h0 : k.val % 8 = 7) (h1 : k.val < 127) (hh hs) :
    (mixS.slice (Rect.unit (s := S2x2x512x4096) (k0_off6 (w6 k)) S1x2x512x4096.size hh) hs).squeeze S2x512x4096 squeezes_S1x2x512x4096_S2x512x4096 = mixSlot (Ring.sl 2 (k.val / 8 + 1)) := mixSlot_congr (o6 k h0 h1) _ _
@[sl_canon] theorem t7 (k : Trip) (h0 : k.val % 8 = 7) (h1 : k.val < 127) (hh hs) :
    mixM.slice (Rect.unit (s := S2x8192x4096) (k0_off7 (w15 k) (w16 k)) S2x512x4096.size hh) hs = mixBlk (Ring.bk 16 (k.val / 8 + 1)) := mixBlk_congr (o7 k h0 h1) _ _
@[sl_canon] theorem t8 (k : Trip) (h0 : k.val < 127) (hh) :
    (cc0_scoped3.slice (Rect.unit (s := S2) (k0_off8 (w8 k)) S1.size hh)).squeeze S_ squeezes_S1_S_ = woSem (Ring.sl 2 (k.val + 1)) := woSem_congr (o8 k h0) _
@[sl_canon] theorem t9 (k : Trip) (h0 : k.val < 127) (hh hs) :
    (woS.slice (Rect.unit (s := S2x1x8192x512) (k0_off9 (w8 k)) S1x1x8192x512.size hh) hs).squeeze S1x8192x512 squeezes_S1x1x8192x512_S1x8192x512 = woSlot (Ring.sl 2 (k.val + 1)) := woSlot_congr (o9 k h0) _ _
@[sl_canon] theorem t10 (k : Trip) (hh hs) :
    woM.slice (Rect.unit (s := S8x8192x512) (k0_off10 (w16 k)) S1x8192x512.size hh) hs = woBlk (Ring.bk 8 (k.val + 1)) := woBlk_congr (o10 k) _ _
@[sl_canon] theorem t11 (k : Trip) (h0 : k.val < 127) (hh) :
    (cc0_scoped5.slice (Rect.unit (s := S2) (k0_off11 (w8 k)) S1.size hh)).squeeze S_ squeezes_S1_S_ = xSem (Ring.sl 2 (k.val + 1)) := xSem_congr (o11 k h0) _
@[sl_canon] theorem t12 (k : Trip) (h0 : k.val < 127) (hh hs) :
    (xS.slice (Rect.unit (s := S2x512x512) (k0_off12 (w8 k)) S1x512x512.size hh) hs).squeeze S512x512 squeezes_S1x512x512_S512x512 = xSlot (Ring.sl 2 (k.val + 1)) := xSlot_congr (o12 k h0) _ _
@[sl_canon] theorem t13 (k : Trip) (h0 : k.val < 127) (hh hs) :
    xM.slice (Rect.unit (s := S8192x4096) (k0_off13 (w15 k) (w16 k)) S512x512.size hh) hs = xBlk (Ring.bk 128 (k.val + 1)) := xBlk_congr (o13 k h0) _ _
@[sl_canon] theorem t14 (k : Trip) (hh) :
    (cc0_scoped1.slice (Rect.unit (s := S2) (k0_off14 (w7 k)) S1.size hh)).squeeze S_ squeezes_S1_S_ = mixSem (Ring.sl 2 (k.val / 8)) := mixSem_congr (o14 k) _
@[sl_canon] theorem t15 (k : Trip) (hh hs) :
    (mixS.slice (Rect.unit (s := S2x2x512x4096) (k0_off15 (w7 k)) S1x2x512x4096.size hh) hs).squeeze S2x512x4096 squeezes_S1x2x512x4096_S2x512x4096 = mixSlot (Ring.sl 2 (k.val / 8)) := mixSlot_congr (o15 k) _ _
@[sl_canon] theorem t16 (k : Trip) (hh hs) :
    mixM.slice (Rect.unit (s := S2x8192x4096) (k0_off16 (w15 k)) S2x512x4096.size hh) hs = mixBlk (Ring.bk 16 (k.val / 8)) := mixBlk_congr (o16 k) _ _
@[sl_canon] theorem t17 (k : Trip) (hh) :
    (cc0_scoped3.slice (Rect.unit (s := S2) (k0_off17 (w9 k)) S1.size hh)).squeeze S_ squeezes_S1_S_ = woSem (Ring.sl 2 k.val) := woSem_congr (o17 k) _
@[sl_canon] theorem t18 (k : Trip) (hh hs) :
    (woS.slice (Rect.unit (s := S2x1x8192x512) (k0_off18 (w9 k)) S1x1x8192x512.size hh) hs).squeeze S1x8192x512 squeezes_S1x1x8192x512_S1x8192x512 = woSlot (Ring.sl 2 k.val) := woSlot_congr (o18 k) _ _
@[sl_canon] theorem t19 (k : Trip) (hh hs) :
    woM.slice (Rect.unit (s := S8x8192x512) (k0_off19 (w16 k)) S1x8192x512.size hh) hs = woBlk (Ring.bk 8 k.val) := woBlk_congr (o19 k) _ _
@[sl_canon] theorem t20 (k : Trip) (hh) :
    (cc0_scoped5.slice (Rect.unit (s := S2) (k0_off20 (w9 k)) S1.size hh)).squeeze S_ squeezes_S1_S_ = xSem (Ring.sl 2 k.val) := xSem_congr (o20 k) _
@[sl_canon] theorem t21 (k : Trip) (hh hs) :
    (xS.slice (Rect.unit (s := S2x512x512) (k0_off21 (w9 k)) S1x512x512.size hh) hs).squeeze S512x512 squeezes_S1x512x512_S512x512 = xSlot (Ring.sl 2 k.val) := xSlot_congr (o21 k) _ _
@[sl_canon] theorem t22 (k : Trip) (hh hs) :
    xM.slice (Rect.unit (s := S8192x4096) (k0_off22 (w15 k) (w16 k)) S512x512.size hh) hs = xBlk (Ring.bk 128 k.val) := xBlk_congr (o22 k) _ _
@[sl_canon] theorem t24 (k : Trip) (hh hs) :
    (mixS.slice (Rect.unit (s := S2x2x512x4096) (k0_off24 (w7 k)) S1x2x512x4096.size hh) hs).squeeze S2x512x4096 squeezes_S1x2x512x4096_S2x512x4096 = mixSlot (Ring.sl 2 (k.val / 8)) := mixSlot_congr (o24 k) _ _
@[sl_canon] theorem t25 (k : Trip) (hh hs) :
    (woS.slice (Rect.unit (s := S2x1x8192x512) (k0_off25 (w9 k)) S1x1x8192x512.size hh) hs).squeeze S1x8192x512 squeezes_S1x1x8192x512_S1x8192x512 = woSlot (Ring.sl 2 k.val) := woSlot_congr (o25 k) _ _
@[sl_canon] theorem t26 (k : Trip) (hh hs) :
    (outS.slice (Rect.unit (s := S2x512x4096) (k0_off26 (w7 k)) S1x512x4096.size hh) hs).squeeze S512x4096 squeezes_S1x512x4096_S512x4096 = outSlot (Ring.sl 2 (k.val / 8)) := outSlot_congr (o26 k) _ _
@[sl_canon] theorem t29 (k : Trip) (hh) :
    (cc0_scoped8.slice (Rect.unit (s := S2) (k0_off29 (w7 k)) S1.size hh)).squeeze S_ squeezes_S1_S_ = outSem (Ring.sl 2 (k.val / 8)) := outSem_congr (o29 k) _
@[sl_canon] theorem t30 (k : Trip) (hh hs) :
    resM.slice (Rect.unit (s := S8192x4096) (k0_off30 (w15 k)) S512x4096.size hh) hs = rowBlk (Ring.bk 16 (k.val / 8)) := rowBlk_congr (o30 k) _ _
@[sl_canon] theorem t31 (k : Trip) (hh hs) :
    (outS.slice (Rect.unit (s := S2x512x4096) (k0_off31 (w7 k)) S1x512x4096.size hh) hs).squeeze S512x4096 squeezes_S1x512x4096_S512x4096 = outSlot (Ring.sl 2 (k.val / 8)) := outSlot_congr (o31 k) _ _
@[sl_canon] theorem t32 (k : Trip) (hh) :
    (cc0_scoped8.slice (Rect.unit (s := S2) (k0_off32 (w14 k)) S1.size hh)).squeeze S_ squeezes_S1_S_ = outSem (Ring.sl 2 ((k.val - 1) / 8)) := outSem_congr (o32 k) _
@[sl_canon] theorem t33 (k : Trip) (h0 : k.val % 8 = 0) (h1 : 0 < k.val) (hh hs) :
    resM.slice (Rect.unit (s := S8192x4096) (k0_off33 (w15 k) (w16 k)) S512x4096.size hh) hs = rowBlk (Ring.bk 16 ((k.val - 1) / 8)) := rowBlk_congr (o33 k h0 h1) _ _
@[sl_canon] theorem t34 (k : Trip) (hh hs) :
    (outS.slice (Rect.unit (s := S2x512x4096) (k0_off34 (w14 k)) S1x512x4096.size hh) hs).squeeze S512x4096 squeezes_S1x512x4096_S512x4096 = outSlot (Ring.sl 2 ((k.val - 1) / 8)) := outSlot_congr (o34 k) _ _

/-- The epilogue's. -/
@[sl_canon] theorem t35 (hh) :
    (cc0_scoped8.slice (Rect.unit (s := S2) (k0_off35 15#32) S1.size hh)).squeeze S_ squeezes_S1_S_ = outSem 1 := outSem_congr (o35) _
@[sl_canon] theorem t36 (hh hs) :
    resM.slice (Rect.unit (s := S8192x4096) (k0_off36 0#32 0#32) S512x4096.size hh) hs = rowBlk 15 := rowBlk_congr (o36) _ _
@[sl_canon] theorem t37 (hh hs) :
    (outS.slice (Rect.unit (s := S2x512x4096) (k0_off37 15#32) S1x512x4096.size hh) hs).squeeze S512x4096 squeezes_S1x512x4096_S512x4096 = outSlot 1 := outSlot_congr (o37) _ _

end Cert.OutProj

end
-- ==== Proof.Pieces.lean ====
/-
  The pieces the loop of `cc0_out_proj` holds: each ring's slots free, holding a block, or in flight with one; each
  operand block at home; the semaphores at zero.
-/
module

public import proofs.«01_k».proof.Proof.Names

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-- A semaphore at zero. -/
abbrev cellP (c : Dev nD) (S : DmaSems sig S_) : sProp 𝕄 := semVal ((c : Thread nD τ), SemLoc.dma S.sem) 0
/-- A window held on its own elements at contents `f`. -/
abbrev heldP (c : Dev nD) {sp : Space} {s : Shape} {e : EltTy} (W : Memref sig .tc sp s e) (f : Buf (Elt F) (W.view.loc (c : Thread nD τ))) : sProp 𝕄 :=
  W.view.loc (c : Thread nD τ) ↦[W.view.set]{fullShare} f
/-- The operands' contents, at the type their blocks read them at. -/
abbrev mixAt (c : Dev nD) (X : Buf (Elt F) ((c : Thread nD τ).loc main_v1)) (j : Fin 16) : Buf (Elt F) ((mixBlk j).view.loc (c : Thread nD τ)) := X
abbrev woAt (c : Dev nD) (X : Buf (Elt F) ((c : Thread nD τ).loc main_v4)) (n : Fin 8) : Buf (Elt F) ((woBlk n).view.loc (c : Thread nD τ)) := X
abbrev xAt (c : Dev nD) (X : Buf (Elt F) ((c : Thread nD τ).loc main_arg2)) (i : Fin 128) : Buf (Elt F) ((xBlk i).view.loc (c : Thread nD τ)) := X

/-- What a copy of window `B` leaves in window `W` over prior contents `f`. -/
abbrev landed (c : Dev nD) {sp sp' : Space} {s : Shape} {e : EltTy} (W : Memref sig .tc sp s e) (B : Memref sig .tc sp' s e)
    (X : Buf (Elt F) (B.view.loc (c : Thread nD τ))) (f : Buf (Elt F) (W.view.loc (c : Thread nD τ))) : Buf (Elt F) (W.view.loc (c : Thread nD τ)) :=
  W.view.writes (Elt F) f [⟨Rect.whole s, ReadAs.same.apply (B.view.read (Elt F) X)⟩]
/-- Window `W` in flight with window `B`, `n` units on semaphore `S`. -/
abbrev flightP (c : Dev nD) {sp sp' : Space} {s : Shape} {e : EltTy} (S : DmaSems sig S_) (n : ℕ) (W : Memref sig .tc sp s e) (B : Memref sig .tc sp' s e)
    (X : Buf (Elt F) (B.view.loc (c : Thread nD τ))) (f : Buf (Elt F) (W.view.loc (c : Thread nD τ))) : sProp 𝕄 :=
  Transfers.Flight countersEmb (c : Thread nD τ) (SemLoc.dma S.sem) () n iprop(heldP c W (landed c W B X f) ∗ heldP c B X)

end Cert.OutProj

end
-- ==== Proof.Values.lean ====
/-
  What the loop of `cc0_out_proj` computes: the 512x512 piece a trip adds up, the row of eight pieces an output slot
  gathers, the normalised row it ships; and what the loads and stores of a trip read and leave in these terms.
-/
module

public import proofs.«01_k».proof.Proof.Pieces
public import Idealize.ShloMosaic.Lib.WritesUnit
public import Idealize.ShloMosaic.Lib.ValueIdxCore
public import Idealize.ShloMosaic.Lib.ValueLayout
public import Idealize.ShloMosaic.Lib.Pipeline.Value

@[expose] public section

noncomputable section

namespace Cert.OutProj

open Cert.KernelIdeal Cert.KernelIdeal.Gen
open Idealize.ShloMosaic Idealize.ShloMosaic.TcCoe Idealize.ShloMosaic.Tactic Idealize.ShloMosaic.ValueIdx

variable {F : FTy → Type} [FloatOps F]

/-! ## The values -/

section Values

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

/-- The block of the residual trip `i` adds to. -/
def xV (i : Fin 128) : Vec F S1x512x512 .f32 := fun y => (xBlk i).view.read (Elt F) (xAt c XX i) (ix2 (y 1) (y 2))
/-- Half `h` of the block of mixed features of row `j`. -/
def mixV (j : Fin 16) (h : Fin 2) : Vec F S1x512x4096 .bf16 := fun y => (mixBlk j).view.read (Elt F) (mixAt c XM j) (ix3 h (y 1) (y 2))
/-- Half `h` of the output weights' column slab `n`. -/
def woV (n : Fin 8) (h : Fin 2) : Vec F S1x4096x512 .bf16 := fun y =>
  (woBlk n).view.read (Elt F) (woAt c XW n) (ix3 0 ⟨4096 * h.val + (y 1).val, by have := h.isLt; have : (y 1).val < 4096 := (y 1).isLt; omega⟩ (y 2))
/-- The piece of the result row `j` has at column slab `n`, before it is normalised. -/
def pieceV (j : Fin 16) (n : Fin 8) : FVec F S512x512 .f32 :=
  k0_pay1 (xV c XX (Ring.bk 128 (8 * j.val + n.val))) (mixV c XM j 0) (woV c XW n 0) (mixV c XM j 1) (woV c XW n 1)
/-- The eight pieces of row `j` side by side. -/
def rowV (j : Fin 16) : Vec F S512x4096 .f32 := fun y =>
  pieceV c XM XW XX j ⟨(y 1).val / 512, by have : (y 1).val < 4096 := (y 1).isLt; omega⟩ (ix2 (y 0) ⟨(y 1).val % 512, by omega⟩)
/-- Row `j` normalised. -/
def normV (j : Fin 16) : Vec F S512x4096 .f32 := fun y =>
  k0_pay2 (fun z : S1x512x4096.Idx => rowV c XM XW XX j (ix2 (z 1) (z 2))) FG (ix3 0 (y 0) (y 1))

/-- The first `n` column slabs of output slot `s` are row `j`'s. -/
def Cols (s : Fin 2) (j : Fin 16) (n : ℕ) (fo : Buf (Elt F) ((outSlot s).view.loc (c : Thread nD τ))) : Prop :=
  ∀ y : S512x4096.Idx, (y 1).val < 512 * n → (outSlot s).view.read (Elt F) fo y = rowV c XM XW XX j y

end Values

/-! ## What a trip's loads read -/

/-- A load of the whole slot of the residual's ring, through the whole ring. -/
theorem x_load (s : Fin 2) (off : Fin 3 → ℕ) (hoff : off = off3 s) (inb) (f : xS.view.ty.Contents (Elt F)) (w : Vec F S512x512 .f32) :
    View.readAt (Elt F) xS.view (Rect.unit (s := S2x512x512) off S1x512x512.size inb).toLoadRect ((xSlot s).view.writes (Elt F) f [⟨Rect.whole S512x512, w⟩])
      = fun y : S1x512x512.Idx => w (ix2 (y 1) (y 2)) := by
  subst hoff
  have h := View.read_writes_whole (Val := Elt F) (xSlot s).view f w
  funext y
  obtain ⟨p, q, r, rfl⟩ : ∃ p q r, y = ix3 p q r := ⟨y 0, y 1, y 2, eq_ix3 y⟩
  obtain rfl : p = 0 := Fin.ext (by have := p.isLt; show p.val = 0; have : p.val < 1 := p.isLt; omega)
  refine Eq.trans ?_ (congrFun h (ix2 q r))
  exact (shapeCast_1ab_ab_apply _ (by decide) q r).symm

/-- A load of half `h` of a slot of the mixed features' ring. -/
theorem mix_load (s : Fin 2) (h : Fin 2) (off : Fin 3 → ℕ) (hoff : off = ![h.val, 0, 0]) (inb) (f : (mixSlot s).view.ty.Contents (Elt F)) (w : Vec F S2x512x4096 .bf16)
    (hf : (mixSlot s).view.read (Elt F) f = w) :
    View.readAt (Elt F) (mixSlot s).view (Rect.unit (s := S2x512x4096) off S1x512x4096.size inb).toLoadRect f
      = fun y : S1x512x4096.Idx => w (ix3 h (y 1) (y 2)) := by
  subst hoff hf
  funext y
  show (mixSlot s).view.read (Elt F) f _ = _
  congr 1
  funext a
  have h0 : (y 0).val < 1 := (y 0).isLt
  match a with
  | ⟨0, _⟩ => exact Fin.ext (show h.val + 1 * (y 0).val = h.val by omega)
  | ⟨1, _⟩ => exact Fin.ext (show 0 + 1 * (y 1).val = (y 1).val by omega)
  | ⟨2, _⟩ => exact Fin.ext (show 0 + 1 * (y 2).val = (y 2).val by omega)

/-- A load of half `h` of the slot of output weights that landed. -/
theorem wo_load (s : Fin 2) (h : Fin 2) (off : Fin 3 → ℕ) (hoff : off = ![0, 4096 * h.val, 0]) (inb) (w : Vec F S1x8192x512 .bf16) :
    (woSlot s).view.readCov (Val := Elt F) [⟨Rect.whole S1x8192x512, w⟩] (Rect.unit (s := S1x8192x512) off S1x4096x512.size inb).toLoadRect
      = fun y : S1x4096x512.Idx => w (ix3 0 ⟨4096 * h.val + (y 1).val, by have := h.isLt; have : (y 1).val < 4096 := (y 1).isLt; omega⟩ (y 2)) := by
  subst hoff
  funext y
  rw [View.readCov, View.readAt_apply, View.read_writes_whole]
  congr 1
  funext a
  have h0 : (y 0).val < 1 := (y 0).isLt
  match a with
  | ⟨0, _⟩ => exact Fin.ext (show 0 + 1 * (y 0).val = 0 by omega)
  | ⟨1, _⟩ => exact Fin.ext (show 4096 * h.val + 1 * (y 1).val = 4096 * h.val + (y 1).val by omega)
  | ⟨2, _⟩ => exact Fin.ext (show 0 + 1 * (y 2).val = (y 2).val by omega)

variable {c : Dev nD} {XM : Buf (Elt F) ((c : Thread nD τ).loc main_v1)} {XW : Buf (Elt F) ((c : Thread nD τ).loc main_v4)}
  {XX : Buf (Elt F) ((c : Thread nD τ).loc main_arg2)} {FG : Vec F S1x4096 .f32}

theorem Cols.cast {s : Fin 2} {j : Fin 16} {n n' : ℕ} {fo} (H : Cols c XM XW XX s j n fo) (e : n = n') : Cols c XM XW XX s j n' fo := e ▸ H

/-- Of no slab anything holds. -/
theorem Cols.zero {s : Fin 2} {j : Fin 16} {n : ℕ} {fo} (h : n = 0) : Cols c XM XW XX s j n fo := fun y hy => by
  subst h; exact absurd hy (Nat.not_lt_zero _)

/-- One more piece stored: one more column slab of the row. -/
theorem Cols.step {s : Fin 2} {j : Fin 16} {n : Fin 8} {fo} (H : Cols c XM XW XX s j n.val fo) (off : Fin 2 → ℕ) (hoff : off = colOff n) (inb)
    (w : FVec F S512x512 .f32) (hw : w = pieceV c XM XW XX j n) :
    Cols c XM XW XX s j (n.val + 1) ((outSlot s).view.writes (Elt F) fo [⟨Rect.unit (s := S512x4096) off S512x512.size inb, w⟩]) := by
  subst hw
  intro y hy
  have hb : (y 1).val < 4096 := (y 1).isLt
  by_cases hn : (y 1).val < 512 * n.val
  · refine (View.read_writes_cons_unit_of_not_mem (Val := Elt F) (outSlot s).view fo inb _ [] y hoff 1 (.inl hn)).trans ?_
    exact H y hn
  · have e : n = ⟨(y 1).val / 512, by omega⟩ := Fin.ext (by show n.val = (y 1).val / 512; omega)
    refine (View.read_writes_cons_unit_of_mem (Val := Elt F) (outSlot s).view fo inb _ [] y (ix2 (y 0) ⟨(y 1).val % 512, by omega⟩) hoff ?_).trans ?_
    · intro a
      match a with
      | ⟨0, _⟩ => exact (Nat.zero_add _).symm
      | ⟨1, _⟩ => show (y 1).val = 512 * n.val + (y 1).val % 512; omega
    · rw [rowV, ← e]

/-- What the loads of a trip give the piece's arithmetic: the piece of row `j` at column slab `n`. -/
theorem piece_load {sx sm sw : Fin 2} {i : Fin 128} {j : Fin 16} {n : Fin 8} (hi : i = Ring.bk 128 (8 * j.val + n.val))
    (off : Fin 3 → ℕ) (hoff : off = off3 sx) (inb i0 i1 j0 j1) (f : xS.view.ty.Contents (Elt F)) (fm : (mixSlot sm).view.ty.Contents (Elt F))
    (hm : (mixSlot sm).view.read (Elt F) fm = (mixBlk j).view.read (Elt F) (mixAt c XM j)) :
    k0_pay1
      (View.readAt (Elt F) xS.view (Rect.unit (s := S2x512x512) off ![1, 512, 512] inb).toLoadRect ((xSlot sx).view.writes (Elt F) f [⟨Rect.whole S512x512, ReadAs.same.apply ((xBlk i).view.read (Elt F) (xAt c XX i))⟩]))
      (View.readAt (Elt F) (mixSlot sm).view (Rect.unit (s := S2x512x4096) ![0, 0, 0] S1x512x4096.size i0).toLoadRect fm)
      ((woSlot sw).view.readCov (Val := Elt F) [⟨Rect.whole S1x8192x512, ReadAs.same.apply ((woBlk n).view.read (Elt F) (woAt c XW n))⟩] (Rect.unit (s := S1x8192x512) ![0, 0, 0] S1x4096x512.size j0).toLoadRect)
      (View.readAt (Elt F) (mixSlot sm).view (Rect.unit (s := S2x512x4096) ![1, 0, 0] S1x512x4096.size i1).toLoadRect fm)
      ((woSlot sw).view.readCov (Val := Elt F) [⟨Rect.whole S1x8192x512, ReadAs.same.apply ((woBlk n).view.read (Elt F) (woAt c XW n))⟩] (Rect.unit (s := S1x8192x512) ![0, 4096, 0] S1x4096x512.size j1).toLoadRect)
      = pieceV c XM XW XX j n := by
  subst hi
  have e0 := x_load sx off hoff inb f (ReadAs.same.apply ((xBlk _).view.read (Elt F) (xAt c XX (Ring.bk 128 (8 * j.val + n.val)))))
  have e1 := mix_load sm 0 _ rfl i0 fm _ hm
  have e2 := wo_load sw 0 _ rfl j0 (ReadAs.same.apply ((woBlk n).view.read (Elt F) (woAt c XW n)))
  have e3 := mix_load sm 1 _ rfl i1 fm _ hm
  have e4 := wo_load sw 1 _ rfl j1 (ReadAs.same.apply ((woBlk n).view.read (Elt F) (woAt c XW n)))
  rw [pieceV]
  exact congr (congr (congr (congr (congrArg k0_pay1 e0) e1) e2) e3) e4

/-- A load of a whole output slot, through the whole ring, reads what the slot holds. -/
theorem out_load (s : Fin 2) (off : Fin 3 → ℕ) (hoff : off = off3 s) (inb) (f : outS.view.ty.Contents (Elt F)) :
    View.readAt (Elt F) outS.view (Rect.unit (s := S2x512x4096) off S1x512x4096.size inb).toLoadRect f
      = fun y : S1x512x4096.Idx => (outSlot s).view.read (Elt F) f (ix2 (y 1) (y 2)) := by
  subst hoff
  funext y
  obtain ⟨p, q, r, rfl⟩ : ∃ p q r, y = ix3 p q r := ⟨y 0, y 1, y 2, eq_ix3 y⟩
  obtain rfl : p = 0 := Fin.ext (by have := p.isLt; show p.val = 0; have : p.val < 1 := p.isLt; omega)
  exact (shapeCast_1ab_ab_apply _ (by decide) q r).symm

/-- A store of a whole output slot, through the whole ring, leaves its payload in the slot. -/
theorem out_store (s : Fin 2) (off : Fin 3 → ℕ) (hoff : off = off3 s) (inb) (f : outS.view.ty.Contents (Elt F)) (w : Vec F S1x512x4096 .f32) :
    (outSlot s).view.read (Elt F) (View.write (Elt F) (outS.access (Rect.unit (s := S2x512x4096) off S1x512x4096.size inb)) f w Finset.univ)
      = fun y : S512x4096.Idx => w (ix3 0 (y 0) (y 1)) := by
  subst hoff
  funext y
  obtain ⟨q, r, rfl⟩ : ∃ q r, y = ix2 q r := ⟨y 0, y 1, eq_ix2 y⟩
  have h := View.read_write_univ (v := outS.access (Rect.unit (s := S2x512x4096) (off3 s) S1x512x4096.size inb)) f w
  have h2 := shapeCast_1ab_ab_apply (View.read (Elt F) (outS.access (Rect.unit (s := S2x512x4096) (off3 s) S1x512x4096.size inb))
    (View.write (Elt F) (outS.access (Rect.unit (s := S2x512x4096) (off3 s) S1x512x4096.size inb)) f w Finset.univ)) (by decide) q r
  exact h2.trans (congrFun h _)

/-- The row of `final_g` the body loads. -/
theorem fg_load (inb) (fg : fgS.view.ty.Contents (Elt F)) :
    View.readAt (Elt F) fgS.view (Rect.unit (s := S1x4096) ![0, 0] S1x4096.size inb).toLoadRect fg = fgS.view.read (Elt F) fg := by
  funext y
  rw [View.readAt_apply]
  congr 1
  funext a
  match a with
  | ⟨0, _⟩ => exact Fin.ext (show 0 + 1 * (y 0).val = (y 0).val by omega)
  | ⟨1, _⟩ => exact Fin.ext (show 0 + 1 * (y 1).val = (y 1).val by omega)

/-- The eighth piece stored, the slot normalised in place. -/
theorem norm_store {s : Fin 2} {j : Fin 16} {n : ℕ} {fo} (H : Cols c XM XW XX s j n fo) (hn : n = 8) (off : Fin 3 → ℕ) (hoff : off = off3 s) (inb inb' ig)
    (fg : fgS.view.ty.Contents (Elt F)) (hg : fgS.view.read (Elt F) fg = FG) :
    (outSlot s).view.read (Elt F) (View.write (Elt F) (outS.access (Rect.unit (s := S2x512x4096) off S1x512x4096.size inb)) fo
        (k0_pay2 (View.readAt (Elt F) outS.view (Rect.unit (s := S2x512x4096) off S1x512x4096.size inb').toLoadRect fo)
          (View.readAt (Elt F) fgS.view (Rect.unit (s := S1x4096) ![0, 0] S1x4096.size ig).toLoadRect fg)) Finset.univ)
      = normV c XM XW XX FG j := by
  subst hn
  have e1 : View.readAt (Elt F) outS.view (Rect.unit (s := S2x512x4096) off S1x512x4096.size inb').toLoadRect fo
      = fun z : S1x512x4096.Idx => rowV c XM XW XX j (ix2 (z 1) (z 2)) := by
    refine (out_load s off hoff inb' fo).trans (funext fun z => H _ ?_)
    have : (z 2).val < 4096 := (z 2).isLt
    show (z 2).val < 512 * 8
    omega
  have e2 := (fg_load ig fg).trans hg
  refine (out_store s off hoff inb _ _).trans ?_
  funext y
  exact congrFun (congr (congrArg k0_pay2 e1) e2) _

end Cert.OutProj

end
-- ==== Proof.Steps.lean ====
/-
  The state of each ring of `cc0_out_proj` around one trip: a slot in flight with its block, a slot free, a slot whose
  contents the trip reads or extends, and the rows of the result shipped so far.
-/
module

public import proofs.«01_k».proof.Proof.Values

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

/-! ## The three rings that bring operands in -/

abbrev woIn (k : ℕ) : sProp 𝕄 :=
  iprop(∃ f, flightP c (woSem (Ring.sl 2 k)) 262144 (woSlot (Ring.sl 2 k)) (woBlk (Ring.bk 8 k)) (woAt c XW (Ring.bk 8 k)) f)
abbrev woFree (k : ℕ) : sProp 𝕄 := iprop((∃ f, heldP (F := F) c (woSlot (Ring.sl 2 k)) f) ∗ cellP c (woSem (Ring.sl 2 k)))
abbrev woHome (n : Fin 8) : sProp 𝕄 := heldP c (woBlk n) (woAt c XW n)

abbrev xIn (k : ℕ) : sProp 𝕄 :=
  iprop(∃ f, flightP c (xSem (Ring.sl 2 k)) 32768 (xSlot (Ring.sl 2 k)) (xBlk (Ring.bk 128 k)) (xAt c XX (Ring.bk 128 k)) f)
abbrev xFree (k : ℕ) : sProp 𝕄 := iprop((∃ f, heldP (F := F) c (xSlot (Ring.sl 2 k)) f) ∗ cellP c (xSem (Ring.sl 2 k)))
abbrev xHome (i : Fin 128) : sProp 𝕄 := heldP c (xBlk i) (xAt c XX i)

abbrev mixIn (j : ℕ) : sProp 𝕄 :=
  iprop(∃ f, flightP c (mixSem (Ring.sl 2 j)) 262144 (mixSlot (Ring.sl 2 j)) (mixBlk (Ring.bk 16 j)) (mixAt c XM (Ring.bk 16 j)) f)
abbrev mixFree (j : ℕ) : sProp 𝕄 := iprop((∃ f, heldP (F := F) c (mixSlot (Ring.sl 2 j)) f) ∗ cellP c (mixSem (Ring.sl 2 j)))
abbrev mixHome (i : Fin 16) : sProp 𝕄 := heldP c (mixBlk i) (mixAt c XM i)
/-- The slot holds the block of mixed features of row `j`. -/
abbrev mixHold (j : ℕ) : sProp 𝕄 :=
  iprop(∃ f, heldP c (mixSlot (Ring.sl 2 j)) f ∗ ⌜(mixSlot (Ring.sl 2 j)).view.read (Elt F) f = (mixBlk (Ring.bk 16 j)).view.read (Elt F) (mixAt c XM (Ring.bk 16 j))⌝)

/-! ## The ring that ships the rows -/

/-- The slot holds the first `n` pieces of row `j`. -/
abbrev outHold (j n : ℕ) : sProp 𝕄 :=
  iprop(∃ fo, heldP c (outSlot (Ring.sl 2 j)) fo ∗ ⌜Cols c XM XW XX (Ring.sl 2 j) (Ring.bk 16 j) n fo⌝)
abbrev outAny (j : ℕ) : sProp 𝕄 := iprop(∃ f, heldP (F := F) c (outSlot (Ring.sl 2 j)) f)
abbrev outCell (j : ℕ) : sProp 𝕄 := cellP (F := F) c (outSem (Ring.sl 2 j))
abbrev rowAny (i : Fin 16) : sProp 𝕄 := iprop(∃ f, heldP (F := F) c (rowBlk i) f)
/-- Row `i` of the result is shipped. -/
abbrev rowDone (i : Fin 16) : sProp 𝕄 :=
  iprop(∃ f, heldP c (rowBlk i) f ∗ ⌜(rowBlk i).view.read (Elt F) f = normV c XM XW XX FG i⌝)
/-- Row `j` on its way out of its slot. -/
abbrev outIn (j : ℕ) : sProp 𝕄 :=
  iprop(∃ f1 f2, Transfers.Flight countersEmb (c : Thread nD τ) (SemLoc.dma (outSem (Ring.sl 2 j)).sem) () 262144
      iprop(heldP c (rowBlk (Ring.bk 16 j)) f1 ∗ heldP c (outSlot (Ring.sl 2 j)) f2)
    ∗ ⌜(rowBlk (Ring.bk 16 j)).view.read (Elt F) f1 = normV c XM XW XX FG (Ring.bk 16 j)⌝)

abbrev owesP : sProp 𝕄 := iprop(∃ W, owes (c : Thread nD τ) 0 W)

/-! ## The trip -/

/-- Trip `k` of the loop on the words carried into it. -/
abbrev tripG (k : Trip) : Prog (TpuEff nD τ sig (Elt F) Λ₀ .tc) (BitVec 32 × BitVec 32 × BitVec 32 × BitVec 32 × BitVec 32 × BitVec 32 × BitVec 32 × BitVec 32 × BitVec 32 × BitVec 32 × BitVec 32) :=
  k0_t1_body (F := F) mixM (Memref.isWhole_whole _) woM (Memref.isWhole_whole _) xM (Memref.isWhole_whole _) fgM (Memref.isWhole_whole _) resM (Memref.isWhole_whole _) mixS (Memref.isWhole_whole _) cc0_scoped1 woS (Memref.isWhole_whole _) cc0_scoped3 xS (Memref.isWhole_whole _) cc0_scoped5 fgS (Memref.isWhole_whole _) outS (Memref.isWhole_whole _) cc0_scoped8 cc0_scoped9 1#32 1#32 1#32 0#32 0#32 0#32 0#32 0#32 0#32 0#32 0#32 k (words k)

/-- A trip runs from `P` to `Q`, and hands the next trip its words. -/
abbrev TripRuns (k : Trip) (P Q : sProp 𝕄) : Prop :=
  P ⊢ wp frame (wpE (defs₀ (F := F)) 𝒱₀ (c : Thread nD τ) none) Set.univ (tripG k) (fun acc => iprop(⌜acc = words (k.val + 1)⌝ ∗ Q))

theorem step_index (k : Trip) : Ring.bk 128 k.val = Ring.bk 128 (8 * (Ring.bk 16 (k.val / 8)).val + (Ring.bk 8 k.val).val) := by
  have h : k.val < 128 := Nat.lt_of_lt_of_eq k.isLt trips_eq
  apply Fin.ext
  show k.val % 128 = (8 * (k.val / 8 % 16) + k.val % 8) % 128
  omega

end Cert.OutProj

end
-- ==== Proof.Rings.lean ====
/-
  The rings of `cc0_out_proj` before each trip of its loop, and what they become after it.
-/
module

public import proofs.«01_k».proof.Proof.Steps

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

/-! ## A ring of two slots that brings in one block a step -/

section Ring

/-- Before step `k`: block `k` in flight, the other slot free, the other blocks at home; after the last step both slots
    free and every block at home. -/
def ringAt {N : ℕ} [NeZero N] (T : ℕ) (inP free : ℕ → sProp 𝕄) (home : Fin N → sProp 𝕄) (k : ℕ) : sProp 𝕄 :=
  if k < T then iprop(inP k ∗ free (k + 1) ∗ bigSep (Finset.univ.erase (Ring.bk N k)) home)
  else iprop(free k ∗ free (k + 1) ∗ bigSep Finset.univ home)

theorem home_out {N : ℕ} [NeZero N] (home : Fin N → sProp 𝕄) (b : Fin N) : bigSep Finset.univ home = iprop(home b ∗ bigSep (Finset.univ.erase b) home) := by
  conv_lhs => rw [← Finset.insert_erase (Finset.mem_univ b), bigSep_insert (Finset.notMem_erase _ _)]
  rfl

theorem home_out2 {N : ℕ} [NeZero N] (home : Fin N → sProp 𝕄) {a b : Fin N} (h : a ≠ b) :
    bigSep (Finset.univ.erase b) home = iprop(home a ∗ bigSep ((Finset.univ.erase b).erase a) home) := by
  conv_lhs => rw [← Finset.insert_erase (Finset.mem_erase.2 ⟨h, Finset.mem_univ a⟩), bigSep_insert (Finset.notMem_erase _ _)]
  rfl

/-- What a step that is not the last takes from the ring and puts back. -/
theorem ring_step {N : ℕ} [NeZero N] (T : ℕ) (inP free : ℕ → sProp 𝕄) (home : Fin N → sProp 𝕄) (k : ℕ) (hk : k + 1 < T) (hN : Ring.bk N (k + 1) ≠ Ring.bk N k) (hf : free (k + 1 + 1) = free k) :
    ∃ R : sProp 𝕄, (ringAt T inP free home k ⊢ iprop((inP k ∗ free (k + 1) ∗ home (Ring.bk N (k + 1))) ∗ R))
      ∧ (iprop((inP (k + 1) ∗ free k ∗ home (Ring.bk N k)) ∗ R) ⊢ ringAt T inP free home (k + 1)) := by
  refine ⟨bigSep ((Finset.univ.erase (Ring.bk N k)).erase (Ring.bk N (k + 1))) home, ?_, ?_⟩
  · unfold ringAt
    rw [if_pos (show k < T by omega), home_out2 home hN]
    iintro ⟨H1, H2, H3, H4⟩
    isplitl [H1 H2 H3]
    · isplitl [H1]; · iexact H1
      isplitl [H2]; · iexact H2
      iexact H3
    iexact H4
  · unfold ringAt
    rw [if_pos hk, home_out2 home hN.symm, hf, Finset.erase_right_comm]
    iintro ⟨⟨H1, H2, H3⟩, H4⟩
    isplitl [H1]; · iexact H1
    isplitl [H2]; · iexact H2
    isplitl [H3]; · iexact H3
    iexact H4

/-- And what the last step does. -/
theorem ring_last {N : ℕ} [NeZero N] (T : ℕ) (inP free : ℕ → sProp 𝕄) (home : Fin N → sProp 𝕄) (k : ℕ) (hk : k + 1 = T) (hf : free (k + 1 + 1) = free k) :
    ∃ R : sProp 𝕄, (ringAt T inP free home k ⊢ iprop(inP k ∗ R))
      ∧ (iprop((free k ∗ home (Ring.bk N k)) ∗ R) ⊢ ringAt T inP free home (k + 1)) := by
  refine ⟨iprop(free (k + 1) ∗ bigSep (Finset.univ.erase (Ring.bk N k)) home), ?_, ?_⟩
  · unfold ringAt
    rw [if_pos (show k < T by omega)]
  · unfold ringAt
    rw [if_neg (show ¬ k + 1 < T by omega), home_out home (Ring.bk N k), hf]
    iintro ⟨⟨H1, H2⟩, H3, H4⟩
    isplitl [H3]; · iexact H3
    isplitl [H1]; · iexact H1
    isplitl [H2]; · iexact H2
    iexact H4

end Ring

theorem woFree_next (k : ℕ) : woFree (F := F) c (k + 1 + 1) = woFree c k := by
  unfold woFree; rw [show Ring.sl 2 (k + 1 + 1) = Ring.sl 2 k from Ring.sl_add 2 k]
theorem xFree_next (k : ℕ) : xFree (F := F) c (k + 1 + 1) = xFree c k := by
  unfold xFree; rw [show Ring.sl 2 (k + 1 + 1) = Ring.sl 2 k from Ring.sl_add 2 k]
theorem mixFree_next (k : ℕ) : mixFree (F := F) c (k + 1 + 1) = mixFree c k := by
  unfold mixFree; rw [show Ring.sl 2 (k + 1 + 1) = Ring.sl 2 k from Ring.sl_add 2 k]

theorem bk_ne {N : ℕ} [NeZero N] (hN : 1 < N) (k : ℕ) : Ring.bk N (k + 1) ≠ Ring.bk N k := by
  intro h
  have h' : (k + 1) % N = k % N := congrArg Fin.val h
  have := Nat.ModEq.add_left_cancel' k (show k + 1 ≡ k + 0 [MOD N] from h')
  have e : 1 % N = 0 % N := this
  rw [Nat.mod_eq_of_lt hN, Nat.zero_mod] at e
  exact absurd e (by decide)

/-! ## The rings before trip `k` -/

abbrev woRing (k : ℕ) : sProp 𝕄 := ringAt 128 (woIn c XW) (woFree c) (woHome c XW) k
abbrev xRing (k : ℕ) : sProp 𝕄 := ringAt 128 (xIn c XX) (xFree c) (xHome c XX) k
/-- The mixed features: in flight before a row's first trip, held during the row. -/
def mixRing (k : ℕ) : sProp 𝕄 :=
  if k % 8 = 0 then ringAt 16 (mixIn c XM) (mixFree c) (mixHome c XM) (k / 8)
  else iprop(mixHold c XM (k / 8) ∗ cellP c (mixSem (Ring.sl 2 (k / 8))) ∗ mixFree c (k / 8 + 1) ∗ bigSep Finset.univ (mixHome c XM))

/-- Row `i` of the result once `d` rows are shipped. -/
def rowP (d : ℕ) (i : Fin 16) : sProp 𝕄 := if i.val < d then rowDone c XM XW XX FG i else rowAny c i
abbrev outFree (j : ℕ) : sProp 𝕄 := iprop(outAny (F := F) c j ∗ outCell c j)
/-- The rows: one gathered, the one before it on its way out at the row's first trip. -/
def outRing (k : ℕ) : sProp 𝕄 :=
  if k % 8 = 0 then
    (if k = 0 then iprop(outFree c 0 ∗ outFree c 1 ∗ bigSep Finset.univ (rowP c XM XW XX FG 0))
      else iprop(outIn c XM XW XX FG ((k - 1) / 8) ∗ outFree c (k / 8) ∗ bigSep (Finset.univ.erase (Ring.bk 16 ((k - 1) / 8))) (rowP c XM XW XX FG (k / 8))))
  else iprop(outHold c XM XW XX (k / 8) (k % 8) ∗ outCell c (k / 8) ∗ outFree c (k / 8 + 1) ∗ bigSep Finset.univ (rowP c XM XW XX FG (k / 8)))

theorem outFree_next (k : ℕ) : outFree (F := F) c (k + 1 + 1) = outFree c k := by
  unfold outFree outAny outCell; rw [show Ring.sl 2 (k + 1 + 1) = Ring.sl 2 k from Ring.sl_add 2 k]

/-- A row about to be shipped is not yet; -/
theorem row_out (j : ℕ) (hj : j < 16) :
    bigSep Finset.univ (rowP c XM XW XX FG j) = iprop(rowAny c (Ring.bk 16 j) ∗ bigSep (Finset.univ.erase (Ring.bk 16 j)) (rowP c XM XW XX FG (j + 1))) := by
  rw [home_out (rowP c XM XW XX FG j) (Ring.bk 16 j)]
  have e : rowP c XM XW XX FG j (Ring.bk 16 j) = rowAny c (Ring.bk 16 j) := by
    unfold rowP; rw [if_neg]; rw [Ring.bk_val hj]; omega
  rw [e]
  congr 1
  refine bigSep_congr fun i hi => ?_
  have hne : i.val ≠ j := fun h => (Finset.mem_erase.1 hi).1 (Fin.ext (by rw [Ring.bk_val hj]; exact h))
  unfold rowP
  by_cases h : i.val < j
  · rw [if_pos h, if_pos (by omega)]
  · rw [if_neg h, if_neg (by omega)]
/-- a row shipped is. -/
theorem row_back (j : ℕ) (hj : j < 16) :
    iprop(rowDone c XM XW XX FG (Ring.bk 16 j) ∗ bigSep (Finset.univ.erase (Ring.bk 16 j)) (rowP c XM XW XX FG (j + 1)))
      = bigSep Finset.univ (rowP c XM XW XX FG (j + 1)) := by
  rw [home_out (rowP c XM XW XX FG (j + 1)) (Ring.bk 16 j)]
  have e : rowP c XM XW XX FG (j + 1) (Ring.bk 16 j) = rowDone c XM XW XX FG (Ring.bk 16 j) := by
    unfold rowP; rw [if_pos]; rw [Ring.bk_val hj]; omega
  rw [e]

/-- Everything the loop holds before trip `k`. -/
def loopRes (fg : Buf (Elt F) (fgS.view.loc (c : Thread nD τ))) (k : ℕ) : sProp 𝕄 :=
  iprop(mixRing c XM k ∗ woRing c XW k ∗ xRing c XX k ∗ outRing c XM XW XX (fgS.view.read (Elt F) fg) k ∗ heldP c fgS fg ∗ owesP c)

end Cert.OutProj

end
-- ==== Proof.TripA.lean ====
/-
  A trip in the middle of a row: one more piece.
-/
module

public import proofs.«01_k».proof.Proof.Steps

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

set_option backward.proofsInPublic true in
/-- A trip in the middle of a row: one more piece. -/
theorem trip_A (k : Trip) (hk : k.val < 127) (h0 : ¬ k.val % 8 = 0) (h7 : ¬ k.val % 8 = 7) :
    TripRuns c k
      iprop(mixHold c XM (k.val / 8) ∗ woIn c XW k ∗ woFree c (k.val + 1) ∗ woHome c XW (Ring.bk 8 (k.val + 1)) ∗ xIn c XX k ∗ xFree c (k.val + 1) ∗ xHome c XX (Ring.bk 128 (k.val + 1)) ∗ outHold c XM XW XX (k.val / 8) (k.val % 8) ∗ owesP c)
      iprop(mixHold c XM (k.val / 8) ∗ woIn c XW (k.val + 1) ∗ woFree c k ∗ woHome c XW (Ring.bk 8 k) ∗ xIn c XX (k.val + 1) ∗ xFree c k ∗ xHome c XX (Ring.bk 128 k) ∗ outHold c XM XW XX (k.val / 8) (k.val % 8 + 1) ∗ owesP c) := by
  have hc1 : ¬ k0_cond1 k (w15 k) (w16 k) = 1#1 := fun h => h7 ((cond1 k).1 h).1
  have hc2 : k0_cond2 k (w16 k) = 1#1 := (cond2 k).2 hk
  have hc3 : k0_cond3 k (w15 k) (w16 k) = 1#1 := (cond3 k).2 hk
  have hc4 : ¬ k0_cond4 k (w15 k) (w16 k) = 1#1 := fun h => h0 ((cond4 k).1 h)
  have hc5 := cond5 k
  have hc6 := cond6 k
  have hc8 : ¬ k0_cond8 (w16 k) = 1#1 := fun h => h7 ((cond8 k).1 h)
  have hc12 : ¬ k0_cond12 k (w15 k) (w16 k) = 1#1 := fun h => h7 ((cond12 k).1 h)
  have hc16 : ¬ k0_cond16 k (w15 k) (w16 k) = 1#1 := fun h => h0 ((cond16 k).1 h).1
  have k1 := chk1 k
  have k2 := chk2 k
  have k3 := chk3 k
  have k4 := chk4 k
  have k5 := chk5 k
  iintro ⟨⟨%fm, Hm, %hm⟩, ⟨%fw, FW⟩, ⟨⟨%fw2, Hw⟩, Cw⟩, Gw, ⟨%fx, FX⟩, ⟨⟨%fx2, Hx⟩, Cx⟩, Gx, ⟨%fo, Ho, %ho⟩, ⟨%W, HW⟩⟩
  dsimp only [tripG, words]
  sl_unfold [k0_t1_body]
  sl_exec
  sl_step
  isplitr
  · sl_unfold_run_names
    ipureintro
    clear hc1 hc2 hc3 hc4 hc5 hc6 hc8 hc12 hc16 k1 k2 k3 k4 k5 hm ho fm fw fw2 fx fx2 fo W h0 h7
    simp only [Prod.mk.injEq]
    refine ⟨?_, ?_, ?_, ?_, ?_, ?_, ?_, ?_, ?_, ?_, ?_⟩ <;> (revert hk; revert k; decide +kernel)
  isplitl [Hm]
  · iexists _; isplitl [Hm]; · iexact Hm
    ipureintro; exact hm
  isplitl [Cw]
  · iexists _; iexact Cw
  isplitl [FW_dst FW]
  · isplitl [FW_dst]; · iexists _; iexact FW_dst
    iexact FW
  isplitl [FW_src]
  · iexact FW_src
  isplitl [Cx]
  · iexists _; iexact Cx
  isplitl [FX_dst FX]
  · isplitl [FX_dst]; · iexists _; iexact FX_dst
    iexact FX
  isplitl [FX_src]
  · iexact FX_src
  isplitl [Ho]
  · iexists _; isplitl [Ho]; · iexact Ho
    sl_unfold_run_names; ipureintro
    exact (Cols.step (n := Ring.bk 8 k.val) ho _ (o27 k) _ _ (piece_load (step_index k) _ (o23 k) _ _ _ _ _ _ _ hm)).cast rfl
  iexists _; iexact HW

end Cert.OutProj

end
-- ==== Proof.TripB.lean ====
/-
  The first trip of a later row: the row before it has been shipped, its mixed features arrive.
-/
module

public import proofs.«01_k».proof.Proof.Steps

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

set_option backward.proofsInPublic true in
/-- The first trip of a later row: the row before it has been shipped, its mixed features arrive. -/
theorem trip_B (k : Trip) (hk : k.val < 127) (h0 : k.val % 8 = 0) (h7 : ¬ k.val % 8 = 7) (hp : 0 < k.val) :
    TripRuns c k
      iprop(mixIn c XM (k.val / 8) ∗ woIn c XW k ∗ woFree c (k.val + 1) ∗ woHome c XW (Ring.bk 8 (k.val + 1)) ∗ xIn c XX k ∗ xFree c (k.val + 1) ∗ xHome c XX (Ring.bk 128 (k.val + 1)) ∗ outAny c (k.val / 8) ∗ outIn c XM XW XX FG ((k.val - 1) / 8) ∗ owesP c)
      iprop(mixHold c XM (k.val / 8) ∗ cellP c (mixSem (Ring.sl 2 (k.val / 8))) ∗ mixHome c XM (Ring.bk 16 (k.val / 8)) ∗ woIn c XW (k.val + 1) ∗ woFree c k ∗ woHome c XW (Ring.bk 8 k) ∗ xIn c XX (k.val + 1) ∗ xFree c k ∗ xHome c XX (Ring.bk 128 k) ∗ outHold c XM XW XX (k.val / 8) 1 ∗ rowDone c XM XW XX FG (Ring.bk 16 ((k.val - 1) / 8)) ∗ outAny c ((k.val - 1) / 8) ∗ outCell c ((k.val - 1) / 8) ∗ owesP c) := by
  have hc1 : ¬ k0_cond1 k (w15 k) (w16 k) = 1#1 := fun h => h7 ((cond1 k).1 h).1
  have hc2 : k0_cond2 k (w16 k) = 1#1 := (cond2 k).2 hk
  have hc3 : k0_cond3 k (w15 k) (w16 k) = 1#1 := (cond3 k).2 hk
  have hc4 : k0_cond4 k (w15 k) (w16 k) = 1#1 := (cond4 k).2 h0
  have hc5 := cond5 k
  have hc6 := cond6 k
  have hc8 : ¬ k0_cond8 (w16 k) = 1#1 := fun h => h7 ((cond8 k).1 h)
  have hc12 : ¬ k0_cond12 k (w15 k) (w16 k) = 1#1 := fun h => h7 ((cond12 k).1 h)
  have hc16 : k0_cond16 k (w15 k) (w16 k) = 1#1 := (cond16 k).2 ⟨h0, hp⟩
  have k1 := chk1 k
  have k2 := chk2 k
  have k3 := chk3 k
  have k4 := chk4 k
  have k5 := chk5 k
  iintro ⟨⟨%fm, FM⟩, ⟨%fw, FW⟩, ⟨⟨%fw2, Hw⟩, Cw⟩, Gw, ⟨%fx, FX⟩, ⟨⟨%fx2, Hx⟩, Cx⟩, Gx, ⟨%fo, Ho⟩, ⟨%f1, %f2, FO, %hf⟩, ⟨%W, HW⟩⟩
  dsimp only [tripG, words]
  sl_unfold [k0_t1_body]
  sl_exec
  sl_step
  isplitr
  · sl_unfold_run_names
    ipureintro
    clear hc1 hc2 hc3 hc4 hc5 hc6 hc8 hc12 hc16 k1 k2 k3 k4 k5 hf fm fw fw2 fx fx2 fo f1 f2 W h0 h7 hp
    simp only [Prod.mk.injEq]
    refine ⟨?_, ?_, ?_, ?_, ?_, ?_, ?_, ?_, ?_, ?_, ?_⟩ <;> (revert hk; revert k; decide +kernel)
  isplitl [FM_dst]
  · iexists _; isplitl [FM_dst]; · iexact FM_dst
    sl_unfold_run_names; ipureintro; exact View.read_writes_whole _ _ _
  isplitl [FM]
  · iexact FM
  isplitl [FM_src]
  · iexact FM_src
  isplitl [Cw]
  · iexists _; iexact Cw
  isplitl [FW_dst FW]
  · isplitl [FW_dst]; · iexists _; iexact FW_dst
    iexact FW
  isplitl [FW_src]
  · iexact FW_src
  isplitl [Cx]
  · iexists _; iexact Cx
  isplitl [FX_dst FX]
  · isplitl [FX_dst]; · iexists _; iexact FX_dst
    iexact FX
  isplitl [FX_src]
  · iexact FX_src
  isplitl [Ho]
  · iexists _; isplitl [Ho]; · iexact Ho
    sl_unfold_run_names; ipureintro
    exact (Cols.step (n := Ring.bk 8 k.val) (Cols.zero h0) _ (o27 k) _ _ (piece_load (step_index k) _ (o23 k) _ _ _ _ _ _ _ (View.read_writes_whole _ _ _))).cast (congrArg (· + 1) h0)
  isplitl [FO_dst]
  · iexists _; isplitl [FO_dst]; · iexact FO_dst
    ipureintro; exact hf
  isplitl [FO_src]
  · iexists _; iexact FO_src
  isplitl [FO]
  · iexact FO
  iexists _; iexact HW

end Cert.OutProj

end
-- ==== Proof.TripC.lean ====
/-
  The last trip of a row: the row is normalised and sent, the next row's mixed features are asked for.
-/
module

public import proofs.«01_k».proof.Proof.Steps

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

set_option backward.proofsInPublic true in
/-- The last trip of a row: the row is normalised and sent, the next row's mixed features are asked for. -/
theorem trip_C (k : Trip) (hk : k.val < 127) (h0 : ¬ k.val % 8 = 0) (h7 : k.val % 8 = 7) (fg : Buf (Elt F) (fgS.view.loc (c : Thread nD τ))) (hg : fgS.view.read (Elt F) fg = FG) :
    TripRuns c k
      iprop(mixHold c XM (k.val / 8) ∗ mixFree c (k.val / 8 + 1) ∗ mixHome c XM (Ring.bk 16 (k.val / 8 + 1)) ∗ woIn c XW k ∗ woFree c (k.val + 1) ∗ woHome c XW (Ring.bk 8 (k.val + 1)) ∗ xIn c XX k ∗ xFree c (k.val + 1) ∗ xHome c XX (Ring.bk 128 (k.val + 1)) ∗ outHold c XM XW XX (k.val / 8) (k.val % 8) ∗ outCell c (k.val / 8) ∗ rowAny c (Ring.bk 16 (k.val / 8)) ∗ heldP c fgS fg ∗ owesP c)
      iprop((∃ f, heldP c (mixSlot (Ring.sl 2 (k.val / 8))) f) ∗ mixIn c XM (k.val / 8 + 1) ∗ woIn c XW (k.val + 1) ∗ woFree c k ∗ woHome c XW (Ring.bk 8 k) ∗ xIn c XX (k.val + 1) ∗ xFree c k ∗ xHome c XX (Ring.bk 128 k) ∗ outIn c XM XW XX FG (k.val / 8) ∗ heldP c fgS fg ∗ owesP c) := by
  have hc1 : k0_cond1 k (w15 k) (w16 k) = 1#1 := (cond1 k).2 ⟨h7, hk⟩
  have hc2 : k0_cond2 k (w16 k) = 1#1 := (cond2 k).2 hk
  have hc3 : k0_cond3 k (w15 k) (w16 k) = 1#1 := (cond3 k).2 hk
  have hc4 : ¬ k0_cond4 k (w15 k) (w16 k) = 1#1 := fun h => h0 ((cond4 k).1 h)
  have hc5 := cond5 k
  have hc6 := cond6 k
  have hc8 : k0_cond8 (w16 k) = 1#1 := (cond8 k).2 h7
  have hc12 : k0_cond12 k (w15 k) (w16 k) = 1#1 := (cond12 k).2 h7
  have hc16 : ¬ k0_cond16 k (w15 k) (w16 k) = 1#1 := fun h => h0 ((cond16 k).1 h).1
  have k1 := chk1 k
  have k2 := chk2 k
  have k3 := chk3 k
  have k4 := chk4 k
  have k5 := chk5 k
  iintro ⟨⟨%fm, Hm, %hm⟩, ⟨⟨%fm2, Hm2⟩, Cm2⟩, Gm2, ⟨%fw, FW⟩, ⟨⟨%fw2, Hw⟩, Cw⟩, Gw, ⟨%fx, FX⟩, ⟨⟨%fx2, Hx⟩, Cx⟩, Gx, ⟨%fo, Ho, %ho⟩, Co, ⟨%fr, Hr⟩, Hfg, ⟨%W, HW⟩⟩
  dsimp only [tripG, words]
  sl_unfold [k0_t1_body]
  sl_exec
  sl_step
  isplitr
  · sl_unfold_run_names
    ipureintro
    clear hc1 hc2 hc3 hc4 hc5 hc6 hc8 hc12 hc16 k1 k2 k3 k4 k5 hm ho fm fm2 fw fw2 fx fx2 fo fr W h0 h7
    simp only [Prod.mk.injEq]
    refine ⟨?_, ?_, ?_, ?_, ?_, ?_, ?_, ?_, ?_, ?_, ?_⟩ <;> (revert hk; revert k; decide +kernel)
  isplitl [Hm]
  · iexists _; iexact Hm
  isplitl [Cm2]
  · iexists _; iexact Cm2
  isplitl [Cw]
  · iexists _; iexact Cw
  isplitl [FW_dst FW]
  · isplitl [FW_dst]; · iexists _; iexact FW_dst
    iexact FW
  isplitl [FW_src]
  · iexact FW_src
  isplitl [Cx]
  · iexists _; iexact Cx
  isplitl [FX_dst FX]
  · isplitl [FX_dst]; · iexists _; iexact FX_dst
    iexact FX
  isplitl [FX_src]
  · iexact FX_src
  isplitl [Co]
  · iexists _; iexists _; isplitl [Co]; · iexact Co
    sl_unfold_run_names; ipureintro
    refine (View.read_writes_whole _ _ _).trans ?_
    exact norm_store (Cols.step (n := Ring.bk 8 k.val) ho _ (o27 k) _ _ (piece_load (step_index k) _ (o23 k) _ _ _ _ _ _ _ hm)) (congrArg (· + 1) h7) _ (o28 k) _ _ _ fg hg
  isplitl [Hfg]
  · iexact Hfg
  iexists _; iexact HW

end Cert.OutProj

end
-- ==== Proof.TripD.lean ====
/-
  The last trip of all: nothing is asked for any more.
-/
module

public import proofs.«01_k».proof.Proof.Steps

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

set_option backward.proofsInPublic true in
/-- The last trip of all: nothing is asked for any more. -/
theorem trip_D (k : Trip) (hk : ¬ k.val < 127) (h0 : ¬ k.val % 8 = 0) (h7 : k.val % 8 = 7) (fg : Buf (Elt F) (fgS.view.loc (c : Thread nD τ))) (hg : fgS.view.read (Elt F) fg = FG) :
    TripRuns c k
      iprop(mixHold c XM (k.val / 8) ∗ woIn c XW k ∗ xIn c XX k ∗ outHold c XM XW XX (k.val / 8) (k.val % 8) ∗ outCell c (k.val / 8) ∗ rowAny c (Ring.bk 16 (k.val / 8)) ∗ heldP c fgS fg ∗ owesP c)
      iprop((∃ f, heldP c (mixSlot (Ring.sl 2 (k.val / 8))) f) ∗ woFree c k ∗ woHome c XW (Ring.bk 8 k) ∗ xFree c k ∗ xHome c XX (Ring.bk 128 k) ∗ outIn c XM XW XX FG (k.val / 8) ∗ heldP c fgS fg ∗ owesP c) := by
  have hc1 : ¬ k0_cond1 k (w15 k) (w16 k) = 1#1 := fun h => hk ((cond1 k).1 h).2
  have hc2 : ¬ k0_cond2 k (w16 k) = 1#1 := fun h => hk ((cond2 k).1 h)
  have hc3 : ¬ k0_cond3 k (w15 k) (w16 k) = 1#1 := fun h => hk ((cond3 k).1 h)
  have hc4 : ¬ k0_cond4 k (w15 k) (w16 k) = 1#1 := fun h => h0 ((cond4 k).1 h)
  have hc5 := cond5 k
  have hc6 := cond6 k
  have hc8 : k0_cond8 (w16 k) = 1#1 := (cond8 k).2 h7
  have hc12 : k0_cond12 k (w15 k) (w16 k) = 1#1 := (cond12 k).2 h7
  have hc16 : ¬ k0_cond16 k (w15 k) (w16 k) = 1#1 := fun h => h0 ((cond16 k).1 h).1
  have k1 := chk1 k
  have k2 := chk2 k
  have k3 := chk3 k
  have k4 := chk4 k
  have k5 := chk5 k
  iintro ⟨⟨%fm, Hm, %hm⟩, ⟨%fw, FW⟩, ⟨%fx, FX⟩, ⟨%fo, Ho, %ho⟩, Co, ⟨%fr, Hr⟩, Hfg, ⟨%W, HW⟩⟩
  dsimp only [tripG, words]
  sl_unfold [k0_t1_body]
  sl_exec
  sl_step
  isplitr
  · sl_unfold_run_names
    ipureintro
    clear hc1 hc2 hc3 hc4 hc5 hc6 hc8 hc12 hc16 k1 k2 k3 k4 k5 hm ho fm fw fx fo fr W h0 h7
    simp only [Prod.mk.injEq]
    refine ⟨?_, ?_, ?_, ?_, ?_, ?_, ?_, ?_, ?_, ?_, ?_⟩ <;> (revert hk; revert k; decide +kernel)
  isplitl [Hm]
  · iexists _; iexact Hm
  isplitl [FW_dst FW]
  · isplitl [FW_dst]; · iexists _; iexact FW_dst
    iexact FW
  isplitl [FW_src]
  · iexact FW_src
  isplitl [FX_dst FX]
  · isplitl [FX_dst]; · iexists _; iexact FX_dst
    iexact FX
  isplitl [FX_src]
  · iexact FX_src
  isplitl [Co]
  · iexists _; iexists _; isplitl [Co]; · iexact Co
    sl_unfold_run_names; ipureintro
    refine (View.read_writes_whole _ _ _).trans ?_
    exact norm_store (Cols.step (n := Ring.bk 8 k.val) ho _ (o27 k) _ _ (piece_load (step_index k) _ (o23 k) _ _ _ _ _ _ _ hm)) (congrArg (· + 1) h7) _ (o28 k) _ _ _ fg hg
  isplitl [Hfg]
  · iexact Hfg
  iexists _; iexact HW

end Cert.OutProj

end
-- ==== Proof.TripZ.lean ====
/-
  The first trip: row 0 is begun.
-/
module

public import proofs.«01_k».proof.Proof.Steps

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

set_option backward.proofsInPublic true in
/-- The first trip: row 0 is begun. -/
theorem trip_Z (k : Trip) (hk : k.val < 127) (h0 : k.val % 8 = 0) (h7 : ¬ k.val % 8 = 7) (hp : ¬ 0 < k.val) :
    TripRuns c k
      iprop(mixIn c XM (k.val / 8) ∗ woIn c XW k ∗ woFree c (k.val + 1) ∗ woHome c XW (Ring.bk 8 (k.val + 1)) ∗ xIn c XX k ∗ xFree c (k.val + 1) ∗ xHome c XX (Ring.bk 128 (k.val + 1)) ∗ outAny c (k.val / 8) ∗ owesP c)
      iprop(mixHold c XM (k.val / 8) ∗ cellP c (mixSem (Ring.sl 2 (k.val / 8))) ∗ mixHome c XM (Ring.bk 16 (k.val / 8)) ∗ woIn c XW (k.val + 1) ∗ woFree c k ∗ woHome c XW (Ring.bk 8 k) ∗ xIn c XX (k.val + 1) ∗ xFree c k ∗ xHome c XX (Ring.bk 128 k) ∗ outHold c XM XW XX (k.val / 8) 1 ∗ owesP c) := by
  have hc1 : ¬ k0_cond1 k (w15 k) (w16 k) = 1#1 := fun h => h7 ((cond1 k).1 h).1
  have hc2 : k0_cond2 k (w16 k) = 1#1 := (cond2 k).2 hk
  have hc3 : k0_cond3 k (w15 k) (w16 k) = 1#1 := (cond3 k).2 hk
  have hc4 : k0_cond4 k (w15 k) (w16 k) = 1#1 := (cond4 k).2 h0
  have hc5 := cond5 k
  have hc6 := cond6 k
  have hc8 : ¬ k0_cond8 (w16 k) = 1#1 := fun h => h7 ((cond8 k).1 h)
  have hc12 : ¬ k0_cond12 k (w15 k) (w16 k) = 1#1 := fun h => h7 ((cond12 k).1 h)
  have hc16 : ¬ k0_cond16 k (w15 k) (w16 k) = 1#1 := fun h => hp ((cond16 k).1 h).2
  have k1 := chk1 k
  have k2 := chk2 k
  have k3 := chk3 k
  have k4 := chk4 k
  have k5 := chk5 k
  iintro ⟨⟨%fm, FM⟩, ⟨%fw, FW⟩, ⟨⟨%fw2, Hw⟩, Cw⟩, Gw, ⟨%fx, FX⟩, ⟨⟨%fx2, Hx⟩, Cx⟩, Gx, ⟨%fo, Ho⟩, ⟨%W, HW⟩⟩
  dsimp only [tripG, words]
  sl_unfold [k0_t1_body]
  sl_exec
  sl_step
  isplitr
  · sl_unfold_run_names
    ipureintro
    clear hc1 hc2 hc3 hc4 hc5 hc6 hc8 hc12 hc16 k1 k2 k3 k4 k5 fm fw fw2 fx fx2 fo W h0 h7 hp
    simp only [Prod.mk.injEq]
    refine ⟨?_, ?_, ?_, ?_, ?_, ?_, ?_, ?_, ?_, ?_, ?_⟩ <;> (revert hk; revert k; decide +kernel)
  isplitl [FM_dst]
  · iexists _; isplitl [FM_dst]; · iexact FM_dst
    sl_unfold_run_names; ipureintro; exact View.read_writes_whole _ _ _
  isplitl [FM]
  · iexact FM
  isplitl [FM_src]
  · iexact FM_src
  isplitl [Cw]
  · iexists _; iexact Cw
  isplitl [FW_dst FW]
  · isplitl [FW_dst]; · iexists _; iexact FW_dst
    iexact FW
  isplitl [FW_src]
  · iexact FW_src
  isplitl [Cx]
  · iexists _; iexact Cx
  isplitl [FX_dst FX]
  · isplitl [FX_dst]; · iexists _; iexact FX_dst
    iexact FX
  isplitl [FX_src]
  · iexact FX_src
  isplitl [Ho]
  · iexists _; isplitl [Ho]; · iexact Ho
    sl_unfold_run_names; ipureintro
    exact (Cols.step (n := Ring.bk 8 k.val) (Cols.zero h0) _ (o27 k) _ _ (piece_load (step_index k) _ (o23 k) _ _ _ _ _ _ _ (View.read_writes_whole _ _ _))).cast (congrArg (· + 1) h0)
  iexists _; iexact HW

end Cert.OutProj

end
-- ==== Proof.Loop.lean ====
/-
  The loop of `cc0_out_proj`: each trip takes the rings from one state to the next.
-/
module

public import proofs.«01_k».proof.Proof.Rings
public import proofs.«01_k».proof.Proof.TripA
public import proofs.«01_k».proof.Proof.TripB
public import proofs.«01_k».proof.Proof.TripC
public import proofs.«01_k».proof.Proof.TripD
public import proofs.«01_k».proof.Proof.TripZ
public import proofs.«01_k».proof.Proof.Gen.KernelIdeal.Loops

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

variable (fg : Buf (Elt F) (fgS.view.loc (c : Thread nD τ)))

/-- A trip takes the rings before it to the rings before the next. -/
abbrev LoopStep (k : Trip) : Prop :=
  loopRes c XM XW XX fg k.val ⊢ wp frame (wpE (defs₀ (F := F)) 𝒱₀ (c : Thread nD τ) none) Set.univ (tripG k)
    (fun acc => iprop(⌜acc = words (k.val + 1)⌝ ∗ loopRes c XM XW XX fg (k.val + 1)))

/-- A trip that runs from part of what the loop holds takes the rings on. -/
theorem LoopStep.of {k : Trip} {P Q R : sProp 𝕄} (h : TripRuns c k P Q) (ho : loopRes c XM XW XX fg k.val ⊢ iprop(P ∗ R))
    (hc : iprop(Q ∗ R) ⊢ loopRes c XM XW XX fg (k.val + 1)) : LoopStep c XM XW XX fg k := by
  unfold LoopStep
  iintro H
  ihave H2 := ho $$ H
  icases H2 with ⟨HP, HR⟩
  iapply (wp_wand_r Idealize.ShloMosaic.frame (wpE (defs₀ (F := F)) 𝒱₀ (c : Thread nD τ) none) Set.univ)
  isplitl [HP]
  · iapply h; iexact HP
  · iintro %acc ⟨%ha, HQ⟩
    isplitr; · ipureintro; exact ha
    iapply hc
    isplitl [HQ]; · iexact HQ
    iexact HR

theorem step_A (k : Trip) (hk : k.val < 127) (h0 : ¬ k.val % 8 = 0) (h7 : ¬ k.val % 8 = 7) : LoopStep c XM XW XX fg k := by
  have hT : k.val < 128 := Nat.lt_of_lt_of_eq k.isLt trips_eq
  have d : (k.val + 1) / 8 = k.val / 8 := by omega
  have r : (k.val + 1) % 8 = k.val % 8 + 1 := by omega
  have r0 : ¬ (k.val + 1) % 8 = 0 := by omega
  obtain ⟨RW, wo1, wo2⟩ := ring_step 128 (woIn c XW) (woFree c) (woHome c XW) k.val (by omega) (bk_ne (by decide) k.val) (woFree_next c k.val)
  obtain ⟨RX, x1, x2⟩ := ring_step 128 (xIn c XX) (xFree c) (xHome c XX) k.val (by omega) (bk_ne (by decide) k.val) (xFree_next c k.val)
  refine LoopStep.of (R := iprop(cellP c (mixSem (Ring.sl 2 (k.val / 8))) ∗ mixFree c (k.val / 8 + 1) ∗ bigSep Finset.univ (mixHome c XM) ∗ outCell c (k.val / 8) ∗ outFree c (k.val / 8 + 1) ∗ bigSep Finset.univ (rowP c XM XW XX (fgS.view.read (Elt F) fg) (k.val / 8)) ∗ heldP c fgS fg ∗ RW ∗ RX)) c XM XW XX fg (trip_A c XM XW XX  k hk h0 h7) ?_ ?_
  · unfold loopRes mixRing outRing
    rw [if_neg h0]
    rw [if_neg h0]
    iintro ⟨⟨Hm, Cm, Fm, Gm⟩, Wr, Xr, ⟨Ho, Co, Fo, Go⟩, Hfg, HO⟩
    ihave W2r := wo1 $$ Wr
    icases W2r with ⟨⟨W1, W2, W3⟩, RW⟩
    ihave X2r := x1 $$ Xr
    icases X2r with ⟨⟨X1, X2, X3⟩, RX⟩
    isplitl [Hm W1 W2 W3 X1 X2 X3 Ho HO]
    · isplitl [Hm]; · iexact Hm
      isplitl [W1]; · iexact W1
      isplitl [W2]; · iexact W2
      isplitl [W3]; · iexact W3
      isplitl [X1]; · iexact X1
      isplitl [X2]; · iexact X2
      isplitl [X3]; · iexact X3
      isplitl [Ho]; · iexact Ho
      iexact HO
    isplitl [Cm]; · iexact Cm
    isplitl [Fm]; · iexact Fm
    isplitl [Gm]; · iexact Gm
    isplitl [Co]; · iexact Co
    isplitl [Fo]; · iexact Fo
    isplitl [Go]; · iexact Go
    isplitl [Hfg]; · iexact Hfg
    isplitl [RW]; · iexact RW
    iexact RX
  · unfold loopRes mixRing outRing
    rw [if_neg r0, d]
    rw [if_neg r0, r]
    iintro ⟨⟨Hm, W1, W2, W3, X1, X2, X3, Ho, HO⟩, Cm, Fm, Gm, Co, Fo, Go, Hfg, RW, RX⟩
    isplitl [Hm Cm Fm Gm]
    · isplitl [Hm]; · iexact Hm
      isplitl [Cm]; · iexact Cm
      isplitl [Fm]; · iexact Fm
      iexact Gm
    isplitl [W1 W2 W3 RW]
    · iapply wo2
      isplitl [W1 W2 W3]
      · isplitl [W1]; · iexact W1
        isplitl [W2]; · iexact W2
        iexact W3
      iexact RW
    isplitl [X1 X2 X3 RX]
    · iapply x2
      isplitl [X1 X2 X3]
      · isplitl [X1]; · iexact X1
        isplitl [X2]; · iexact X2
        iexact X3
      iexact RX
    isplitl [Ho Co Fo Go]
    · isplitl [Ho]; · iexact Ho
      isplitl [Co]; · iexact Co
      isplitl [Fo]; · iexact Fo
      iexact Go
    isplitl [Hfg]; · iexact Hfg
    iexact HO

theorem step_Z (k : Trip) (hk : k.val < 127) (h0 : k.val % 8 = 0) (h7 : ¬ k.val % 8 = 7) (hp : ¬ 0 < k.val) : LoopStep c XM XW XX fg k := by
  have hT : k.val < 128 := Nat.lt_of_lt_of_eq k.isLt trips_eq
  have z : k.val = 0 := by omega
  have d : (k.val + 1) / 8 = k.val / 8 := by omega
  have dz : k.val / 8 = 0 := by omega
  have r : (k.val + 1) % 8 = 1 := by omega
  have r0 : ¬ (k.val + 1) % 8 = 0 := by omega
  obtain ⟨RW, wo1, wo2⟩ := ring_step 128 (woIn c XW) (woFree c) (woHome c XW) k.val (by omega) (bk_ne (by decide) k.val) (woFree_next c k.val)
  obtain ⟨RX, x1, x2⟩ := ring_step 128 (xIn c XX) (xFree c) (xHome c XX) k.val (by omega) (bk_ne (by decide) k.val) (xFree_next c k.val)
  refine LoopStep.of (R := iprop(mixFree c (k.val / 8 + 1) ∗ bigSep (Finset.univ.erase (Ring.bk 16 (k.val / 8))) (mixHome c XM) ∗ outCell c 0 ∗ outFree c 1 ∗ bigSep Finset.univ (rowP c XM XW XX (fgS.view.read (Elt F) fg) 0) ∗ heldP c fgS fg ∗ RW ∗ RX)) c XM XW XX fg (trip_Z c XM XW XX  k hk h0 h7 hp) ?_ ?_
  · unfold loopRes mixRing outRing
    rw [if_pos h0, ringAt, if_pos (show k.val / 8 < 16 by omega)]
    rw [if_pos h0, if_pos z, dz]
    iintro ⟨⟨Hm, Fm, Gm⟩, Wr, Xr, ⟨⟨Ho, Co⟩, Fo, Go⟩, Hfg, HO⟩
    ihave W2r := wo1 $$ Wr
    icases W2r with ⟨⟨W1, W2, W3⟩, RW⟩
    ihave X2r := x1 $$ Xr
    icases X2r with ⟨⟨X1, X2, X3⟩, RX⟩
    isplitl [Hm W1 W2 W3 X1 X2 X3 Ho HO]
    · isplitl [Hm]; · iexact Hm
      isplitl [W1]; · iexact W1
      isplitl [W2]; · iexact W2
      isplitl [W3]; · iexact W3
      isplitl [X1]; · iexact X1
      isplitl [X2]; · iexact X2
      isplitl [X3]; · iexact X3
      isplitl [Ho]; · iexact Ho
      iexact HO
    isplitl [Fm]; · iexact Fm
    isplitl [Gm]; · iexact Gm
    isplitl [Co]; · iexact Co
    isplitl [Fo]; · iexact Fo
    isplitl [Go]; · iexact Go
    isplitl [Hfg]; · iexact Hfg
    isplitl [RW]; · iexact RW
    iexact RX
  · unfold loopRes mixRing outRing
    rw [if_neg r0, d, home_out (mixHome c XM) (Ring.bk 16 (k.val / 8))]
    rw [if_neg r0, r, dz]
    iintro ⟨⟨Hm, Cm, Gb, W1, W2, W3, X1, X2, X3, Ho, HO⟩, Fm, Gm, Co, Fo, Go, Hfg, RW, RX⟩
    isplitl [Hm Cm Fm Gb Gm]
    · isplitl [Hm]; · iexact Hm
      isplitl [Cm]; · iexact Cm
      isplitl [Fm]; · iexact Fm
      isplitl [Gb]; · iexact Gb
      iexact Gm
    isplitl [W1 W2 W3 RW]
    · iapply wo2
      isplitl [W1 W2 W3]
      · isplitl [W1]; · iexact W1
        isplitl [W2]; · iexact W2
        iexact W3
      iexact RW
    isplitl [X1 X2 X3 RX]
    · iapply x2
      isplitl [X1 X2 X3]
      · isplitl [X1]; · iexact X1
        isplitl [X2]; · iexact X2
        iexact X3
      iexact RX
    isplitl [Ho Co Fo Go]
    · isplitl [Ho]; · iexact Ho
      isplitl [Co]; · iexact Co
      isplitl [Fo]; · iexact Fo
      iexact Go
    isplitl [Hfg]; · iexact Hfg
    iexact HO

theorem step_B (k : Trip) (hk : k.val < 127) (h0 : k.val % 8 = 0) (h7 : ¬ k.val % 8 = 7) (hp : 0 < k.val) : LoopStep c XM XW XX fg k := by
  have hT : k.val < 128 := Nat.lt_of_lt_of_eq k.isLt trips_eq
  have z : ¬ k.val = 0 := by omega
  have dj : (k.val - 1) / 8 + 1 = k.val / 8 := by omega
  have lj : (k.val - 1) / 8 < 16 := by omega
  have d : (k.val + 1) / 8 = k.val / 8 := by omega
  have r : (k.val + 1) % 8 = 1 := by omega
  have r0 : ¬ (k.val + 1) % 8 = 0 := by omega
  obtain ⟨RW, wo1, wo2⟩ := ring_step 128 (woIn c XW) (woFree c) (woHome c XW) k.val (by omega) (bk_ne (by decide) k.val) (woFree_next c k.val)
  obtain ⟨RX, x1, x2⟩ := ring_step 128 (xIn c XX) (xFree c) (xHome c XX) k.val (by omega) (bk_ne (by decide) k.val) (xFree_next c k.val)
  refine LoopStep.of (R := iprop(mixFree c (k.val / 8 + 1) ∗ bigSep (Finset.univ.erase (Ring.bk 16 (k.val / 8))) (mixHome c XM) ∗ outCell c (k.val / 8) ∗ bigSep (Finset.univ.erase (Ring.bk 16 ((k.val - 1) / 8))) (rowP c XM XW XX (fgS.view.read (Elt F) fg) (k.val / 8)) ∗ heldP c fgS fg ∗ RW ∗ RX)) c XM XW XX fg (trip_B c XM XW XX (fgS.view.read (Elt F) fg) k hk h0 h7 hp) ?_ ?_
  · unfold loopRes mixRing outRing
    rw [if_pos h0, ringAt, if_pos (show k.val / 8 < 16 by omega)]
    rw [if_pos h0, if_neg z]
    iintro ⟨⟨Hm, Fm, Gm⟩, Wr, Xr, ⟨Hi, ⟨Ho, Co⟩, Go⟩, Hfg, HO⟩
    ihave W2r := wo1 $$ Wr
    icases W2r with ⟨⟨W1, W2, W3⟩, RW⟩
    ihave X2r := x1 $$ Xr
    icases X2r with ⟨⟨X1, X2, X3⟩, RX⟩
    isplitl [Hm W1 W2 W3 X1 X2 X3 Ho Hi HO]
    · isplitl [Hm]; · iexact Hm
      isplitl [W1]; · iexact W1
      isplitl [W2]; · iexact W2
      isplitl [W3]; · iexact W3
      isplitl [X1]; · iexact X1
      isplitl [X2]; · iexact X2
      isplitl [X3]; · iexact X3
      isplitl [Ho]; · iexact Ho
      isplitl [Hi]; · iexact Hi
      iexact HO
    isplitl [Fm]; · iexact Fm
    isplitl [Gm]; · iexact Gm
    isplitl [Co]; · iexact Co
    isplitl [Go]; · iexact Go
    isplitl [Hfg]; · iexact Hfg
    isplitl [RW]; · iexact RW
    iexact RX
  · unfold loopRes mixRing outRing
    rw [if_neg r0, d, home_out (mixHome c XM) (Ring.bk 16 (k.val / 8))]
    rw [if_neg r0, r, ← dj, outFree_next c, ← row_back c XM XW XX (fgS.view.read (Elt F) fg) _ lj]
    iintro ⟨⟨Hm, Cm, Gb, W1, W2, W3, X1, X2, X3, Ho, Hd, Ha, Hc, HO⟩, Fm, Gm, Co, Go, Hfg, RW, RX⟩
    isplitl [Hm Cm Fm Gb Gm]
    · isplitl [Hm]; · iexact Hm
      isplitl [Cm]; · iexact Cm
      isplitl [Fm]; · iexact Fm
      isplitl [Gb]; · iexact Gb
      iexact Gm
    isplitl [W1 W2 W3 RW]
    · iapply wo2
      isplitl [W1 W2 W3]
      · isplitl [W1]; · iexact W1
        isplitl [W2]; · iexact W2
        iexact W3
      iexact RW
    isplitl [X1 X2 X3 RX]
    · iapply x2
      isplitl [X1 X2 X3]
      · isplitl [X1]; · iexact X1
        isplitl [X2]; · iexact X2
        iexact X3
      iexact RX
    isplitl [Ho Co Ha Hc Hd Go]
    · isplitl [Ho]; · iexact Ho
      isplitl [Co]; · iexact Co
      isplitl [Ha Hc]
      · isplitl [Ha]; · iexact Ha
        iexact Hc
      isplitl [Hd]; · iexact Hd
      iexact Go
    isplitl [Hfg]; · iexact Hfg
    iexact HO

theorem step_C (k : Trip) (hk : k.val < 127) (h0 : ¬ k.val % 8 = 0) (h7 : k.val % 8 = 7) : LoopStep c XM XW XX fg k := by
  have hT : k.val < 128 := Nat.lt_of_lt_of_eq k.isLt trips_eq
  have d : (k.val + 1) / 8 = k.val / 8 + 1 := by omega
  have lj : k.val / 8 < 16 := by omega
  have lj2 : k.val / 8 + 1 < 16 := by omega
  have r : (k.val + 1) % 8 = 0 := by omega
  have z : ¬ k.val + 1 = 0 := by omega
  obtain ⟨RW, wo1, wo2⟩ := ring_step 128 (woIn c XW) (woFree c) (woHome c XW) k.val (by omega) (bk_ne (by decide) k.val) (woFree_next c k.val)
  obtain ⟨RX, x1, x2⟩ := ring_step 128 (xIn c XX) (xFree c) (xHome c XX) k.val (by omega) (bk_ne (by decide) k.val) (xFree_next c k.val)
  refine LoopStep.of (R := iprop(cellP c (mixSem (Ring.sl 2 (k.val / 8))) ∗ bigSep (Finset.univ.erase (Ring.bk 16 (k.val / 8 + 1))) (mixHome c XM) ∗ outFree c (k.val / 8 + 1) ∗ bigSep (Finset.univ.erase (Ring.bk 16 (k.val / 8))) (rowP c XM XW XX (fgS.view.read (Elt F) fg) (k.val / 8 + 1)) ∗ RW ∗ RX)) c XM XW XX fg (trip_C c XM XW XX (fgS.view.read (Elt F) fg) k hk h0 h7 fg rfl) ?_ ?_
  · unfold loopRes mixRing outRing
    rw [if_neg h0, home_out (mixHome c XM) (Ring.bk 16 (k.val / 8 + 1))]
    rw [if_neg h0, row_out c XM XW XX (fgS.view.read (Elt F) fg) _ lj]
    iintro ⟨⟨Hm, Cm, Fm, Gb, Gm⟩, Wr, Xr, ⟨Ho, Co, Fo, Gr, Go⟩, Hfg, HO⟩
    ihave W2r := wo1 $$ Wr
    icases W2r with ⟨⟨W1, W2, W3⟩, RW⟩
    ihave X2r := x1 $$ Xr
    icases X2r with ⟨⟨X1, X2, X3⟩, RX⟩
    isplitl [Hm Fm Gb W1 W2 W3 X1 X2 X3 Ho Co Gr Hfg HO]
    · isplitl [Hm]; · iexact Hm
      isplitl [Fm]; · iexact Fm
      isplitl [Gb]; · iexact Gb
      isplitl [W1]; · iexact W1
      isplitl [W2]; · iexact W2
      isplitl [W3]; · iexact W3
      isplitl [X1]; · iexact X1
      isplitl [X2]; · iexact X2
      isplitl [X3]; · iexact X3
      isplitl [Ho]; · iexact Ho
      isplitl [Co]; · iexact Co
      isplitl [Gr]; · iexact Gr
      isplitl [Hfg]; · iexact Hfg
      iexact HO
    isplitl [Cm]; · iexact Cm
    isplitl [Gm]; · iexact Gm
    isplitl [Fo]; · iexact Fo
    isplitl [Go]; · iexact Go
    isplitl [RW]; · iexact RW
    iexact RX
  · unfold loopRes mixRing outRing
    rw [if_pos r, ringAt, d, if_pos lj2, mixFree_next c]
    rw [if_pos r, if_neg z, Nat.add_sub_cancel]
    iintro ⟨⟨Hm, Hi, W1, W2, W3, X1, X2, X3, Hs, Hfg, HO⟩, Cm, Gm, Fo, Go, RW, RX⟩
    isplitl [Hi Hm Cm Gm]
    · isplitl [Hi]; · iexact Hi
      isplitl [Hm Cm]
      · isplitl [Hm]; · iexact Hm
        iexact Cm
      iexact Gm
    isplitl [W1 W2 W3 RW]
    · iapply wo2
      isplitl [W1 W2 W3]
      · isplitl [W1]; · iexact W1
        isplitl [W2]; · iexact W2
        iexact W3
      iexact RW
    isplitl [X1 X2 X3 RX]
    · iapply x2
      isplitl [X1 X2 X3]
      · isplitl [X1]; · iexact X1
        isplitl [X2]; · iexact X2
        iexact X3
      iexact RX
    isplitl [Hs Fo Go]
    · isplitl [Hs]; · iexact Hs
      isplitl [Fo]; · iexact Fo
      iexact Go
    isplitl [Hfg]; · iexact Hfg
    iexact HO

theorem step_D (k : Trip) (hk : ¬ k.val < 127) (h0 : ¬ k.val % 8 = 0) (h7 : k.val % 8 = 7) : LoopStep c XM XW XX fg k := by
  have hT : k.val < 128 := Nat.lt_of_lt_of_eq k.isLt trips_eq
  have d : (k.val + 1) / 8 = k.val / 8 + 1 := by omega
  have lj : k.val / 8 < 16 := by omega
  have lj2 : ¬ k.val / 8 + 1 < 16 := by omega
  have r : (k.val + 1) % 8 = 0 := by omega
  have z : ¬ k.val + 1 = 0 := by omega
  have h128 : k.val + 1 = 128 := by omega
  obtain ⟨RW, wo1, wo2⟩ := ring_last 128 (woIn c XW) (woFree c) (woHome c XW) k.val h128 (woFree_next c k.val)
  obtain ⟨RX, x1, x2⟩ := ring_last 128 (xIn c XX) (xFree c) (xHome c XX) k.val h128 (xFree_next c k.val)
  refine LoopStep.of (R := iprop(cellP c (mixSem (Ring.sl 2 (k.val / 8))) ∗ mixFree c (k.val / 8 + 1) ∗ bigSep Finset.univ (mixHome c XM) ∗ outFree c (k.val / 8 + 1) ∗ bigSep (Finset.univ.erase (Ring.bk 16 (k.val / 8))) (rowP c XM XW XX (fgS.view.read (Elt F) fg) (k.val / 8 + 1)) ∗ RW ∗ RX)) c XM XW XX fg (trip_D c XM XW XX (fgS.view.read (Elt F) fg) k hk h0 h7 fg rfl) ?_ ?_
  · unfold loopRes mixRing outRing
    rw [if_neg h0]
    rw [if_neg h0, row_out c XM XW XX (fgS.view.read (Elt F) fg) _ lj]
    iintro ⟨⟨Hm, Cm, Fm, Gm⟩, Wr, Xr, ⟨Ho, Co, Fo, Gr, Go⟩, Hfg, HO⟩
    ihave W2r := wo1 $$ Wr
    icases W2r with ⟨W1, RW⟩
    ihave X2r := x1 $$ Xr
    icases X2r with ⟨X1, RX⟩
    isplitl [Hm W1 X1 Ho Co Gr Hfg HO]
    · isplitl [Hm]; · iexact Hm
      isplitl [W1]; · iexact W1
      isplitl [X1]; · iexact X1
      isplitl [Ho]; · iexact Ho
      isplitl [Co]; · iexact Co
      isplitl [Gr]; · iexact Gr
      isplitl [Hfg]; · iexact Hfg
      iexact HO
    isplitl [Cm]; · iexact Cm
    isplitl [Fm]; · iexact Fm
    isplitl [Gm]; · iexact Gm
    isplitl [Fo]; · iexact Fo
    isplitl [Go]; · iexact Go
    isplitl [RW]; · iexact RW
    iexact RX
  · unfold loopRes mixRing outRing
    rw [if_pos r, ringAt, d, if_neg lj2, mixFree_next c]
    rw [if_pos r, if_neg z, Nat.add_sub_cancel]
    iintro ⟨⟨Hm, W1, W2, X1, X2, Hs, Hfg, HO⟩, Cm, Fm, Gm, Fo, Go, RW, RX⟩
    isplitl [Fm Hm Cm Gm]
    · isplitl [Fm]; · iexact Fm
      isplitl [Hm Cm]
      · isplitl [Hm]; · iexact Hm
        iexact Cm
      iexact Gm
    isplitl [W1 W2 RW]
    · iapply wo2
      isplitl [W1 W2]
      · isplitl [W1]; · iexact W1
        iexact W2
      iexact RW
    isplitl [X1 X2 RX]
    · iapply x2
      isplitl [X1 X2]
      · isplitl [X1]; · iexact X1
        iexact X2
      iexact RX
    isplitl [Hs Fo Go]
    · isplitl [Hs]; · iexact Hs
      isplitl [Fo]; · iexact Fo
      iexact Go
    isplitl [Hfg]; · iexact Hfg
    iexact HO

/-- Every trip takes the rings on. -/
theorem loop_step (k : Trip) : LoopStep c XM XW XX fg k := by
  have hT : k.val < 128 := Nat.lt_of_lt_of_eq k.isLt trips_eq
  by_cases h0 : k.val % 8 = 0
  · by_cases hp : 0 < k.val
    · exact step_B c XM XW XX fg k (by omega) h0 (by omega) hp
    · exact step_Z c XM XW XX fg k (by omega) h0 (by omega) hp
  · by_cases h7 : k.val % 8 = 7
    · by_cases hk : k.val < 127
      · exact step_C c XM XW XX fg k hk h0 h7
      · exact step_D c XM XW XX fg k hk h0 h7
    · exact step_A c XM XW XX fg k (by omega) h0 h7

/-- What the loop holds before trip `k`, closed. -/
@[irreducible] def loopBox (k : ℕ) : sProp 𝕄 := loopRes c XM XW XX fg k
theorem loopBox_eq (k : ℕ) : loopBox c XM XW XX fg k = loopRes c XM XW XX fg k := by unfold loopBox; rfl

set_option warn.classDefReducibility false in
/-- The loop's invariant. -/
@[sl_loop] def loopInv1 :
    LoopInvTy_k0_t1 (F := F) Unit ℕ (UU nD τ) ℕ 𝒱₀ c none Set.univ mixM (Memref.isWhole_whole _) woM (Memref.isWhole_whole _) xM (Memref.isWhole_whole _) fgM (Memref.isWhole_whole _) resM (Memref.isWhole_whole _) mixS (Memref.isWhole_whole _) cc0_scoped1 woS (Memref.isWhole_whole _) cc0_scoped3 xS (Memref.isWhole_whole _) cc0_scoped5 fgS (Memref.isWhole_whole _) outS (Memref.isWhole_whole _) cc0_scoped8 cc0_scoped9 1#32 1#32 1#32 0#32 0#32 0#32 0#32 0#32 0#32 0#32 0#32 (1#32, 0#32, 1#32, 0#32, 1#32, 0#32, 0#32, 0#32, 0#32, 0#32, 0#32) where
  inv k acc := iprop(⌜acc = words k⌝ ∗ loopBox c XM XW XX fg k)
  step k acc := by
    iintro ⟨%ha, H⟩
    subst ha
    simp only [loopBox_eq]
    exact loop_step c XM XW XX fg k

end Cert.OutProj

end
-- ==== Proof.Body.lean ====
/-
  The body of `cc0_out_proj`: the prologue's first blocks, the loop, the epilogue's last row.
-/
module

public import proofs.«01_k».proof.Proof.Loop

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

/-- The body on its operands, its rings and its semaphores. -/
abbrev bodyG : Prog (TpuEff nD τ sig (Elt F) Λ₀ .tc) PUnit :=
  cc0_out_proj (F := F) mixM (Memref.isWhole_whole _) woM (Memref.isWhole_whole _) xM (Memref.isWhole_whole _) fgM (Memref.isWhole_whole _) resM (Memref.isWhole_whole _) mixS (Memref.isWhole_whole _) cc0_scoped1 woS (Memref.isWhole_whole _) cc0_scoped3 xS (Memref.isWhole_whole _) cc0_scoped5 fgS (Memref.isWhole_whole _) outS (Memref.isWhole_whole _) cc0_scoped8 cc0_scoped9

/-- The loop enters with the words of trip 0. -/
theorem words_zero : (1#32, 0#32, 1#32, 0#32, 1#32, 0#32, 0#32, 0#32, 0#32, 0#32, 0#32) = words 0 := rfl

/-- Equal assertions entail each other. -/
theorem of_eq {P Q : sProp 𝕄} (e : P = Q) : P ⊢ Q := by rw [e]

theorem sl_0 : Ring.sl 2 0 = 0 := rfl
theorem sl_1 : Ring.sl 2 1 = 1 := rfl
theorem sl_15 : Ring.sl 2 15 = 1 := rfl
theorem sl_16 : Ring.sl 2 16 = 0 := rfl
theorem sl_17 : Ring.sl 2 17 = 1 := rfl
theorem sl_128 : Ring.sl 2 128 = 0 := rfl
theorem sl_129 : Ring.sl 2 129 = 1 := rfl
theorem bk16_15 : Ring.bk 16 15 = 15 := rfl

/-- Both slots of each ring free, every operand block at home, the result's rows at `P`. -/
abbrev restP (P : Fin 16 → sProp 𝕄) : sProp 𝕄 :=
  iprop((mixFree (F := F) c 0 ∗ mixFree (F := F) c 1 ∗ bigSep Finset.univ (mixHome c XM))
    ∗ (woFree (F := F) c 0 ∗ woFree (F := F) c 1 ∗ bigSep Finset.univ (woHome c XW))
    ∗ (xFree (F := F) c 0 ∗ xFree (F := F) c 1 ∗ bigSep Finset.univ (xHome c XX))
    ∗ (outFree (F := F) c 0 ∗ outFree (F := F) c 1 ∗ bigSep Finset.univ P))

/-- The rings at the loop's entry. -/
theorem loop_enter (fg : Buf (Elt F) (fgS.view.loc (c : Thread nD τ))) :
    iprop((mixIn c XM 0 ∗ mixFree c 1 ∗ bigSep (Finset.univ.erase 0) (mixHome c XM))
      ∗ (woIn c XW 0 ∗ woFree c 1 ∗ bigSep (Finset.univ.erase 0) (woHome c XW))
      ∗ (xIn c XX 0 ∗ xFree c 1 ∗ bigSep (Finset.univ.erase 0) (xHome c XX))
      ∗ (outFree c 0 ∗ outFree c 1 ∗ bigSep Finset.univ (rowAny c)) ∗ heldP c fgS fg ∗ owesP c)
      ⊢ loopBox c XM XW XX fg 0 := by
  rw [loopBox_eq]
  unfold loopRes mixRing outRing woRing xRing ringAt
  rw [if_pos (show 0 % 8 = 0 by decide), if_pos (show 0 / 8 < 16 by decide), if_pos (show 0 < 128 by decide), if_pos (show 0 < 128 by decide), if_pos (show 0 % 8 = 0 by decide), if_pos rfl]
  rw [show rowP c XM XW XX (fgS.view.read (Elt F) fg) 0 = rowAny c from funext fun i => if_neg (Nat.not_lt_zero _)]
  exact .rfl

/-- The rings when the loop is done. -/
theorem loop_leave (fg : Buf (Elt F) (fgS.view.loc (c : Thread nD τ))) :
    loopBox c XM XW XX fg (Scf.trips k0_t1_loop.lb k0_t1_loop.ub k0_t1_loop.st) ⊢
    iprop((mixFree c 16 ∗ mixFree c 17 ∗ bigSep Finset.univ (mixHome c XM))
      ∗ (woFree c 128 ∗ woFree c 129 ∗ bigSep Finset.univ (woHome c XW))
      ∗ (xFree c 128 ∗ xFree c 129 ∗ bigSep Finset.univ (xHome c XX))
      ∗ (outIn c XM XW XX (fgS.view.read (Elt F) fg) 15 ∗ outFree c 16 ∗ bigSep (Finset.univ.erase (Ring.bk 16 15)) (rowP c XM XW XX (fgS.view.read (Elt F) fg) (15 + 1))) ∗ heldP c fgS fg ∗ owesP c) := by
  rw [show Scf.trips k0_t1_loop.lb k0_t1_loop.ub k0_t1_loop.st = 128 from trips_eq, loopBox_eq]
  unfold loopRes mixRing outRing woRing xRing ringAt
  rw [if_pos (show 128 % 8 = 0 by decide), if_neg (show ¬ 128 / 8 < 16 by decide), if_neg (show ¬ 128 < 128 by decide), if_neg (show ¬ 128 < 128 by decide), if_pos (show 128 % 8 = 0 by decide), if_neg (show ¬ 128 = 0 by decide)]

/-- The last row home, every row is shipped. -/
theorem rows_all : iprop(rowDone c XM XW XX FG 15 ∗ bigSep (Finset.univ.erase 15) (rowP c XM XW XX FG (15 + 1))) ⊢ bigSep Finset.univ (rowDone c XM XW XX FG) := by
  have h := row_back c XM XW XX FG 15 (by decide)
  rw [bk16_15] at h
  rw [h]
  refine of_eq (bigSep_congr fun i _ => ?_)
  unfold rowP
  exact if_pos i.isLt

variable (XG : Buf (Elt F) (fgM.view.loc (c : Thread nD τ)))

/-- THE BODY: from the operands at home and the slots at anything to the result's rows all shipped. -/
theorem bodyRun (W) (Q : PUnit → sProp 𝕄) :
    iprop((heldP c fgM XG ∗ (∃ f, heldP (F := F) c fgS f) ∗ cellP (F := F) c cc0_scoped9 ∗ restP c XM XW XX (rowAny c) ∗ owes (c : Thread nD τ) 0 W)
      ∗ ((heldP c fgM XG ∗ (∃ f, heldP (F := F) c fgS f) ∗ cellP (F := F) c cc0_scoped9
          ∗ restP c XM XW XX (rowDone c XM XW XX (fgM.view.read (Elt F) XG)) ∗ owesP c) -∗ Q ⟨⟩))
    ⊢ wp frame (wpE (defs₀ (F := F)) 𝒱₀ (c : Thread nD τ) none) Set.univ bodyG Q := by
  dsimp only [restP, mixFree, woFree, xFree, outFree, outAny, outCell]
  simp only [sl_0, sl_1]
  iintro ⟨⟨HG, ⟨%fg0, Hfg⟩, Cfg, ⟨⟨⟨⟨%fm0, Hm⟩, Cm⟩, M1, Gm⟩, ⟨⟨⟨%fw0, Hw⟩, Cw⟩, W1, Gw⟩, ⟨⟨⟨%fx0, Hx⟩, Cx⟩, X1, Gx⟩, RO⟩, HW⟩, Hk⟩
  ihave Gm' := (of_eq (home_out (mixHome c XM) 0)) $$ Gm
  icases Gm' with ⟨Gm, RM⟩
  ihave Gw' := (of_eq (home_out (woHome c XW) 0)) $$ Gw
  icases Gw' with ⟨Gw, RW⟩
  ihave Gx' := (of_eq (home_out (xHome c XX) 0)) $$ Gx
  icases Gx' with ⟨Gx, RX⟩
  sl_exec
  ihave HI := (loop_enter c XM XW XX (fgS.view.writes (Elt F) fgS.view.junk [⟨Rect.whole S1x4096, bodyRun.sl.dma0 c XG⟩])) $$ [Cm M1 RM Cw W1 RW Cx X1 RX RO Hfg HW]
  · isplitl [Cm M1 RM]
    · isplitl [Cm]; · iexists _; iexact Cm
      isplitl [M1]; · iexact M1
      iexact RM
    isplitl [Cw W1 RW]
    · isplitl [Cw]; · iexists _; iexact Cw
      isplitl [W1]; · iexact W1
      iexact RW
    isplitl [Cx X1 RX]
    · isplitl [Cx]; · iexists _; iexact Cx
      isplitl [X1]; · iexact X1
      iexact RX
    isplitl [RO]; · iexact RO
    isplitl [Hfg]; · iexact Hfg
    iexists _; iexact HW
  have hw0 := words_zero
  sl_exec
  ihave HL := (loop_leave c XM XW XX _) $$ HI
  have hfg : fgS.view.read (Elt F) (fgS.view.writes (Elt F) fgS.view.junk [⟨Rect.whole S1x4096, bodyRun.sl.dma0 c XG⟩]) = fgM.view.read (Elt F) XG := by
    sl_unfold_run_names
    exact View.read_writes_whole _ _ _
  rw [hfg]
  simp only [outIn, sl_15, bk16_15]
  icases HL with ⟨Hm, Hw, Hx, ⟨⟨%f1, %f2, HF, %hd⟩, Ho, Hr⟩, Hfg, ⟨%W', HW⟩⟩
  sl_exec
  sl_step
  iapply Hk
  isplitl [HG]; · iexact HG
  isplitl [Hfg]; · iexists _; iexact Hfg
  isplitl [Cfg]; · iexact Cfg
  isplitr [HW]
  · isplitl [Hm]; · iexact Hm
    isplitl [Hw]; · iexact Hw
    isplitl [Hx]; · iexact Hx
    isplitl [Ho]; · iexact Ho
    isplitl [HF_src HF]
    · isplitl [HF_src]; · iexists _; iexact HF_src
      iexact HF
    ihave HR := (rows_all c XM XW XX (fgM.view.read (Elt F) XG)) $$ [HF_dst Hr]
    · isplitl [HF_dst]
      · iexists _; isplitl [HF_dst]; · iexact HF_dst
        ipureintro; exact hd
      iexact Hr
    iexact HR
  iexists _; iexact HW

end Cert.OutProj

end
-- ==== Proof.Blocks.lean ====
/-
  The element sets of the windows of `cc0_out_proj`: the blocks of each array and the slots of each ring are pairwise
  disjoint and cover it, so a whole buffer is its blocks and back.
-/
module

public import proofs.«01_k».proof.Proof.Body
public import proofs.«01_k».proof.Proof.Gen.KernelIdeal.Frame
public import proofs.«01_k».proof.Proof.Gen.KernelIdeal.Launch

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]
local notation "𝕄" => MT nD τ sig Unit (Elt F) ℕ (UU nD τ) ℕ

/-! ## The element sets of the blocks and of the slots -/

section Sets

abbrev MB (b : Fin 16) : Finset S2x8192x4096.Idx := (Rect.unit (s := S2x8192x4096) (mixOff b) S2x512x4096.size (mix_inb b)).set
theorem MB_set (b : Fin 16) : (mixBlk b).view.set = MB b := View.set_slice_whole _ _
theorem mem_MB (b : Fin 16) (y : S2x8192x4096.Idx) : y ∈ MB b ↔ (y 1).val / 512 = b.val := by
  rw [Rect.mem_set_unit]
  have h0 : (y 0).val < 2 := (y 0).isLt
  have h1 : (y 1).val < 8192 := (y 1).isLt
  have h2 : (y 2).val < 4096 := (y 2).isLt
  have hb := b.isLt
  constructor
  · intro H
    have a0 : 0 ≤ (y 0).val ∧ (y 0).val < 0 + 2 := H 0
    have a1 : 512 * b.val ≤ (y 1).val ∧ (y 1).val < 512 * b.val + 512 := H 1
    have a2 : 0 ≤ (y 2).val ∧ (y 2).val < 0 + 4096 := H 2
    omega
  · intro H i; fin_cases i
    · show 0 ≤ (y 0).val ∧ (y 0).val < 0 + 2; omega
    · show 512 * b.val ≤ (y 1).val ∧ (y 1).val < 512 * b.val + 512; omega
    · show 0 ≤ (y 2).val ∧ (y 2).val < 0 + 4096; omega
theorem MB_disjoint : ∀ b b' : Fin 16, b ≠ b' → Disjoint (MB b) (MB b') := by
  intro b b' hne; rw [Finset.disjoint_left]; intro y hy hy'; rw [mem_MB] at hy hy'; exact hne (Fin.ext (by omega))
theorem MB_cover : (Finset.univ : Finset (Fin 16)).biUnion MB = Finset.univ := by
  ext y; simp only [Finset.mem_biUnion, Finset.mem_univ, true_and, iff_true]
  have h0 : (y 0).val < 2 := (y 0).isLt
  have h1 : (y 1).val < 8192 := (y 1).isLt
  have h2 : (y 2).val < 4096 := (y 2).isLt
  exact ⟨⟨(y 1).val / 512, by omega⟩, by rw [mem_MB]⟩

abbrev WB (b : Fin 8) : Finset S8x8192x512.Idx := (Rect.unit (s := S8x8192x512) (woOff b) S1x8192x512.size (wo_inb b)).set
theorem WB_set (b : Fin 8) : (woBlk b).view.set = WB b := View.set_slice_whole _ _
theorem mem_WB (b : Fin 8) (y : S8x8192x512.Idx) : y ∈ WB b ↔ (y 0).val = b.val := by
  rw [Rect.mem_set_unit]
  have h0 : (y 0).val < 8 := (y 0).isLt
  have h1 : (y 1).val < 8192 := (y 1).isLt
  have h2 : (y 2).val < 512 := (y 2).isLt
  have hb := b.isLt
  constructor
  · intro H
    have a0 : b.val ≤ (y 0).val ∧ (y 0).val < b.val + 1 := H 0
    have a1 : 0 ≤ (y 1).val ∧ (y 1).val < 0 + 8192 := H 1
    have a2 : 0 ≤ (y 2).val ∧ (y 2).val < 0 + 512 := H 2
    omega
  · intro H i; fin_cases i
    · show b.val ≤ (y 0).val ∧ (y 0).val < b.val + 1; omega
    · show 0 ≤ (y 1).val ∧ (y 1).val < 0 + 8192; omega
    · show 0 ≤ (y 2).val ∧ (y 2).val < 0 + 512; omega
theorem WB_disjoint : ∀ b b' : Fin 8, b ≠ b' → Disjoint (WB b) (WB b') := by
  intro b b' hne; rw [Finset.disjoint_left]; intro y hy hy'; rw [mem_WB] at hy hy'; exact hne (Fin.ext (by omega))
theorem WB_cover : (Finset.univ : Finset (Fin 8)).biUnion WB = Finset.univ := by
  ext y; simp only [Finset.mem_biUnion, Finset.mem_univ, true_and, iff_true]
  have h0 : (y 0).val < 8 := (y 0).isLt
  have h1 : (y 1).val < 8192 := (y 1).isLt
  have h2 : (y 2).val < 512 := (y 2).isLt
  exact ⟨⟨(y 0).val, by omega⟩, by rw [mem_WB]⟩

abbrev XB (b : Fin 128) : Finset S8192x4096.Idx := (Rect.unit (s := S8192x4096) (xOff b) S512x512.size (x_inb b)).set
theorem XB_set (b : Fin 128) : (xBlk b).view.set = XB b := View.set_slice_whole _ _
theorem mem_XB (b : Fin 128) (y : S8192x4096.Idx) : y ∈ XB b ↔ 8 * ((y 0).val / 512) + (y 1).val / 512 = b.val := by
  rw [Rect.mem_set_unit]
  have h0 : (y 0).val < 8192 := (y 0).isLt
  have h1 : (y 1).val < 4096 := (y 1).isLt
  have hb := b.isLt
  constructor
  · intro H
    have a0 : 512 * (b.val / 8) ≤ (y 0).val ∧ (y 0).val < 512 * (b.val / 8) + 512 := H 0
    have a1 : 512 * (b.val % 8) ≤ (y 1).val ∧ (y 1).val < 512 * (b.val % 8) + 512 := H 1
    omega
  · intro H i; fin_cases i
    · show 512 * (b.val / 8) ≤ (y 0).val ∧ (y 0).val < 512 * (b.val / 8) + 512; omega
    · show 512 * (b.val % 8) ≤ (y 1).val ∧ (y 1).val < 512 * (b.val % 8) + 512; omega
theorem XB_disjoint : ∀ b b' : Fin 128, b ≠ b' → Disjoint (XB b) (XB b') := by
  intro b b' hne; rw [Finset.disjoint_left]; intro y hy hy'; rw [mem_XB] at hy hy'; exact hne (Fin.ext (by omega))
theorem XB_cover : (Finset.univ : Finset (Fin 128)).biUnion XB = Finset.univ := by
  ext y; simp only [Finset.mem_biUnion, Finset.mem_univ, true_and, iff_true]
  have h0 : (y 0).val < 8192 := (y 0).isLt
  have h1 : (y 1).val < 4096 := (y 1).isLt
  exact ⟨⟨8 * ((y 0).val / 512) + (y 1).val / 512, by omega⟩, by rw [mem_XB]⟩

abbrev RB (b : Fin 16) : Finset S8192x4096.Idx := (Rect.unit (s := S8192x4096) (rowOff b) S512x4096.size (row_inb b)).set
theorem RB_set (b : Fin 16) : (rowBlk b).view.set = RB b := View.set_slice_whole _ _
theorem mem_RB (b : Fin 16) (y : S8192x4096.Idx) : y ∈ RB b ↔ (y 0).val / 512 = b.val := by
  rw [Rect.mem_set_unit]
  have h0 : (y 0).val < 8192 := (y 0).isLt
  have h1 : (y 1).val < 4096 := (y 1).isLt
  have hb := b.isLt
  constructor
  · intro H
    have a0 : 512 * b.val ≤ (y 0).val ∧ (y 0).val < 512 * b.val + 512 := H 0
    have a1 : 0 ≤ (y 1).val ∧ (y 1).val < 0 + 4096 := H 1
    omega
  · intro H i; fin_cases i
    · show 512 * b.val ≤ (y 0).val ∧ (y 0).val < 512 * b.val + 512; omega
    · show 0 ≤ (y 1).val ∧ (y 1).val < 0 + 4096; omega
theorem RB_disjoint : ∀ b b' : Fin 16, b ≠ b' → Disjoint (RB b) (RB b') := by
  intro b b' hne; rw [Finset.disjoint_left]; intro y hy hy'; rw [mem_RB] at hy hy'; exact hne (Fin.ext (by omega))
theorem RB_cover : (Finset.univ : Finset (Fin 16)).biUnion RB = Finset.univ := by
  ext y; simp only [Finset.mem_biUnion, Finset.mem_univ, true_and, iff_true]
  have h0 : (y 0).val < 8192 := (y 0).isLt
  have h1 : (y 1).val < 4096 := (y 1).isLt
  exact ⟨⟨(y 0).val / 512, by omega⟩, by rw [mem_RB]⟩

abbrev MS (b : Fin 2) : Finset S2x2x512x4096.Idx := (Rect.unit (s := S2x2x512x4096) (off4 b) S1x2x512x4096.size (mixS_inb b)).set
theorem MS_set (b : Fin 2) : (mixSlot b).view.set = MS b := (View.set_reshape _ _).trans (View.set_slice_whole _ _)
theorem mem_MS (b : Fin 2) (y : S2x2x512x4096.Idx) : y ∈ MS b ↔ (y 0).val = b.val := by
  rw [Rect.mem_set_unit]
  have h0 : (y 0).val < 2 := (y 0).isLt
  have h1 : (y 1).val < 2 := (y 1).isLt
  have h2 : (y 2).val < 512 := (y 2).isLt
  have h3 : (y 3).val < 4096 := (y 3).isLt
  have hb := b.isLt
  constructor
  · intro H
    have a0 : b.val ≤ (y 0).val ∧ (y 0).val < b.val + 1 := H 0
    have a1 : 0 ≤ (y 1).val ∧ (y 1).val < 0 + 2 := H 1
    have a2 : 0 ≤ (y 2).val ∧ (y 2).val < 0 + 512 := H 2
    have a3 : 0 ≤ (y 3).val ∧ (y 3).val < 0 + 4096 := H 3
    omega
  · intro H i; fin_cases i
    · show b.val ≤ (y 0).val ∧ (y 0).val < b.val + 1; omega
    · show 0 ≤ (y 1).val ∧ (y 1).val < 0 + 2; omega
    · show 0 ≤ (y 2).val ∧ (y 2).val < 0 + 512; omega
    · show 0 ≤ (y 3).val ∧ (y 3).val < 0 + 4096; omega
theorem MS_disjoint : ∀ b b' : Fin 2, b ≠ b' → Disjoint (MS b) (MS b') := by
  intro b b' hne; rw [Finset.disjoint_left]; intro y hy hy'; rw [mem_MS] at hy hy'; exact hne (Fin.ext (by omega))
theorem MS_cover : (Finset.univ : Finset (Fin 2)).biUnion MS = Finset.univ := by
  ext y; simp only [Finset.mem_biUnion, Finset.mem_univ, true_and, iff_true]
  have h0 : (y 0).val < 2 := (y 0).isLt
  have h1 : (y 1).val < 2 := (y 1).isLt
  have h2 : (y 2).val < 512 := (y 2).isLt
  have h3 : (y 3).val < 4096 := (y 3).isLt
  exact ⟨⟨(y 0).val, by omega⟩, by rw [mem_MS]⟩

abbrev WS (b : Fin 2) : Finset S2x1x8192x512.Idx := (Rect.unit (s := S2x1x8192x512) (off4 b) S1x1x8192x512.size (woS_inb b)).set
theorem WS_set (b : Fin 2) : (woSlot b).view.set = WS b := (View.set_reshape _ _).trans (View.set_slice_whole _ _)
theorem mem_WS (b : Fin 2) (y : S2x1x8192x512.Idx) : y ∈ WS b ↔ (y 0).val = b.val := by
  rw [Rect.mem_set_unit]
  have h0 : (y 0).val < 2 := (y 0).isLt
  have h1 : (y 1).val < 1 := (y 1).isLt
  have h2 : (y 2).val < 8192 := (y 2).isLt
  have h3 : (y 3).val < 512 := (y 3).isLt
  have hb := b.isLt
  constructor
  · intro H
    have a0 : b.val ≤ (y 0).val ∧ (y 0).val < b.val + 1 := H 0
    have a1 : 0 ≤ (y 1).val ∧ (y 1).val < 0 + 1 := H 1
    have a2 : 0 ≤ (y 2).val ∧ (y 2).val < 0 + 8192 := H 2
    have a3 : 0 ≤ (y 3).val ∧ (y 3).val < 0 + 512 := H 3
    omega
  · intro H i; fin_cases i
    · show b.val ≤ (y 0).val ∧ (y 0).val < b.val + 1; omega
    · show 0 ≤ (y 1).val ∧ (y 1).val < 0 + 1; omega
    · show 0 ≤ (y 2).val ∧ (y 2).val < 0 + 8192; omega
    · show 0 ≤ (y 3).val ∧ (y 3).val < 0 + 512; omega
theorem WS_disjoint : ∀ b b' : Fin 2, b ≠ b' → Disjoint (WS b) (WS b') := by
  intro b b' hne; rw [Finset.disjoint_left]; intro y hy hy'; rw [mem_WS] at hy hy'; exact hne (Fin.ext (by omega))
theorem WS_cover : (Finset.univ : Finset (Fin 2)).biUnion WS = Finset.univ := by
  ext y; simp only [Finset.mem_biUnion, Finset.mem_univ, true_and, iff_true]
  have h0 : (y 0).val < 2 := (y 0).isLt
  have h1 : (y 1).val < 1 := (y 1).isLt
  have h2 : (y 2).val < 8192 := (y 2).isLt
  have h3 : (y 3).val < 512 := (y 3).isLt
  exact ⟨⟨(y 0).val, by omega⟩, by rw [mem_WS]⟩

abbrev XS (b : Fin 2) : Finset S2x512x512.Idx := (Rect.unit (s := S2x512x512) (off3 b) S1x512x512.size (xS_inb b)).set
theorem XS_set (b : Fin 2) : (xSlot b).view.set = XS b := (View.set_reshape _ _).trans (View.set_slice_whole _ _)
theorem mem_XS (b : Fin 2) (y : S2x512x512.Idx) : y ∈ XS b ↔ (y 0).val = b.val := by
  rw [Rect.mem_set_unit]
  have h0 : (y 0).val < 2 := (y 0).isLt
  have h1 : (y 1).val < 512 := (y 1).isLt
  have h2 : (y 2).val < 512 := (y 2).isLt
  have hb := b.isLt
  constructor
  · intro H
    have a0 : b.val ≤ (y 0).val ∧ (y 0).val < b.val + 1 := H 0
    have a1 : 0 ≤ (y 1).val ∧ (y 1).val < 0 + 512 := H 1
    have a2 : 0 ≤ (y 2).val ∧ (y 2).val < 0 + 512 := H 2
    omega
  · intro H i; fin_cases i
    · show b.val ≤ (y 0).val ∧ (y 0).val < b.val + 1; omega
    · show 0 ≤ (y 1).val ∧ (y 1).val < 0 + 512; omega
    · show 0 ≤ (y 2).val ∧ (y 2).val < 0 + 512; omega
theorem XS_disjoint : ∀ b b' : Fin 2, b ≠ b' → Disjoint (XS b) (XS b') := by
  intro b b' hne; rw [Finset.disjoint_left]; intro y hy hy'; rw [mem_XS] at hy hy'; exact hne (Fin.ext (by omega))
theorem XS_cover : (Finset.univ : Finset (Fin 2)).biUnion XS = Finset.univ := by
  ext y; simp only [Finset.mem_biUnion, Finset.mem_univ, true_and, iff_true]
  have h0 : (y 0).val < 2 := (y 0).isLt
  have h1 : (y 1).val < 512 := (y 1).isLt
  have h2 : (y 2).val < 512 := (y 2).isLt
  exact ⟨⟨(y 0).val, by omega⟩, by rw [mem_XS]⟩

abbrev OS (b : Fin 2) : Finset S2x512x4096.Idx := (Rect.unit (s := S2x512x4096) (off3 b) S1x512x4096.size (outS_inb b)).set
theorem OS_set (b : Fin 2) : (outSlot b).view.set = OS b := (View.set_reshape _ _).trans (View.set_slice_whole _ _)
theorem mem_OS (b : Fin 2) (y : S2x512x4096.Idx) : y ∈ OS b ↔ (y 0).val = b.val := by
  rw [Rect.mem_set_unit]
  have h0 : (y 0).val < 2 := (y 0).isLt
  have h1 : (y 1).val < 512 := (y 1).isLt
  have h2 : (y 2).val < 4096 := (y 2).isLt
  have hb := b.isLt
  constructor
  · intro H
    have a0 : b.val ≤ (y 0).val ∧ (y 0).val < b.val + 1 := H 0
    have a1 : 0 ≤ (y 1).val ∧ (y 1).val < 0 + 512 := H 1
    have a2 : 0 ≤ (y 2).val ∧ (y 2).val < 0 + 4096 := H 2
    omega
  · intro H i; fin_cases i
    · show b.val ≤ (y 0).val ∧ (y 0).val < b.val + 1; omega
    · show 0 ≤ (y 1).val ∧ (y 1).val < 0 + 512; omega
    · show 0 ≤ (y 2).val ∧ (y 2).val < 0 + 4096; omega
theorem OS_disjoint : ∀ b b' : Fin 2, b ≠ b' → Disjoint (OS b) (OS b') := by
  intro b b' hne; rw [Finset.disjoint_left]; intro y hy hy'; rw [mem_OS] at hy hy'; exact hne (Fin.ext (by omega))
theorem OS_cover : (Finset.univ : Finset (Fin 2)).biUnion OS = Finset.univ := by
  ext y; simp only [Finset.mem_biUnion, Finset.mem_univ, true_and, iff_true]
  have h0 : (y 0).val < 2 := (y 0).isLt
  have h1 : (y 1).val < 512 := (y 1).isLt
  have h2 : (y 2).val < 4096 := (y 2).isLt
  exact ⟨⟨(y 0).val, by omega⟩, by rw [mem_OS]⟩

end Sets

/-! ## Whole buffers are their blocks -/

/-- `main_v1` whole is its blocks at home. -/
theorem MB_home (c : Dev nD) (X : Buf (Elt F) ((c : Thread nD τ).loc main_v1)) :
    (((c : Thread nD τ).loc main_v1) ↦{fullShare} X : sProp 𝕄) = bigSep Finset.univ (mixHome c X) := by
  rw [Ring.pointsTo_blocks (ℓ := (c : Thread nD τ).loc main_v1) MB MB_disjoint MB_cover]
  exact bigSep_congr fun b _ => by rw [← MB_set]; rfl

/-- `main_v4` whole is its blocks at home. -/
theorem WB_home (c : Dev nD) (X : Buf (Elt F) ((c : Thread nD τ).loc main_v4)) :
    (((c : Thread nD τ).loc main_v4) ↦{fullShare} X : sProp 𝕄) = bigSep Finset.univ (woHome c X) := by
  rw [Ring.pointsTo_blocks (ℓ := (c : Thread nD τ).loc main_v4) WB WB_disjoint WB_cover]
  exact bigSep_congr fun b _ => by rw [← WB_set]; rfl

/-- `main_arg2` whole is its blocks at home. -/
theorem XB_home (c : Dev nD) (X : Buf (Elt F) ((c : Thread nD τ).loc main_arg2)) :
    (((c : Thread nD τ).loc main_arg2) ↦{fullShare} X : sProp 𝕄) = bigSep Finset.univ (xHome c X) := by
  rw [Ring.pointsTo_blocks (ℓ := (c : Thread nD τ).loc main_arg2) XB XB_disjoint XB_cover]
  exact bigSep_congr fun b _ => by rw [← XB_set]; rfl

theorem two (Φ : Fin 2 → sProp 𝕄) : bigSep Finset.univ Φ = iprop(Φ 0 ∗ Φ 1) :=
  bigSep_univ_eq_bigSepL [(0 : Fin 2), (1 : Fin 2)] (by decide) (by decide) Φ

theorem MS_eq (c : Dev nD) (s : Fin 2) (f) : heldP (F := F) c (mixSlot s) f = (((c : Thread nD τ).loc cc0_scoped0) ↦[MS s]{fullShare} f : sProp 𝕄) :=
  congrArg (fun S => (_ ↦[S]{fullShare} f : sProp 𝕄)) (MS_set s)
/-- `cc0_scoped0` whole is its two slots, -/
theorem MS_split (c : Dev nD) :
    iprop(∃ f : Buf (Elt F) ((c : Thread nD τ).loc cc0_scoped0), ((c : Thread nD τ).loc cc0_scoped0) ↦{fullShare} f)
      ⊢ (iprop((∃ f, heldP c (mixSlot 0) f) ∗ ∃ f, heldP c (mixSlot 1) f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped0) MS MS_disjoint MS_cover f).trans (two _))) $$ H
  icases H2 with ⟨H0, H1⟩
  isplitl [H0]
  · iexists f; iapply (of_eq (MS_eq c 0 f).symm); iexact H0
  · iexists f; iapply (of_eq (MS_eq c 1 f).symm); iexact H1
/-- and back. -/
theorem MS_join (c : Dev nD) :
    iprop((∃ f, heldP c (mixSlot 0) f) ∗ ∃ f, heldP c (mixSlot 1) f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) MS MS_disjoint MS_cover f0)
  irw [two]
  isplitl [H0]
  · iexists f0; iapply (of_eq (MS_eq c 0 f0)); iexact H0
  · iexists f1; iapply (of_eq (MS_eq c 1 f1)); iexact H1

theorem WS_eq (c : Dev nD) (s : Fin 2) (f) : heldP (F := F) c (woSlot s) f = (((c : Thread nD τ).loc cc0_scoped2) ↦[WS s]{fullShare} f : sProp 𝕄) :=
  congrArg (fun S => (_ ↦[S]{fullShare} f : sProp 𝕄)) (WS_set s)
/-- `cc0_scoped2` whole is its two slots, -/
theorem WS_split (c : Dev nD) :
    iprop(∃ f : Buf (Elt F) ((c : Thread nD τ).loc cc0_scoped2), ((c : Thread nD τ).loc cc0_scoped2) ↦{fullShare} f)
      ⊢ (iprop((∃ f, heldP c (woSlot 0) f) ∗ ∃ f, heldP c (woSlot 1) f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped2) WS WS_disjoint WS_cover f).trans (two _))) $$ H
  icases H2 with ⟨H0, H1⟩
  isplitl [H0]
  · iexists f; iapply (of_eq (WS_eq c 0 f).symm); iexact H0
  · iexists f; iapply (of_eq (WS_eq c 1 f).symm); iexact H1
/-- and back. -/
theorem WS_join (c : Dev nD) :
    iprop((∃ f, heldP c (woSlot 0) f) ∗ ∃ f, heldP c (woSlot 1) f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) WS WS_disjoint WS_cover f0)
  irw [two]
  isplitl [H0]
  · iexists f0; iapply (of_eq (WS_eq c 0 f0)); iexact H0
  · iexists f1; iapply (of_eq (WS_eq c 1 f1)); iexact H1

theorem XS_eq (c : Dev nD) (s : Fin 2) (f) : heldP (F := F) c (xSlot s) f = (((c : Thread nD τ).loc cc0_scoped4) ↦[XS s]{fullShare} f : sProp 𝕄) :=
  congrArg (fun S => (_ ↦[S]{fullShare} f : sProp 𝕄)) (XS_set s)
/-- `cc0_scoped4` whole is its two slots, -/
theorem XS_split (c : Dev nD) :
    iprop(∃ f : Buf (Elt F) ((c : Thread nD τ).loc cc0_scoped4), ((c : Thread nD τ).loc cc0_scoped4) ↦{fullShare} f)
      ⊢ (iprop((∃ f, heldP c (xSlot 0) f) ∗ ∃ f, heldP c (xSlot 1) f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped4) XS XS_disjoint XS_cover f).trans (two _))) $$ H
  icases H2 with ⟨H0, H1⟩
  isplitl [H0]
  · iexists f; iapply (of_eq (XS_eq c 0 f).symm); iexact H0
  · iexists f; iapply (of_eq (XS_eq c 1 f).symm); iexact H1
/-- and back. -/
theorem XS_join (c : Dev nD) :
    iprop((∃ f, heldP c (xSlot 0) f) ∗ ∃ f, heldP c (xSlot 1) f)
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) XS XS_disjoint XS_cover f0)
  irw [two]
  isplitl [H0]
  · iexists f0; iapply (of_eq (XS_eq c 0 f0)); iexact H0
  · iexists f1; iapply (of_eq (XS_eq c 1 f1)); iexact H1

theorem OS_eq (c : Dev nD) (s : Fin 2) (f) : heldP (F := F) c (outSlot s) f = (((c : Thread nD τ).loc cc0_scoped7) ↦[OS s]{fullShare} f : sProp 𝕄) :=
  congrArg (fun S => (_ ↦[S]{fullShare} f : sProp 𝕄)) (OS_set s)
/-- `cc0_scoped7` whole is its two slots, -/
theorem OS_split (c : Dev nD) :
    iprop(∃ f : Buf (Elt F) ((c : Thread nD τ).loc cc0_scoped7), ((c : Thread nD τ).loc cc0_scoped7) ↦{fullShare} f)
      ⊢ (iprop((∃ f, heldP c (outSlot 0) f) ∗ ∃ f, heldP c (outSlot 1) f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scoped7) OS OS_disjoint OS_cover f).trans (two _))) $$ H
  icases H2 with ⟨H0, H1⟩
  isplitl [H0]
  · iexists f; iapply (of_eq (OS_eq c 0 f).symm); iexact H0
  · iexists f; iapply (of_eq (OS_eq c 1 f).symm); iexact H1
/-- and back. -/
theorem OS_join (c : Dev nD) :
    iprop((∃ f, heldP c (outSlot 0) f) ∗ ∃ f, heldP c (outSlot 1) f)
      ⊢ (iprop(∃ f : Buf (Elt F) ((c : Thread nD τ).loc cc0_scoped7), ((c : Thread nD τ).loc cc0_scoped7) ↦{fullShare} f) : sProp 𝕄) := by
  iintro ⟨⟨%f0, H0⟩, ⟨%f1, H1⟩⟩
  iapply (Ring.pointsTo_blocks_join_exists (ℓ := (c : Thread nD τ).loc cc0_scoped7) OS OS_disjoint OS_cover f0)
  irw [two]
  isplitl [H0]
  · iexists f0; iapply (of_eq (OS_eq c 0 f0)); iexact H0
  · iexists f1; iapply (of_eq (OS_eq c 1 f1)); iexact H1

/-! ## The result, row by row -/

/-- What the kernel leaves in its result. -/
def resW (c : Dev nD) (XM : Buf (Elt F) ((c : Thread nD τ).loc main_v1)) (XW : Buf (Elt F) ((c : Thread nD τ).loc main_v4))
    (XX : Buf (Elt F) ((c : Thread nD τ).loc main_arg2)) (FG : Vec F S1x4096 .f32) : Buf (Elt F) ((c : Thread nD τ).loc main_v6) :=
  fun y : S8192x4096.Idx => normV c XM XW XX FG ⟨(y 0).val / 512, by have : (y 0).val < 8192 := (y 0).isLt; omega⟩
    (ix2 ⟨(y 0).val % 512, Nat.mod_lt _ (by decide)⟩ (y 1))

variable (c : Dev nD) (XM : Buf (Elt F) ((c : Thread nD τ).loc main_v1)) (XW : Buf (Elt F) ((c : Thread nD τ).loc main_v4))
  (XX : Buf (Elt F) ((c : Thread nD τ).loc main_arg2)) (FG : Vec F S1x4096 .f32)

theorem resW_read (i : Fin 16) : (rowBlk i).view.read (Elt F) (resW c XM XW XX FG) = normV c XM XW XX FG i := by
  funext z
  obtain ⟨p, q, rfl⟩ : ∃ p q, z = ix2 p q := ⟨z 0, z 1, eq_ix2 z⟩
  have hp : p.val < 512 := p.isLt
  show normV c XM XW XX FG ⟨(512 * i.val + 1 * p.val) / 512, _⟩ (ix2 ⟨(512 * i.val + 1 * p.val) % 512, _⟩ ⟨0 + 1 * q.val, _⟩) = _
  have e1 : (512 * i.val + 1 * p.val) / 512 = i.val := by omega
  have e2 : (512 * i.val + 1 * p.val) % 512 = p.val := by omega
  have e3 : 0 + 1 * q.val = q.val := by omega
  simp only [e1, e2, e3]

/-- Every row shipped, the result is held whole at `resW`. -/
theorem rows_whole : bigSep Finset.univ (rowDone c XM XW XX FG) ⊢ (((c : Thread nD τ).loc main_v6) ↦{fullShare} resW c XM XW XX FG : sProp 𝕄) := by
  rw [Ring.pointsTo_blocks (ℓ := (c : Thread nD τ).loc main_v6) RB RB_disjoint RB_cover]
  have key : ∀ i : Fin 16, rowDone c XM XW XX FG i ⊢ (((c : Thread nD τ).loc main_v6) ↦[RB i]{fullShare} resW c XM XW XX FG : sProp 𝕄) := by
    intro i
    iintro ⟨%f, H, %hf⟩
    have e : ∀ y ∈ (rowBlk i).view.set, f y = resW c XM XW XX FG y := by
      intro y hy
      obtain ⟨z, -, rfl⟩ := Finset.mem_map.1 hy
      exact congrFun (hf.trans (resW_read c XM XW XX FG i).symm) z
    ihave H' := (of_eq (pointsTo_congr e)) $$ H
    iapply (of_eq (congrArg (fun S => (((c : Thread nD τ).loc main_v6) ↦[S]{fullShare} resW c XM XW XX FG : sProp 𝕄)) (RB_set i)))
    iexact H'
  exact bigSep_mono fun i _ => key i

/-- The result whole is its rows at anything. -/
theorem rows_any (f : Buf (Elt F) ((c : Thread nD τ).loc main_v6)) : (((c : Thread nD τ).loc main_v6) ↦{fullShare} f : sProp 𝕄) ⊢ bigSep Finset.univ (rowAny c) := by
  rw [Ring.pointsTo_blocks (ℓ := (c : Thread nD τ).loc main_v6) RB RB_disjoint RB_cover]
  have key : ∀ i : Fin 16, (((c : Thread nD τ).loc main_v6) ↦[RB i]{fullShare} f : sProp 𝕄) ⊢ rowAny c i := by
    intro i
    iintro H
    iexists f
    iapply (of_eq (congrArg (fun S => (((c : Thread nD τ).loc main_v6) ↦[S]{fullShare} f : sProp 𝕄)) (RB_set i).symm))
    iexact H
  exact bigSep_mono fun i _ => key i

end Cert.OutProj

end
-- ==== Proof.Launch.lean ====
/-
  The launch of `cc0_out_proj`: one run of the whole program, over any float values, from any memory with zero
  counters to the result at `resW`, the arguments unchanged and every counter at zero.
-/
module

public import proofs.«01_k».proof.Proof.Blocks
public import proofs.«01_k».proof.Proof.Gen.KernelIdeal.Frame
public import proofs.«01_k».proof.Proof.Gen.KernelIdeal.Launch

@[expose] public section

noncomputable section

namespace Cert.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

abbrev EP : Emb (UR sig nD τ) 𝕄 := embL

theorem fgS_set : fgS.view.set = (Finset.univ : Finset S1x4096.Idx) := View.set_whole cc0_scoped6
theorem fgM_set : fgM.view.set = (Finset.univ : Finset S1x4096.Idx) := View.set_whole main_v5

/-! ## What the region finds -/

abbrev VXM (c : Dev nD) : Buf (Elt F) ((c : Thread nD τ).loc main_v1) := Gen.V m c main_v1
abbrev VXW (c : Dev nD) : Buf (Elt F) ((c : Thread nD τ).loc main_v4) := Gen.V m c main_v4
abbrev VXX (c : Dev nD) : Buf (Elt F) ((c : Thread nD τ).loc main_arg2) := Gen.V m c main_arg2
abbrev VXG (c : Dev nD) : Buf (Elt F) (fgM.view.loc (c : Thread nD τ)) := Gen.V m c main_v5
abbrev VFG (c : Dev nD) : Vec F S1x4096 .f32 := fgM.view.read (Elt F) (VXG m c)

/-! ## The kernel's own semaphores -/

abbrev osem : Fin 9 → SemLoc sig :=
  ![.dma (mixSem 0).sem, .dma (mixSem 1).sem, .dma (woSem 0).sem, .dma (woSem 1).sem, .dma (xSem 0).sem, .dma (xSem 1).sem,
    .dma (outSem 0).sem, .dma (outSem 1).sem, .dma cc0_scoped9.sem]
theorem ownSemFacts : Pipeline.OwnSemFacts cfg0.spec osem := by decide

theorem ownSems0_eq (c : Dev nD) : (Pipeline.ownSems0 (Ix := Unit) (Name := ℕ) (U := UU nD τ) (Lvl := ℕ) (Val := Elt F) (τ := τ) osem c : sProp 𝕄)
    = iprop(cellP c (mixSem 0) ∗ cellP c (mixSem 1) ∗ cellP c (woSem 0) ∗ cellP c (woSem 1) ∗ cellP c (xSem 0) ∗ cellP c (xSem 1)
        ∗ cellP c (outSem 0) ∗ cellP c (outSem 1) ∗ cellP c cc0_scoped9) := by
  unfold Pipeline.ownSems0
  rw [bigSep_univ_eq_bigSepL [(0 : Fin 9), 1, 2, 3, 4, 5, 6, 7, 8] (by decide) (by decide)]
  rfl

/-! ## The region's invariant -/

/-- What the body holds, the rows of the result at `P`. -/
def Φ (c : Dev nD) (P : Fin 16 → sProp 𝕄) : sProp 𝕄 :=
  iprop(heldP c fgM (VXG m c) ∗ (∃ f, heldP (F := F) c fgS f) ∗ cellP (F := F) c cc0_scoped9 ∗ restP c (VXM m c) (VXW m c) (VXX m c) P)

def dats (_ : Fin 1) (c : Dev nD) : Dat τ (Elt F) Unit ℕ (UU nD τ) ℕ cfg0 c where
  A w := w.elim0
  after w _ := w.elim0
  Φ t := if t.val = 0 then Φ m c (rowAny c) else Φ m c (rowDone c (VXM m c) (VXW m c) (VXX m c) (VFG m c))
  q _ := fullShare
  owed _ := 0

theorem defs_tc : (defs₀ (F := F)) .tc cfg0.body = fun _ => bodyG := rfl
theorem prog_eq (t : Fin cfg0.N) : (defs₀ (F := F)) .tc cfg0.body (cfg0.bodyArgs t (cfg0.slots t)) = bodyG :=
  (congrFun defs_tc _).trans rfl

set_option backward.isDefEq.respectTransparency.types false in
theorem body_obligation (c : Dev nD) : BodyObligation (dats (F := F) m 0 c) (defs₀ (F := F)) 𝒱₀ () Set.univ := fun t => by
  have hN : t = t0_0 := fin_N0 t
  subst hN
  dsimp only
  rw [show (dats m 0 c).Φ t0_0.castSucc = Φ m c (rowAny c) from rfl,
    show (dats m 0 c).Φ t0_0.succ = Φ m c (rowDone c (VXM m c) (VXW m c) (VXX m c) (VFG m c)) from rfl]
  unfold Dat.owesAt Pipeline.owesWithin
  rw [show (dats m 0 c).owed t0_0.castSucc = 0 from rfl, show (dats m 0 c).owed t0_0.succ = 0 from rfl]
  unfold Φ
  iintro ⟨⟨HG, Hf, HC, HR⟩, ⟨%W, -, HW⟩, HE⟩
  sl_rw [prog_eq t0_0]
  iapply (bodyRun c (VXM m c) (VXW m c) (VXX m c) (VXG m c) W)
  isplitl [HG Hf HC HR HW]
  · isplitl [HG]; · iexact HG
    isplitl [Hf]; · iexact Hf
    isplitl [HC]; · iexact HC
    isplitl [HR]; · iexact HR
    iexact HW
  · iintro ⟨HG, Hf, HC, HR, ⟨%W', HW⟩⟩
    isplitl [HG Hf HC HR]
    · isplitl [HG]; · iexact HG
      isplitl [Hf]; · iexact Hf
      isplitl [HC]; · iexact HC
      iexact HR
    isplitl [HW]
    · iexists W'; isplitr; · ipureintro; exact fun _ _ => Or.inl trivial
      iexact HW
    iexact HE

/-! ## The run -/

/-- The operands and the result beside the kernel's semaphores: what enters the region. -/
def intoΦ (c : Dev nD) : sProp 𝕄 :=
  iprop((((c : Thread nD τ).loc main_v1) ↦{fullShare} VXM m c) ∗ (((c : Thread nD τ).loc main_v4) ↦{fullShare} VXW m c)
    ∗ (((c : Thread nD τ).loc main_arg2) ↦{fullShare} VXX m c) ∗ heldP c fgM (VXG m c) ∗ bigSep Finset.univ (rowAny (F := F) c)
    ∗ Pipeline.ownSems0 osem c)
/-- What leaves it. -/
def outOfΦ (c : Dev nD) : sProp 𝕄 :=
  iprop((((c : Thread nD τ).loc main_arg2) ↦{fullShare} VXX m c)
    ∗ (((c : Thread nD τ).loc main_v6) ↦{fullShare} resW c (VXM m c) (VXW m c) (VXX m c) (VFG m c)))
/-- What goes round it. -/
def roundΦ (c : Dev nD) : sProp 𝕄 :=
  iprop((((c : Thread nD τ).loc main_arg0) ↦{fullShare} Gen.V m c main_arg0) ∗ (((c : Thread nD τ).loc main_arg1) ↦{fullShare} Gen.V m c main_arg1)
    ∗ (((c : Thread nD τ).loc main_arg3) ↦{fullShare} Gen.V m c main_arg3))
def u₀ : UU nD τ := (initOf (Pipeline.cells cfgs cellOf_inj) (Pipeline.launchToks cfgs cellOf_inj), 1)
def QY (c : Dev nD) (s : MemSt nD τ sig (Elt F)) : Prop :=
  (s.mem ((c : Thread nD τ).loc main_arg0) = Gen.V m c main_arg0 ∧ s.mem ((c : Thread nD τ).loc main_arg1) = Gen.V m c main_arg1
    ∧ s.mem ((c : Thread nD τ).loc main_arg2) = VXX m c ∧ s.mem ((c : Thread nD τ).loc main_arg3) = Gen.V m c main_arg3)
  ∧ s.mem ((c : Thread nD τ).loc main_v6) = resW c (VXM m c) (VXW m c) (VXX m c) (VFG m c)
def QC : PUnit × MemSt nD τ sig (Elt F) → Prop := fun r => ∀ c : Dev nD, QY m c r.2

theorem Φ_enter (c : Dev nD) : iprop(intoΦ m c ∗ Pipeline.scopedRest (Ix := Unit) (Name := ℕ) (U := UU nD τ) (Lvl := ℕ) (Val := Elt F) cfg0.spec c) ⊢ Φ m c (rowAny c) := by
  rw [scopedRest0_eq]
  unfold intoΦ Φ; rw [ownSems0_eq, MB_home, WB_home, XB_home]
  iintro ⟨⟨H1, H4, H2, HG, HR, M0, M1, W0, W1, X0, X1, O0, O1, C9⟩, BM, BW, BX, ⟨%f, BG⟩, BO⟩
  ihave BM := (MS_split c) $$ BM
  icases BM with ⟨BM0, BM1⟩
  ihave BW := (WS_split c) $$ BW
  icases BW with ⟨BW0, BW1⟩
  ihave BX := (XS_split c) $$ BX
  icases BX with ⟨BX0, BX1⟩
  ihave BO := (OS_split c) $$ BO
  icases BO with ⟨BO0, BO1⟩
  isplitl [HG]; · iexact HG
  isplitl [BG]; · iexists f; iapply (of_eq (congrArg (fun S => (((c : Thread nD τ).loc cc0_scoped6) ↦[S]{fullShare} f : sProp 𝕄)) fgS_set.symm)); iexact BG
  isplitl [C9]; · iexact C9
  isplitl [BM0 M0 BM1 M1 H1]
  · isplitl [BM0 M0]
    · isplitl [BM0]; · iexact BM0
      iexact M0
    isplitl [BM1 M1]
    · isplitl [BM1]; · iexact BM1
      iexact M1
    iexact H1
  isplitl [BW0 W0 BW1 W1 H4]
  · isplitl [BW0 W0]
    · isplitl [BW0]; · iexact BW0
      iexact W0
    isplitl [BW1 W1]
    · isplitl [BW1]; · iexact BW1
      iexact W1
    iexact H4
  isplitl [BX0 X0 BX1 X1 H2]
  · isplitl [BX0 X0]
    · isplitl [BX0]; · iexact BX0
      iexact X0
    isplitl [BX1 X1]
    · isplitl [BX1]; · iexact BX1
      iexact X1
    iexact H2
  isplitl [BO0 O0]
  · isplitl [BO0]; · iexact BO0
    iexact O0
  isplitl [BO1 O1]
  · isplitl [BO1]; · iexact BO1
    iexact O1
  iexact HR

theorem Φ_leave (c : Dev nD) : Φ m c (rowDone c (VXM m c) (VXW m c) (VXX m c) (VFG m c))
    ⊢ iprop(outOfΦ m c ∗ Pipeline.ownSems0 (Ix := Unit) (Name := ℕ) (U := UU nD τ) (Lvl := ℕ) (Val := Elt F) (τ := τ) osem c
        ∗ Pipeline.scopedRest (Ix := Unit) (Name := ℕ) (U := UU nD τ) (Lvl := ℕ) (Val := Elt F) cfg0.spec c) := by
  rw [scopedRest0_eq]
  unfold outOfΦ Φ; rw [ownSems0_eq, XB_home]
  iintro ⟨-, ⟨%f, BG⟩, C9, ⟨⟨BM0, M0⟩, ⟨BM1, M1⟩, -⟩, ⟨⟨BW0, W0⟩, ⟨BW1, W1⟩, -⟩, ⟨⟨BX0, X0⟩, ⟨BX1, X1⟩, H2⟩, ⟨⟨BO0, O0⟩, ⟨BO1, O1⟩, HR⟩⟩
  isplitl [H2 HR]
  · isplitl [H2]; · iexact H2
    iapply (rows_whole c (VXM m c) (VXW m c) (VXX m c) (VFG m c))
    iexact HR
  isplitl [M0 M1 W0 W1 X0 X1 O0 O1 C9]
  · isplitl [M0]; · iexact M0
    isplitl [M1]; · iexact M1
    isplitl [W0]; · iexact W0
    isplitl [W1]; · iexact W1
    isplitl [X0]; · iexact X0
    isplitl [X1]; · iexact X1
    isplitl [O0]; · iexact O0
    isplitl [O1]; · iexact O1
    iexact C9
  isplitl [BM0 BM1]
  · iapply (MS_join c); isplitl [BM0]; · iexact BM0
    iexact BM1
  isplitl [BW0 BW1]
  · iapply (WS_join c); isplitl [BW0]; · iexact BW0
    iexact BW1
  isplitl [BX0 BX1]
  · iapply (XS_join c); isplitl [BX0]; · iexact BX0
    iexact BX1
  isplitl [BG]
  · iexists f; iapply (of_eq (congrArg (fun S => (((c : Thread nD τ).loc cc0_scoped6) ↦[S]{fullShare} f : sProp 𝕄)) fgS_set)); iexact BG
  iapply (OS_join c); isplitl [BO0]; · iexact BO0
  iexact BO1

set_option backward.isDefEq.respectTransparency.types false in
/-- At the compiled mesh, for any float values, from any memory with zero counters: every weakly fair execution of
    the program terminates, with the result at `resW`, the arguments unchanged and every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ w => w.elim0)
    (X := intoΦ m) (Y := outOfΦ m) (Z := roundΦ m)
    (hX := fun c => by
      rw [unscopedRest0_eq]
      unfold intoΦ roundΦ
      iintro ⟨⟨A0, A1, A2, A3, -, V1, -, -, V4, V5, V6⟩, HS, -, -, -⟩; imodintro
      isplitl [A2 V1 V4 V5 V6 HS]
      · isplitl [V1]; · iexact V1
        isplitl [V4]; · iexact V4
        isplitl [A2]; · iexact A2
        isplitl [V5]; · iapply (of_eq (congrArg (fun S => (((c : Thread nD τ).loc main_v5) ↦[S]{fullShare} VXG m c : sProp 𝕄)) fgM_set.symm)); iexact V5
        isplitl [V6]; · iapply (rows_any c _); iexact V6
        iexact HS
      isplitl [A0]; · iexact A0
      isplitl [A1]; · iexact A1
      iexact A3)
    (hin := fun c => Φ_enter m c)
    (hout := fun c => Φ_leave m c)
    (QY := QY m)
    (hY := fun c s' => by
      unfold outOfΦ roundΦ
      iintro ⟨⟨A2, V6⟩, ⟨A0, A1, A3⟩, HSI⟩
      icombine HSI A0 gives %h0
      icombine HSI A1 gives %h1
      icombine HSI A2 gives %h2
      icombine HSI A3 gives %h3
      icombine HSI V6 gives %h6
      imodintro
      isplitr
      · ipureintro
        exact ⟨⟨Buf.eq_of_forall_mem_univ h0, Buf.eq_of_forall_mem_univ h1, Buf.eq_of_forall_mem_univ h2, Buf.eq_of_forall_mem_univ h3⟩, Buf.eq_of_forall_mem_univ h6⟩
      iexact HSI)
    (hQ := fun _ hh hz => ⟨fun c => (hh c).2, hz⟩)

end Cert.OutProj

end
-- ==== Proof.Algebra.lean ====
/-
  The output projection over the idealized floats, element by element: the two payloads of `cc0_out_proj`, the arrays the
  host lays out before it, and the composed term of the reference's host operations.
-/
module

public import proofs.«01_k».proof.Proof.Gen.KernelIdeal.Launch
public import proofs.«01_k».proof.Proof.Gen.KernelIdeal.Skeleton
public import proofs.«01_k».proof.Proof.Gen.ReferenceIdeal.Run
public import Idealize.ShloMosaic.Lib.Pointwise

@[expose] public section

noncomputable section

namespace Cert.OutProj

open Idealize.ShloMosaic Idealize.ShloMosaic.TcCoe

/-! ## The kernel's payloads at an index -/

section Kernel

open Cert.KernelIdeal Cert.KernelIdeal.Gen

theorem pay1_apply (x : Vec Ideal S1x512x512 .f32) (m0 : Vec Ideal S1x512x4096 .bf16) (w0 : Vec Ideal S1x4096x512 .bf16)
    (m1 : Vec Ideal S1x512x4096 .bf16) (w1 : Vec Ideal S1x4096x512 .bf16) (p : Fin 512) (q : Fin 512) :
    k0_pay1 x m0 w0 m1 w1 (ix2 p q)
      = x (ix3 0 p q) + (∑ k : Fin 4096, m0 (ix3 0 p k) * w0 (ix3 0 k q)) + ∑ k : Fin 4096, m1 (ix3 0 p k) * w1 (ix3 0 k q) := by
  pointwise [k0_pay1]

theorem pay2_apply (r : Vec Ideal S1x512x4096 .f32) (g : Vec Ideal S1x4096 .f32) (p : Fin 512) (q : Fin 4096) :
    k0_pay2 r g (ix3 0 p q)
      = r (ix3 0 p q) * Ideal.rsqrt (Ideal.div (∑ k : Fin 4096, r (ix3 0 p k) * r (ix3 0 p k)) (Ideal.ofBits .f32 0x45800000#32)
          + Ideal.ofBits .f32 0x358637BD#32) * g (ix2 0 q) := by
  pointwise [k0_pay2]

/-! ## What the host lays out -/

theorem slabs_mix (a : (⟨S8192x8192, .bf16⟩ : BufTy).Contents (Elt Ideal)) (h : Fin 2) (s : Fin 8192) (e : Fin 4096) :
    transpose S2x8192x4096 [1, 0, 2] (shapeCast S8192x2x4096 a shapeCasts_S8192x8192_S8192x2x4096) transposes_S8192x2x4096_S2x8192x4096_1_0_2 (ix3 h s e)
      = a (ix2 s ⟨h.val * 4096 + e.val, by omega⟩) := by
  pointwise

theorem slabs_wo (a : (⟨S8192x4096, .f32⟩ : BufTy).Contents (Elt Ideal)) (n : Fin 8) (e : Fin 8192) (d : Fin 512) :
    transpose S8x8192x512 [1, 0, 2] (shapeCast S8192x8x512 (truncf .bf16 a bitsLt_bf16_f32 : FVec Ideal S8192x4096 .bf16) shapeCasts_S8192x4096_S8192x8x512) transposes_S8192x8x512_S8x8192x512_1_0_2 (ix3 n e d)
      = a (ix2 e ⟨n.val * 512 + d.val, by omega⟩) := by
  pointwise

theorem row_fg (a : (⟨S4096, .f32⟩ : BufTy).Contents (Elt Ideal)) (d : Fin 4096) :
    broadcastInDim S1x4096 ![1] bcast_S4096_S1x4096_1 a (ix2 0 d) = a (ix1 d) := by
  pointwise

end Kernel

/-! ## The reference at an index -/

section Reference

open Cert.ReferenceIdeal Cert.ReferenceIdeal.Gen

variable (a0 : FVec Ideal S8192x8192 .bf16) (a1 a2 : FVec Ideal S8192x4096 .f32) (a3 : FVec Ideal S4096 .f32)

/-- The residual plus the projection. -/
def yT : FVec Ideal S8192x4096 .f32 :=
  addf a2 (Host.dotGeneral dot_S8192x8192_S8192x4096_S8192x4096_1_0_0_1_n_n none (extf .f32 a0 bitsLt_bf16_f32) a1)

/-- The reference's result. -/
def refT : FVec Ideal S8192x4096 .f32 :=
  mulf (mulf (yT a0 a1 a2) (broadcastInDim S8192x4096 ![0, 1] bcast_S8192x1_S8192x4096_0_1 (Host.rsqrt (addf (Host.divf
    (broadcastInDim S8192x1 ![0] bcast_S8192_S8192x1_0 (Host.reduceAdd (mulf (yT a0 a1 a2) (yT a0 a1 a2)) (constant S_ .f32 0x00000000#32) reducesTo_S8192x4096_S8192_d1 h_S_))
    (broadcastInDim S8192x1 ![] bcast_S_S8192x1 (constant S_ .f32 0x45800000#32)))
    (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 a3))

theorem yT_apply (s : Fin 8192) (d : Fin 4096) :
    yT a0 a1 a2 (ix2 s d) = a2 (ix2 s d) + ∑ k : Fin 8192, a0 (ix2 s k) * a1 (ix2 k d) := by
  pointwise [yT]

theorem refT_apply (s : Fin 8192) (d : Fin 4096) :
    refT a0 a1 a2 a3 (ix2 s d)
      = yT a0 a1 a2 (ix2 s d) * Ideal.rsqrt (Ideal.div (∑ k : Fin 4096, yT a0 a1 a2 (ix2 s k) * yT a0 a1 a2 (ix2 s k)) (Ideal.ofBits .f32 0x45800000#32)
          + Ideal.ofBits .f32 0x358637BD#32) * a3 (ix1 d) := by
  pointwise [refT]

end Reference

/-- A sum over 8192 is the sums over its halves. -/
theorem sum_halves (f : Fin 8192 → EReal) :
    ∑ k, f k = (∑ k : Fin 4096, f ⟨0 * 4096 + k.val, by omega⟩) + ∑ k : Fin 4096, f ⟨1 * 4096 + k.val, by omega⟩ := by
  refine (Fin.sum_univ_add (a := 4096) (b := 4096) f).trans (congrArg₂ (· + ·) ?_ ?_)
  · exact Finset.sum_congr rfl fun k _ => congrArg f (Fin.ext (by show k.val = 0 * 4096 + k.val; omega))
  · exact Finset.sum_congr rfl fun k _ => congrArg f (Fin.ext (by show 4096 + k.val = 1 * 4096 + k.val; omega))

end Cert.OutProj

end
-- ==== Proof.Value.lean ====
/-
  The value of the output projection over the idealized floats: what `cc0_out_proj` leaves in its result is, element by
  element, what the reference's host operations compute from the same arguments.
-/
module

public import proofs.«01_k».proof.Proof.Launch
public import proofs.«01_k».proof.Proof.Algebra
public import Idealize.ShloMosaic.Lib.Claim

@[expose] public section

noncomputable section

namespace Cert.OutProj

open Cert.KernelIdeal Cert.KernelIdeal.Gen
open Idealize.ShloMosaic Idealize.ShloMosaic.TcCoe Idealize.ShloMosaic.Tactic

section Norm

variable (c : Dev nD) (XM : Buf (Elt Ideal) ((c : Thread nD τ).loc main_v1)) (XW : Buf (Elt Ideal) ((c : Thread nD τ).loc main_v4))
  (XX : Buf (Elt Ideal) ((c : Thread nD τ).loc main_arg2)) (FG : Vec Ideal S1x4096 .f32)
  (a0 : FVec Ideal S8192x8192 .bf16) (a1 : FVec Ideal S8192x4096 .f32) (a3 : FVec Ideal S4096 .f32)

/-! ## The blocks at an index -/

theorem xV_apply (i : Fin 128) (p q : Fin 512) :
    xV c XX i (ix3 0 p q) = (XX : FVec Ideal S8192x4096 .f32) (ix2 ⟨512 * (i.val / 8) + p.val, by omega⟩ ⟨512 * (i.val % 8) + q.val, by omega⟩) := by
  refine congrArg (XX : FVec Ideal S8192x4096 .f32) (funext fun a => Fin.ext ?_)
  fin_cases a
  · show 512 * (i.val / 8) + 1 * p.val = 512 * (i.val / 8) + p.val; omega
  · show 512 * (i.val % 8) + 1 * q.val = 512 * (i.val % 8) + q.val; omega

theorem mixV_apply (j : Fin 16) (h : Fin 2) (p : Fin 512) (k : Fin 4096) :
    mixV c XM j h (ix3 0 p k) = (XM : FVec Ideal S2x8192x4096 .bf16) (ix3 h ⟨512 * j.val + p.val, by omega⟩ k) := by
  refine congrArg (XM : FVec Ideal S2x8192x4096 .bf16) (funext fun a => Fin.ext ?_)
  fin_cases a
  · show 0 + 1 * h.val = h.val; omega
  · show 512 * j.val + 1 * p.val = 512 * j.val + p.val; omega
  · show 0 + 1 * k.val = k.val; omega

theorem woV_apply (n : Fin 8) (h : Fin 2) (k : Fin 4096) (q : Fin 512) :
    woV c XW n h (ix3 0 k q) = (XW : FVec Ideal S8x8192x512 .bf16) (ix3 n ⟨h.val * 4096 + k.val, by omega⟩ q) := by
  refine congrArg (XW : FVec Ideal S8x8192x512 .bf16) (funext fun a => Fin.ext ?_)
  fin_cases a
  · show n.val + 1 * 0 = n.val; omega
  · show 0 + 1 * (4096 * h.val + k.val) = h.val * 4096 + k.val; omega
  · show 0 + 1 * q.val = q.val; omega

/-! ## A piece, a row, the result -/

variable (hM : ∀ (h : Fin 2) (s : Fin 8192) (e : Fin 4096), (XM : FVec Ideal S2x8192x4096 .bf16) (ix3 h s e) = a0 (ix2 s ⟨h.val * 4096 + e.val, by omega⟩))
  (hW : ∀ (n : Fin 8) (e : Fin 8192) (d : Fin 512), (XW : FVec Ideal S8x8192x512 .bf16) (ix3 n e d) = a1 (ix2 e ⟨n.val * 512 + d.val, by omega⟩))
  (hG : ∀ d : Fin 4096, FG (ix2 0 d) = a3 (ix1 d))

include hM hW in
theorem pieceV_apply (j : Fin 16) (n : Fin 8) (p q : Fin 512) :
    pieceV c XM XW XX j n (ix2 p q)
      = yT a0 a1 XX (ix2 ⟨512 * j.val + p.val, by omega⟩ ⟨512 * n.val + q.val, by omega⟩) := by
  have e1 : (Ring.bk 128 (8 * j.val + n.val) : Fin 128).val / 8 = j.val := by show (8 * j.val + n.val) % 128 / 8 = _; omega
  have e2 : (Ring.bk 128 (8 * j.val + n.val) : Fin 128).val % 8 = n.val := by show (8 * j.val + n.val) % 128 % 8 = _; omega
  unfold pieceV
  rw [pay1_apply, yT_apply, sum_halves, ← add_assoc]
  simp only [xV_apply, mixV_apply, woV_apply, hM, hW, e1, e2, Nat.mul_comm 512 n.val]
  rfl

include hM hW in
theorem rowV_apply (j : Fin 16) (p : Fin 512) (d : Fin 4096) :
    rowV c XM XW XX j (ix2 p d) = yT a0 a1 XX (ix2 ⟨512 * j.val + p.val, by omega⟩ d) := by
  refine (pieceV_apply c XM XW XX a0 a1 hM hW j ⟨d.val / 512, by omega⟩ p ⟨d.val % 512, by omega⟩).trans ?_
  have e : (⟨512 * (d.val / 512) + d.val % 512, by omega⟩ : Fin 4096) = d := Fin.ext (by show 512 * (d.val / 512) + d.val % 512 = d.val; omega)
  exact congrArg (fun d' => yT a0 a1 XX (ix2 ⟨512 * j.val + p.val, by omega⟩ d')) e

include hM hW hG in
theorem normV_apply (j : Fin 16) (p : Fin 512) (d : Fin 4096) :
    normV c XM XW XX FG j (ix2 p d) = refT a0 a1 XX a3 (ix2 ⟨512 * j.val + p.val, by omega⟩ d) := by
  refine (pay2_apply _ FG p d).trans ?_
  rw [refT_apply, hG]
  have e : ∀ k : Fin 4096, rowV c XM XW XX j (ix2 p k) = yT a0 a1 XX (ix2 ⟨512 * j.val + p.val, by omega⟩ k) :=
    fun k => rowV_apply c XM XW XX a0 a1 hM hW j p k
  show rowV c XM XW XX j (ix2 p d) * Ideal.rsqrt (Ideal.div (∑ k : Fin 4096, rowV c XM XW XX j (ix2 p k) * rowV c XM XW XX j (ix2 p k)) _ + _) * _ = _
  simp only [e]

include hM hW hG in
theorem resW_eq : (resW c XM XW XX FG : FVec Ideal S8192x4096 .f32) = refT a0 a1 XX a3 := by
  funext y
  have hs : (y 0).val < 8192 := (y 0).isLt
  refine (normV_apply c XM XW XX FG a0 a1 a3 hM hW hG ⟨(y 0).val / 512, by omega⟩ ⟨(y 0).val % 512, by omega⟩ (y 1)).trans ?_
  refine congrArg (refT a0 a1 XX a3) (funext fun a => ?_)
  fin_cases a
  · exact Fin.ext (by show 512 * ((y 0).val / 512) + (y 0).val % 512 = (y 0).val; omega)
  · rfl

end Norm

/-! ## From the launch's memory -/

variable (m : (ℓ : Loc nD τ sig) → Buf (Elt Ideal) ℓ)

theorem VXM_apply (c : Dev nD) (h : Fin 2) (s : Fin 8192) (e : Fin 4096) :
    (VXM m c : FVec Ideal S2x8192x4096 .bf16) (ix3 h s e)
      = (m ((c : Thread nD τ).loc main_arg0) : FVec Ideal S8192x8192 .bf16) (ix2 s ⟨h.val * 4096 + e.val, by omega⟩) := by
  refine (congrFun (?_ : (VXM m c : FVec Ideal S2x8192x4096 .bf16) = _) _).trans (slabs_mix (m ((c : Thread nD τ).loc main_arg0)) h s e)
  show Gen.V m c main_v1 = _
  entry_read; rfl

theorem VXW_apply (c : Dev nD) (n : Fin 8) (e : Fin 8192) (d : Fin 512) :
    (VXW m c : FVec Ideal S8x8192x512 .bf16) (ix3 n e d)
      = (m ((c : Thread nD τ).loc main_arg1) : FVec Ideal S8192x4096 .f32) (ix2 e ⟨n.val * 512 + d.val, by omega⟩) := by
  refine (congrFun (?_ : (VXW m c : FVec Ideal S8x8192x512 .bf16) = _) _).trans (slabs_wo (m ((c : Thread nD τ).loc main_arg1)) n e d)
  show Gen.V m c main_v4 = _
  entry_read; rfl

theorem VFG_apply (c : Dev nD) (d : Fin 4096) :
    VFG m c (ix2 0 d) = (m ((c : Thread nD τ).loc main_arg3) : FVec Ideal S4096 .f32) (ix1 d) := by
  refine Eq.trans (?_ : VFG m c (ix2 0 d) = (Gen.V m c main_v5 : FVec Ideal S1x4096 .f32) (ix2 0 d)) ?_
  · refine congrArg (Gen.V m c main_v5 : FVec Ideal S1x4096 .f32) (funext fun a => Fin.ext ?_)
    fin_cases a <;> rfl
  · refine (congrFun (?_ : (Gen.V m c main_v5 : FVec Ideal S1x4096 .f32) = _) _).trans (row_fg (m ((c : Thread nD τ).loc main_arg3)) d)
    entry_read; rfl

/-- The kernel's result is the reference's term of the arguments. -/
theorem result_eq (c : Dev nD) :
    (resW c (VXM m c) (VXW m c) (VXX m c) (VFG m c) : FVec Ideal S8192x4096 .f32)
      = refT (m ((c : Thread nD τ).loc main_arg0)) (m ((c : Thread nD τ).loc main_arg1)) (m ((c : Thread nD τ).loc main_arg2)) (m ((c : Thread nD τ).loc main_arg3)) := by
  refine (resW_eq c _ _ _ _ _ _ _ (VXM_apply m c) (VXW_apply m c) (VFG_apply m c)).trans ?_
  show refT _ _ (Gen.V m c main_arg2) _ = _
  rw [Gen.V_main_arg2]

end Cert.OutProj

end
-- ==== Proof.VData.lean ====
/-
  The normalise-and-project call: the pieces its body reads and writes, named.
-/
module

public import proofs.«01_k».proof.Proof.Gen.Kernel2Ideal.Frame
public import proofs.«01_k».proof.Proof.Gen.Kernel2Ideal.Skeleton
public import Idealize.ShloMosaic.Lib.WholeRead
public import Idealize.ShloMosaic.Lib.WritesUnit

@[expose] public section

noncomputable section

namespace Cert.VProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- 256 rows by 1024 columns of the current tile, from row `r`, column `o`. -/
def aAt (A : Vec F S1024x4096 .bf16) (r o : ℕ) (h : ∀ a, (![r, o] : Fin 2 → ℕ) a + S256x1024.size a ≤ S1024x4096.size a) :
    Vec F S256x1024 .bf16 := fun x => A ((Rect.unit (s := S1024x4096) ![r, o] S256x1024.size h).toLoadRect.idx x)

/-- 1024 rows of the projection's block, from row `o`. -/
def wAt (w : Vec F S4096x512 .bf16) (o : ℕ) (h : ∀ a, (![o, 0] : Fin 2 → ℕ) a + S1024x512.size a ≤ S4096x512.size a) :
    Vec F S1024x512 .bf16 := fun x => w ((Rect.unit (s := S4096x512) ![o, 0] S1024x512.size h).toLoadRect.idx x)

/-- Rows 0‥255 of the projected block. -/
def gv0 (A : Vec F S1024x4096 .bf16) (w : Vec F S4096x512 .bf16) : FVec F S256x512 .bf16 :=
  k0_pay18
    (k0_pay11 (aAt A 0 0 inb_S1024x4096_S256x1024_0_0) (wAt w 0 inb_S4096x512_S1024x512_0_0))
    (k0_pay14 (aAt A 0 1024 inb_S1024x4096_S256x1024_0_1024) (wAt w 1024 inb_S4096x512_S1024x512_1024_0))
    (aAt A 0 2048 inb_S1024x4096_S256x1024_0_2048) (wAt w 2048 inb_S4096x512_S1024x512_2048_0)
    (aAt A 0 3072 inb_S1024x4096_S256x1024_0_3072) (wAt w 3072 inb_S4096x512_S1024x512_3072_0)

/-- Rows 256‥511. -/
def gv1 (A : Vec F S1024x4096 .bf16) (w : Vec F S4096x512 .bf16) : FVec F S256x512 .bf16 :=
  k0_pay26
    (k0_pay21 (k0_pay16 (aAt A 256 0 inb_S1024x4096_S256x1024_256_0) (wAt w 0 inb_S4096x512_S1024x512_0_0))
      (aAt A 256 1024 inb_S1024x4096_S256x1024_256_1024) (wAt w 1024 inb_S4096x512_S1024x512_1024_0)
      (aAt A 256 2048 inb_S1024x4096_S256x1024_256_2048) (wAt w 2048 inb_S4096x512_S1024x512_2048_0))
    (aAt A 256 3072 inb_S1024x4096_S256x1024_256_3072) (wAt w 3072 inb_S4096x512_S1024x512_3072_0)

/-- Rows 512‥767. -/
def gv2 (A : Vec F S1024x4096 .bf16) (w : Vec F S4096x512 .bf16) : FVec F S256x512 .bf16 :=
  k0_pay35
    (k0_pay32 (k0_pay24 (aAt A 512 0 inb_S1024x4096_S256x1024_512_0) (wAt w 0 inb_S4096x512_S1024x512_0_0))
      (aAt A 512 1024 inb_S1024x4096_S256x1024_512_1024) (wAt w 1024 inb_S4096x512_S1024x512_1024_0)
      (aAt A 512 2048 inb_S1024x4096_S256x1024_512_2048) (wAt w 2048 inb_S4096x512_S1024x512_2048_0)
      (aAt A 512 3072 inb_S1024x4096_S256x1024_512_3072) (wAt w 3072 inb_S4096x512_S1024x512_3072_0))

/-- Rows 768‥1023. -/
def gv3 (A : Vec F S1024x4096 .bf16) (w : Vec F S4096x512 .bf16) : FVec F S256x512 .bf16 :=
  k0_pay40
    (k0_pay33 (aAt A 768 0 inb_S1024x4096_S256x1024_768_0) (wAt w 0 inb_S4096x512_S1024x512_0_0))
    (aAt A 768 1024 inb_S1024x4096_S256x1024_768_1024) (wAt w 1024 inb_S4096x512_S1024x512_1024_0)
    (aAt A 768 2048 inb_S1024x4096_S256x1024_768_2048) (wAt w 2048 inb_S4096x512_S1024x512_2048_0)
    (aAt A 768 3072 inb_S1024x4096_S256x1024_768_3072) (wAt w 3072 inb_S4096x512_S1024x512_3072_0)

/-- Block `X` is the projected block of tile `A` by `w`: its four runs of rows are. -/
def GvIs (A : Vec F S1024x4096 .bf16) (w : Vec F S4096x512 .bf16) (X : Vec F S1024x512 .bf16) : Prop :=
  (∀ x, X ((Rect.unit (s := S1024x512) ![0, 0] S256x512.size inb_S1024x512_S256x512_0_0).emb x) = gv0 A w x)
    ∧ (∀ x, X ((Rect.unit (s := S1024x512) ![256, 0] S256x512.size inb_S1024x512_S256x512_256_0).emb x) = gv1 A w x)
    ∧ (∀ x, X ((Rect.unit (s := S1024x512) ![512, 0] S256x512.size inb_S1024x512_S256x512_512_0).emb x) = gv2 A w x)
    ∧ (∀ x, X ((Rect.unit (s := S1024x512) ![768, 0] S256x512.size inb_S1024x512_S256x512_768_0).emb x) = gv3 A w x)

/-- `A'` is `A` with rows `128 * j ‥ 128 * j + 127` replaced by `B`. -/
def RowsPut (A : Vec F S1024x4096 .bf16) (j : ℕ) (B : FVec F S128x4096 .bf16) (A' : Vec F S1024x4096 .bf16) : Prop :=
  (∀ (y : S1024x4096.Idx) (x : S128x4096.Idx), (y 0).val = 128 * j + (x 0).val → (y 1).val = (x 1).val → A' y = B x)
    ∧ (∀ y : S1024x4096.Idx, ((y 0).val < 128 * j ∨ 128 * j + 128 ≤ (y 0).val) → A' y = A y)

/-- A load of part of the current tile, held at contents that read `A`. -/
theorem ld_a (m : Memref sig .tc .vmem S1024x4096 .bf16) (f : m.view.ty.Contents (Elt F)) (A : Vec F S1024x4096 .bf16)
    (hf : m.view.read (Elt F) f = A) (r o : ℕ) (h : ∀ a, (![r, o] : Fin 2 → ℕ) a + S256x1024.size a ≤ S1024x4096.size a) :
    View.readAt (Elt F) m.view (Rect.unit (s := S1024x4096) ![r, o] S256x1024.size h).toLoadRect f = aAt A r o h := by
  subst hf; rfl

/-- A load of 1024 rows of the projection's block. -/
theorem ld_w (m : Memref sig .tc .vmem S4096x512 .bf16) (f : m.view.ty.Contents (Elt F)) (w : Vec F S4096x512 .bf16)
    (hf : m.view.read (Elt F) f = w) (o : ℕ) (h : ∀ a, (![o, 0] : Fin 2 → ℕ) a + S1024x512.size a ≤ S4096x512.size a) :
    View.readAt (Elt F) m.view (Rect.unit (s := S4096x512) ![o, 0] S1024x512.size h).toLoadRect f = wAt w o h := by
  subst hf; rfl

/-- A load of a whole buffer of rank 2. -/
theorem ld_all {d : Fin 2 → ℕ} {e : EltTy} (m : Memref sig .tc .vmem ⟨2, d⟩ e) (f : m.view.ty.Contents (Elt F))
    (X : (⟨2, d⟩ : Shape).Idx → Elt F e) (hf : m.view.read (Elt F) f = X) (h : ∀ a, (![0, 0] : Fin 2 → ℕ) a + d a ≤ d a) :
    View.readAt (Elt F) m.view (Rect.unit (s := ⟨2, d⟩) ![0, 0] d h).toLoadRect f = X := by
  subst hf
  funext x
  refine congrArg (m.view.read (Elt F) f) (funext fun a => Fin.ext ?_)
  show (![0, 0] : Fin 2 → ℕ) a + 1 * (x a).val = (x a).val
  fin_cases a <;> simp

/-- A store of a whole buffer of rank 2. -/
theorem st_all {d : Fin 2 → ℕ} {e : EltTy} (m : Memref sig .tc .vmem ⟨2, d⟩ e) (f : m.view.ty.Contents (Elt F))
    (h : ∀ a, (![0, 0] : Fin 2 → ℕ) a + d a ≤ d a) (X : (⟨2, d⟩ : Shape).Idx → Elt F e) :
    m.view.read (Elt F) (m.view.writes (Elt F) f [⟨Rect.unit (s := ⟨2, d⟩) ![0, 0] d h, X⟩]) = X := by
  funext y
  refine View.read_writes_cons_unit_of_mem m.view f h X [] y y rfl fun a => ?_
  fin_cases a <;> simp

/-- A store of 128 rows at row `128 * j`. -/
theorem st_rows (m : Memref sig .tc .vmem S1024x4096 .bf16) (f : m.view.ty.Contents (Elt F)) (A : Vec F S1024x4096 .bf16)
    (hf : m.view.read (Elt F) f = A) (off : Fin 2 → ℕ) (j : ℕ) (ho : off = ![128 * j, 0])
    (h : ∀ a, off a + S128x4096.size a ≤ S1024x4096.size a) (B : FVec F S128x4096 .bf16) :
    RowsPut A j B (m.view.read (Elt F) (m.view.writes (Elt F) f [⟨Rect.unit (s := S1024x4096) off S128x4096.size h, B⟩])) := by
  refine ⟨fun y x h0 h1 => ?_, fun y hy => ?_⟩
  · refine View.read_writes_cons_unit_of_mem m.view f h B [] y x ho fun a => ?_
    match a with
    | 0 => exact h0
    | 1 => exact h1.trans (Nat.zero_add _).symm
  · refine (View.read_writes_cons_unit_of_not_mem m.view f h B [] y ho (0 : Fin 2) hy).trans ?_
    exact congrFun hf y

/-- Four stores of 256 rows each make the projected block. -/
theorem st_gv (m : Memref sig .tc .vmem S1024x512 .bf16) (f : m.view.ty.Contents (Elt F)) (A : Vec F S1024x4096 .bf16)
    (w : Vec F S4096x512 .bf16) (B0 B1 B2 B3 : FVec F S256x512 .bf16) (h0 : B0 = gv0 A w) (h1 : B1 = gv1 A w)
    (h2 : B2 = gv2 A w) (h3 : B3 = gv3 A w) :
    GvIs A w (m.view.read (Elt F) (m.view.writes (Elt F) f
      [⟨Rect.unit (s := S1024x512) ![768, 0] S256x512.size inb_S1024x512_S256x512_768_0, B3⟩,
       ⟨Rect.unit (s := S1024x512) ![512, 0] S256x512.size inb_S1024x512_S256x512_512_0, B2⟩,
       ⟨Rect.unit (s := S1024x512) ![256, 0] S256x512.size inb_S1024x512_S256x512_256_0, B1⟩,
       ⟨Rect.unit (s := S1024x512) ![0, 0] S256x512.size inb_S1024x512_S256x512_0_0, B0⟩])) := by
  subst h0 h1 h2 h3
  have hrow : ∀ (r : ℕ) (h : ∀ a, (![r, 0] : Fin 2 → ℕ) a + S256x512.size a ≤ S1024x512.size a) (x : S256x512.Idx),
      (((Rect.unit (s := S1024x512) ![r, 0] S256x512.size h).emb x) (0 : Fin 2)).val = r + (x 0).val := fun r h x => by
    show r + 1 * (x 0).val = _
    omega
  refine ⟨fun x => ?_, fun x => ?_, fun x => ?_, fun x => ?_⟩
  · have hx : (x (0 : Fin 2)).val < 256 := (x 0).isLt
    rw [View.read_writes_cons_unit_of_not_mem m.view f _ _ _ _ rfl (0 : Fin 2) (by left; rw [hrow]; show _ < 768; omega),
      View.read_writes_cons_unit_of_not_mem m.view f _ _ _ _ rfl (0 : Fin 2) (by left; rw [hrow]; show _ < 512; omega),
      View.read_writes_cons_unit_of_not_mem m.view f _ _ _ _ rfl (0 : Fin 2) (by left; rw [hrow]; show _ < 256; omega),
      View.read_writes_cons_emb]
  · have hx : (x (0 : Fin 2)).val < 256 := (x 0).isLt
    rw [View.read_writes_cons_unit_of_not_mem m.view f _ _ _ _ rfl (0 : Fin 2) (by left; rw [hrow]; show _ < 768; omega),
      View.read_writes_cons_unit_of_not_mem m.view f _ _ _ _ rfl (0 : Fin 2) (by left; rw [hrow]; show _ < 512; omega),
      View.read_writes_cons_emb]
  · have hx : (x (0 : Fin 2)).val < 256 := (x 0).isLt
    rw [View.read_writes_cons_unit_of_not_mem m.view f _ _ _ _ rfl (0 : Fin 2) (by left; rw [hrow]; show _ < 768; omega),
      View.read_writes_cons_emb]
  · rw [View.read_writes_cons_emb]

/-- The rows written are those of the column block's number. -/
theorem off1_rows (i : grid0.Coords) : k0_off1 i = ![128 * (i 1).val, 0] := by
  have : ∀ k : Fin 8, (Scalar.indexCast (Scalar.muli (BitVec.ofNat 32 k.val) 128#32)).toNat = 128 * k.val := by decide
  unfold k0_off1
  exact congrArg (fun n => (![n, 0] : Fin 2 → ℕ)) (this (i 1))

theorem off2_rows (i : grid0.Coords) : k0_off2 i = ![128 * (i 1).val, 0] := by
  have : ∀ k : Fin 8, (Scalar.indexCast (Scalar.muli (BitVec.ofNat 32 k.val) 128#32)).toNat = 128 * k.val := by decide
  unfold k0_off2
  exact congrArg (fun n => (![n, 0] : Fin 2 → ℕ)) (this (i 1))

/-- The first column block is told by its number. -/
theorem first_iff (i : grid0.Coords) :
    Scalar.cmpi .ne (Scalar.extui (Scalar.cmpi .eq (BitVec.ofNat 32 (i 1).val) 0#32)) 0#32 = 1#1 ↔ (i 1).val = 0 := by
  have : ∀ k : Fin 8, Scalar.cmpi .ne (Scalar.extui (Scalar.cmpi .eq (BitVec.ofNat 32 k.val) 0#32)) 0#32 = 1#1 ↔ k.val = 0 := by decide
  exact this (i 1)

theorem pay2_eq (x : Vec F S128x4096 .f32) (g : Vec F S1x4096 .f32) : k0_pay2 x g = k0_pay1 x g := by
  unfold k0_pay2; exact shapeCast_self _ _
theorem pay12_eq (x : Vec F S128x4096 .f32) (g : Vec F S1x4096 .f32) : k0_pay12 x g = k0_pay1 x g := rfl
theorem pay13_eq (x : Vec F S128x4096 .f32) (g : Vec F S1x4096 .f32) : k0_pay13 x g = k0_pay1 x g := by
  unfold k0_pay13; exact (shapeCast_self _ _).trans (pay12_eq x g)
theorem pay8_eq (A : Vec F S1024x4096 .bf16) : k0_pay8 A = A := by
  unfold k0_pay8; exact shapeCast_self _ _

end Cert.VProj

end
-- ==== Proof.VFirst.lean ====
/-
  The body on the first row of the grid: 128 rows of the first tile normalised.
-/
module

public import proofs.«01_k».proof.Proof.VData
public import Idealize.ShloMosaic.Lib.Tactic

@[expose] public section

set_option maxRecDepth 16384

noncomputable section

namespace Cert.VProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option backward.proofsInPublic true in
set_option maxHeartbeats 4000000 in
/-- A point of the first row of the grid: 128 rows of the first tile are normalised and kept. -/
theorem runFirst (𝒱₀ : Variants) (c : Dev nD) (i : grid0.Coords) (arg2 : Memref sig .tc .vmem S128x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S128x4096 .bf16) (harg9 : arg9.IsWhole) (arg10 : Memref sig .tc .vmem S1024x512 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1024x1024 .bf16) (harg13 : arg13.IsWhole) (arg14 : Memref sig .tc .vmem S1024x4096 .bf16) (harg14 : arg14.IsWhole) (arg15 : Memref sig .tc .vmem S1024x4096 .bf16) (harg15 : arg15.IsWhole) (arg16 : Memref sig .tc .vmem S1024x128 .f32) (harg16 : arg16.IsWhole) (arg17 : Memref sig .tc .vmem S1024x128 .f32) (harg17 : arg17.IsWhole)
    (h1 : k0_cond1 i = 1#1) (h2 : ¬ k0_cond2 i = 1#1)
    (x2 : Vec F S128x4096 .f32) (x3 : Vec F S1x4096 .f32) (x4 : Vec F S4096x512 .bf16) (x5 : Vec F S1024x256 .f32) (x6 : Vec F S1024x256 .f32) (x7 : Vec F S1024x256 .f32) (x8 : Vec F S1024x256 .f32) (x9 : Vec F S128x4096 .bf16) (x10 : Vec F S1024x512 .bf16) (x11 : Vec F S1024x128 .f32) (x12 : Vec F S1024x128 .f32) (x13 : Vec F S1x1024x1024 .bf16) (x14 : Vec F S1024x4096 .bf16) (x15 : Vec F S1024x4096 .bf16) (x16 : Vec F S1024x128 .f32) (x17 : Vec F S1024x128 .f32) (E : Set ℕ) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay1 x2 x3) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X)
          ∗ owns (c : Thread nD τ) arg14 fullShare x14 ∗ (∃ X, ⌜RowsPut x15 (i 1).val (k0_pay1 x2 x3) X⌝ ∗ owns (c : Thread nD τ) arg15 fullShare X) ∗ (∃ X, owns (c : Thread nD τ) arg16 fullShare X) ∗ (∃ X, owns (c : Thread nD τ) arg17 fullShare X)) -∗ K ⟨⟩))
      ⊢ wp frame (wpE (defs₀ (F := F)) 𝒱₀ c none) E (cc0_vproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_vproj_eq_skeleton]; unfold cc0_vproj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact h1 | sl_exact h2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    sl_unfold_run_names; ipureintro
    exact (st_all arg9 _ _ _).trans (congrArg₂ k0_pay1 (ld_all arg2 _ x2 hf2 _) (ld_all arg3 _ x3 hf3 _))
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; exact harg14.read_unread _
  isplitl [H15]
  · iexists _; isplitr; swap
    · iexists _; isplitr; swap; · iexact H15
      ipureintro; rfl
    sl_unfold_run_names; ipureintro
    rw [pay2_eq, ld_all arg2 _ x2 hf2 _, ld_all arg3 _ x3 hf3 _]
    exact st_rows arg15 _ x15 hf15 _ _ (off1_rows i) _ _
  isplitl [H16]
  · iexists _, _; isplitr; swap; · iexact H16
    ipureintro; rfl
  iexists _, _; isplitr; swap; · iexact H17
  ipureintro; rfl

end Cert.VProj

end
-- ==== Proof.VNext.lean ====
/-
  The body after the first row of the grid: a block of the projection, and the next tile normalised.
-/
module

public import proofs.«01_k».proof.Proof.VData
public import Idealize.ShloMosaic.Lib.Tactic

@[expose] public section

set_option maxRecDepth 16384

noncomputable section

namespace Cert.VProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option backward.proofsInPublic true in
set_option maxHeartbeats 4000000 in
/-- A point past the first row of the grid: the current tile is the one kept, or at the first column block the one just completed; its projected block is written, and 128 rows of the next tile. -/
theorem runNext (𝒱₀ : Variants) (c : Dev nD) (i : grid0.Coords) (arg2 : Memref sig .tc .vmem S128x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S128x4096 .bf16) (harg9 : arg9.IsWhole) (arg10 : Memref sig .tc .vmem S1024x512 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1024x1024 .bf16) (harg13 : arg13.IsWhole) (arg14 : Memref sig .tc .vmem S1024x4096 .bf16) (harg14 : arg14.IsWhole) (arg15 : Memref sig .tc .vmem S1024x4096 .bf16) (harg15 : arg15.IsWhole) (arg16 : Memref sig .tc .vmem S1024x128 .f32) (harg16 : arg16.IsWhole) (arg17 : Memref sig .tc .vmem S1024x128 .f32) (harg17 : arg17.IsWhole)
    (h1 : ¬ k0_cond1 i = 1#1) (h2 : k0_cond2 i = 1#1)
    (x2 : Vec F S128x4096 .f32) (x3 : Vec F S1x4096 .f32) (x4 : Vec F S4096x512 .bf16) (x5 : Vec F S1024x256 .f32) (x6 : Vec F S1024x256 .f32) (x7 : Vec F S1024x256 .f32) (x8 : Vec F S1024x256 .f32) (x9 : Vec F S128x4096 .bf16) (x10 : Vec F S1024x512 .bf16) (x11 : Vec F S1024x128 .f32) (x12 : Vec F S1024x128 .f32) (x13 : Vec F S1x1024x1024 .bf16) (x14 : Vec F S1024x4096 .bf16) (x15 : Vec F S1024x4096 .bf16) (x16 : Vec F S1024x128 .f32) (x17 : Vec F S1024x128 .f32) (E : Set ℕ) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17)
        ∗ (iprop(∃ A, ⌜A = if (i 1).val = 0 then x15 else x14⌝ ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay1 x2 x3) ∗ (∃ X, ⌜GvIs A x4 X⌝ ∗ owns (c : Thread nD τ) arg10 fullShare X) ∗ (∃ X, owns (c : Thread nD τ) arg11 fullShare X) ∗ (∃ X, owns (c : Thread nD τ) arg12 fullShare X) ∗ (∃ X, owns (c : Thread nD τ) arg13 fullShare X)
          ∗ owns (c : Thread nD τ) arg14 fullShare A ∗ (∃ X, ⌜RowsPut x15 (i 1).val (k0_pay1 x2 x3) X⌝ ∗ owns (c : Thread nD τ) arg15 fullShare X) ∗ (∃ X, owns (c : Thread nD τ) arg16 fullShare X) ∗ (∃ X, owns (c : Thread nD τ) arg17 fullShare X)) -∗ K ⟨⟩))
      ⊢ wp frame (wpE (defs₀ (F := F)) 𝒱₀ c none) E (cc0_vproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_vproj_eq_skeleton]; unfold cc0_vproj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact h1 | sl_exact h2)
  sl_step
  iapply Hk
  have hA : arg14.view.read (Elt F) (if hc : Scalar.cmpi .ne (Scalar.extui (Scalar.cmpi .eq (BitVec.ofNat 32 (i 1).val) 0#32)) 0#32 = 1#1 then
      arg14.view.writes (Elt F) (harg14.unread x14)
        [⟨Rect.unit ![0, 0] S1024x4096.size inb_S1024x4096_S1024x4096_0_0,
            k0_pay8
              (View.readAt (Elt F) arg15.view
                (Rect.unit ![0, 0] S1024x4096.size inb_S1024x4096_S1024x4096_0_0).toLoadRect (harg15.unread x15))⟩]
    else harg14.unread x14) = if (i 1).val = 0 then x15 else x14 := by
    by_cases h0 : (i 1).val = 0
    · rw [dif_pos ((first_iff i).2 h0), if_pos h0, pay8_eq]
      exact (st_all arg14 _ _ _).trans (ld_all arg15 _ x15 hf15 _)
    · rw [dif_neg (fun h => h0 ((first_iff i).1 h)), if_neg h0]
      exact hf14
  generalize hAA : (if (i 1).val = 0 then x15 else x14) = A at hA
  iexists A
  isplitr
  · ipureintro; rfl
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    sl_unfold_run_names; ipureintro
    exact (st_all arg9 _ _ _).trans (congrArg₂ k0_pay1 (ld_all arg2 _ x2 hf2 _) (ld_all arg3 _ x3 hf3 _))
  isplitl [H10]
  · iexists _; isplitr; swap
    · iexists _; isplitr; swap; · iexact H10
      ipureintro; rfl
    sl_unfold_run_names; ipureintro
    refine st_gv arg10 _ A x4 _ _ _ _ ?_ ?_ ?_ ?_
    · simp only [ld_a arg14 _ A hA, ld_w arg4 _ x4 hf4]; rfl
    · simp only [ld_a arg14 _ A hA, ld_w arg4 _ x4 hf4]; rfl
    · simp only [ld_a arg14 _ A hA, ld_w arg4 _ x4 hf4]; rfl
    · simp only [ld_a arg14 _ A hA, ld_w arg4 _ x4 hf4]; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; exact hA
  isplitl [H15]
  · iexists _; isplitr; swap
    · iexists _; isplitr; swap; · iexact H15
      ipureintro; rfl
    sl_unfold_run_names; ipureintro
    rw [pay13_eq, ld_all arg2 _ x2 hf2 _, ld_all arg3 _ x3 hf3 _]
    exact st_rows arg15 _ x15 hf15 _ _ (off2_rows i) _ _
  isplitl [H16]
  · iexists _, _; isplitr; swap; · iexact H16
    ipureintro; rfl
  iexists _, _; isplitr; swap; · iexact H17
  ipureintro; rfl

end Cert.VProj

end
-- ==== Proof.VPoint.lean ====
/-
  The body at a grid point: what it keeps between points, and the body obligation of the pipeline.
-/
module

public import proofs.«01_k».proof.Proof.VFirst
public import proofs.«01_k».proof.Proof.VNext
public import Idealize.ShloMosaic.Lib.Pipeline.DatRel

@[expose] public section

set_option maxRecDepth 16384

noncomputable section

namespace Cert.VProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F]
local notation "𝕄" => MT nD τ sig Unit (Elt F) ℕ (UR sig nD τ) ℕ

variable (m : (ℓ : Loc nD τ sig) → Buf (Elt F) ℓ)

/-! ## The blocks and the rows kept -/

/-- The rows of x at point `u`, normalised. -/
def NB (c : Dev nD) (u : Fin cfg0.N) : FVec F S128x4096 .bf16 := k0_pay1 (iblk m c 0 u) (iblk m c 1 u)

/-- The projection's block at point `u`. -/
def WB (c : Dev nD) (u : Fin cfg0.N) : Vec F S4096x512 .bf16 := iblk m c 2 u

/-- Rows `128 * b ‥ 128 * b + 127` of `A` are `B`. -/
def HoldsRows (A : Vec F S1024x4096 .bf16) (b : ℕ) (B : FVec F S128x4096 .bf16) : Prop :=
  ∀ (y : S1024x4096.Idx) (x : S128x4096.Idx), (y 0).val = 128 * b + (x 0).val → (y 1).val = (x 1).val → A y = B x

/-- Before point `t` the tile being filled holds the rows of the last eight points. -/
def NextOk (c : Dev nD) (t : ℕ) (A : Vec F S1024x4096 .bf16) : Prop :=
  ∀ u : Fin cfg0.N, u.val < t → t ≤ u.val + 8 → HoldsRows A (u.val % 8) (NB m c u)

/-- `A` is the tile completed in the grid's row before point `t`'s. -/
def TileOk (c : Dev nD) (t : ℕ) (A : Vec F S1024x4096 .bf16) : Prop :=
  ∀ u : Fin cfg0.N, u.val / 8 + 1 = t / 8 → HoldsRows A (u.val % 8) (NB m c u)

/-- Before point `t` within a row of the grid, the current tile is the one completed in the row before. -/
def CurOk (c : Dev nD) (t : ℕ) (A : Vec F S1024x4096 .bf16) : Prop := t % 8 ≠ 0 → TileOk m c t A

theorem next_step {c : Dev nD} {t : Fin cfg0.N} {A A' : Vec F S1024x4096 .bf16} (hA : NextOk m c t.val A)
    (h : RowsPut A (t.val % 8) (NB m c t) A') : NextOk m c (t.val + 1) A' := by
  intro u hu hu8
  by_cases e : u = t
  · subst e; exact h.1
  · have hne : u.val ≠ t.val := fun e' => e (Fin.ext e')
    intro y x h0 h1
    have hx : (x (0 : Fin 2)).val < 128 := (x 0).isLt
    rw [h.2 y (by rcases Nat.lt_or_gt_of_ne (show u.val % 8 ≠ t.val % 8 by omega) with hl | hl <;> omega)]
    exact hA u (by omega) (by omega) y x h0 h1

theorem cur_step {c : Dev nD} {t : Fin cfg0.N} {A : Vec F S1024x4096 .bf16} (hA : TileOk m c t.val A) : CurOk m c (t.val + 1) A := by
  intro h8 u hu
  exact hA u (by omega)

theorem cur_first {c : Dev nD} {t : ℕ} (A : Vec F S1024x4096 .bf16) (h : t < 8) : CurOk m c (t + 1) A := by
  intro h8 u hu
  omega

theorem tile_of {c : Dev nD} {t : Fin cfg0.N} {A14 A15 : Vec F S1024x4096 .bf16} (h14 : CurOk m c t.val A14) (h15 : NextOk m c t.val A15) :
    TileOk m c t.val (if t.val % 8 = 0 then A15 else A14) := by
  split
  · rename_i h0
    intro u hu
    exact h15 u (by omega) (by omega)
  · rename_i h0
    exact h14 h0

/-! ## The proof data -/

/-- What the scratch holds before point `t`. -/
def PhiS (c : Dev nD) (t : ℕ) (_ : t ≤ cfg0.N) : sProp 𝕄 :=
  iprop((∃ A : Vec F S1024x4096 .bf16, ⌜CurOk m c t A⌝ ∗ owns (c : Thread nD τ) (Memref.whole cc0_scratch0) fullShare A)
    ∗ (∃ A : Vec F S1024x4096 .bf16, ⌜NextOk m c t A⌝ ∗ owns (c : Thread nD τ) (Memref.whole cc0_scratch1) fullShare A)
    ∗ (∃ A : Vec F S1024x128 .f32, owns (c : Thread nD τ) (Memref.whole cc0_scratch2) fullShare A)
    ∗ (∃ A : Vec F S1024x128 .f32, owns (c : Thread nD τ) (Memref.whole cc0_scratch3) fullShare A)
    ∗ (∃ r, prngReg (c : Dev nD) r))

/-- The windows stated by what is found in them: the results'. -/
def fgt : Fin cfg0.W → Bool := fun w => match w with
  | ⟨0, _⟩ | ⟨1, _⟩ | ⟨2, _⟩ | ⟨3, _⟩ | ⟨4, _⟩ | ⟨5, _⟩ | ⟨6, _⟩ => false
  | _ => true

/-- What the body leaves in a result's buffer at point `t`. -/
def Rl (c : Dev nD) : (w : Fin cfg0.W) → Fin cfg0.N → ((cfg0.win w).block.Idx → Elt F (cfg0.win w).elt) → Prop := fun w => match w with
  | ⟨7, _⟩ => fun t X => X = NB m c t
  | ⟨8, _⟩ => fun t X => 8 ≤ t.val → ∃ A, TileOk m c t.val A ∧ GvIs A (WB m c t) X
  | _ => fun _ _ => True

/-- The pipeline's proof data. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | _ => fun _ => Classical.arbitrary _
  Φ t := PhiS m c t.val (Nat.le_of_lt_succ t.isLt)
  q w := Pipeline.shareOf spec0 w
  owed _ := 0

/-! ## The grid -/

theorem cond1_iff : ∀ t : Fin cfg0.N, k0_cond1 (grid0.coords t) = 1#1 ↔ t.val < 8 := by decide +kernel
theorem cond2_iff : ∀ t : Fin cfg0.N, k0_cond2 (grid0.coords t) = 1#1 ↔ 8 ≤ t.val := by decide +kernel
theorem col_eq : ∀ t : Fin cfg0.N, ((grid0.coords t) 1).val = t.val % 8 := by decide +kernel

/-! ## The body obligation -/

set_option backward.proofsInPublic true in
set_option maxHeartbeats 4000000 in
theorem body_obligation (𝒱₀ : Variants) (c : Dev nD) : BodyObligationRel (dat m c) (defs₀ (F := F)) 𝒱₀ () Set.univ fgt (Rl m c) := fun t => by
  rw [bigSep_W0, bigSep_W0]
  have f0 : fgt (0 : Fin 12) = false := rfl
  have f1 : fgt (1 : Fin 12) = false := rfl
  have f2 : fgt (2 : Fin 12) = false := rfl
  have f3 : fgt (3 : Fin 12) = false := rfl
  have f4 : fgt (4 : Fin 12) = false := rfl
  have f5 : fgt (5 : Fin 12) = false := rfl
  have f6 : fgt (6 : Fin 12) = false := rfl
  have f7 : fgt (7 : Fin 12) = true := rfl
  have f8 : fgt (8 : Fin 12) = true := rfl
  have f9 : fgt (9 : Fin 12) = true := rfl
  have f10 : fgt (10 : Fin 12) = true := rfl
  have f11 : fgt (11 : Fin 12) = true := rfl
  simp only [f0, f1, f2, f3, f4, f5, f6, f7, f8, f9, f10, f11]
  rw [show (dat m c).Φ t.castSucc = PhiS m c t.val (Nat.le_of_lt t.isLt) from by
      dsimp only [dat]; exact Pipeline.Dat.Φ_castSucc (PhiS m c) t,
    show (dat m c).Φ t.succ = PhiS m c (t.val + 1) t.isLt from rfl,
    show (dat m c).owesAt () t.succ = (dat m c).owesAt () t.castSucc from rfl]
  unfold PhiS
  iintro ⟨⟨⟨%A14, %h14, H14⟩, ⟨%A15, %h15, H15⟩, ⟨%A16, H16⟩, ⟨%A17, H17⟩, Hg⟩, Ho, ⟨%d0, H0⟩, ⟨%d1, H1⟩, ⟨%d2, H2⟩, ⟨%d3, H3⟩, ⟨%d4, H4⟩, ⟨%d5, H5⟩, ⟨%d6, H6⟩, ⟨%x7, -, H7⟩, ⟨%x8, -, H8⟩, ⟨%x9, -, H9⟩, ⟨%x10, -, H10⟩, ⟨%x11, -, H11⟩⟩
  rw [before0_0_of m (dat m c) rfl (fun _ => rfl) t d0, before0_1_of m (dat m c) rfl (fun _ => rfl) t d1,
    before0_2_of m (dat m c) rfl (fun _ => rfl) t d2, before0_3_of m (dat m c) rfl (fun _ => rfl) t d3,
    before0_4_of m (dat m c) rfl (fun _ => rfl) t d4, before0_5_of m (dat m c) rfl (fun _ => rfl) t d5,
    before0_6_of m (dat m c) rfl (fun _ => rfl) t d6]
  change _ ⊢ (wp frame (wpE (defs₀ (F := F)) 𝒱₀ c none) Set.univ (bodyAt0 t) _)
  by_cases ht : t.val < 8
  · refine BIClass.entails_trans ?_ (runFirst 𝒱₀ c (grid0.coords t)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)
      ((cond1_iff t).2 ht) (fun h => absurd ((cond2_iff t).1 h) (by omega))
      (iblk m c 0 t) (iblk m c 1 t) (iblk m c 2 t) (iblk m c 3 t) (iblk m c 4 t) (iblk m c 5 t) (iblk m c 6 t) x7 x8 x9 x10 x11 A14 A15 A16 A17 Set.univ _)
    iintro ⟨⟨⟨⟨⟨⟨⟨⟨⟨⟨⟨⟨⟨⟨⟨⟨⟨H14, H15⟩, H16⟩, H17⟩, Hg⟩, Ho⟩, H0⟩, H1⟩, H2⟩, H3⟩, H4⟩, H5⟩, H6⟩, H7⟩, H8⟩, H9⟩, H10⟩, H11⟩
    isplitl [H0 H1 H2 H3 H4 H5 H6 H7 H8 H9 H10 H11 H14 H15 H16 H17]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H14]; · iexact H14
      isplitl [H15]; · iexact H15
      isplitl [H16]; · iexact H16
      iexact H17
    iintro ⟨H0, H1, H2, H3, H4, H5, H6, H7, ⟨%X8, H8⟩, ⟨%X9, H9⟩, ⟨%X10, H10⟩, ⟨%X11, H11⟩, H14, ⟨%X15, %hX15, H15⟩, H16, H17⟩
    rw [col_eq t] at hX15
    isplitl [H14 H15 H16 H17 Hg]
    · isplitl [H14]
      · iexists A14; isplitr; · ipureintro; exact cur_first m A14 ht
        iexact H14
      isplitl [H15]
      · iexists X15; isplitr; · ipureintro; exact next_step m h15 hX15
        iexact H15
      isplitl [H16]; · iexact H16
      isplitl [H17]; · iexact H17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro; rfl
    isplitl [H8]
    · iexists _; isplitr; swap; · iexact H8
      ipureintro; exact fun h => absurd ht (by omega)
    isplitl [H9]
    · iexists _; isplitr; swap; · iexact H9
      ipureintro; trivial
    isplitl [H10]
    · iexists _; isplitr; swap; · iexact H10
      ipureintro; trivial
    iexists _; isplitr; swap; · iexact H11
    ipureintro; trivial
  · refine BIClass.entails_trans ?_ (runNext 𝒱₀ c (grid0.coords t)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (fun h => ht ((cond1_iff t).1 h)) ((cond2_iff t).2 (by omega))
      (iblk m c 0 t) (iblk m c 1 t) (iblk m c 2 t) (iblk m c 3 t) (iblk m c 4 t) (iblk m c 5 t) (iblk m c 6 t) x7 x8 x9 x10 x11 A14 A15 A16 A17 Set.univ _)
    iintro ⟨⟨⟨⟨⟨⟨⟨⟨⟨⟨⟨⟨⟨⟨⟨⟨⟨H14, H15⟩, H16⟩, H17⟩, Hg⟩, Ho⟩, H0⟩, H1⟩, H2⟩, H3⟩, H4⟩, H5⟩, H6⟩, H7⟩, H8⟩, H9⟩, H10⟩, H11⟩
    isplitl [H0 H1 H2 H3 H4 H5 H6 H7 H8 H9 H10 H11 H14 H15 H16 H17]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H14]; · iexact H14
      isplitl [H15]; · iexact H15
      isplitl [H16]; · iexact H16
      iexact H17
    iintro ⟨%A, %hA, H0, H1, H2, H3, H4, H5, H6, H7, ⟨%X8, %hX8, H8⟩, ⟨%X9, H9⟩, ⟨%X10, H10⟩, ⟨%X11, H11⟩, H14, ⟨%X15, %hX15, H15⟩, ⟨%X16, H16⟩, ⟨%X17, H17⟩⟩
    rw [col_eq t] at hX15 hA
    have hT : TileOk m c t.val A := by rw [hA]; exact tile_of m h14 h15
    isplitl [H14 H15 H16 H17 Hg]
    · isplitl [H14]
      · iexists A; isplitr; · ipureintro; exact cur_step m hT
        iexact H14
      isplitl [H15]
      · iexists X15; isplitr; · ipureintro; exact next_step m h15 hX15
        iexact H15
      isplitl [H16]; · iexists _; iexact H16
      isplitl [H17]; · iexists _; iexact H17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro; rfl
    isplitl [H8]
    · iexists _; isplitr; swap; · iexact H8
      ipureintro; exact fun _ => ⟨A, hT, hX8⟩
    isplitl [H9]
    · iexists _; isplitr; swap; · iexact H9
      ipureintro; trivial
    isplitl [H10]
    · iexists _; isplitr; swap; · iexact H10
      ipureintro; trivial
    iexists _; isplitr; swap; · iexact H11
    ipureintro; trivial

end Cert.VProj

end
-- ==== Proof.VLaunch.lean ====
/-
  The launch of `cc0_vproj`: one run of the whole program over any float values, to the arguments unchanged, the
  results' arrays as the pipeline's data tell them and every counter at zero.
-/
module

public import proofs.«01_k».proof.Proof.VPoint
public import proofs.«01_k».proof.Proof.Gen.Kernel2Ideal.Frame
public import proofs.«01_k».proof.Proof.Gen.Kernel2Ideal.Launch
public import Idealize.ShloMosaic.Lib.Pipeline.ArrRel

@[expose] public section

set_option maxRecDepth 16384

noncomputable section

namespace Cert.VProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- No loop of the program needs a variant. -/
def vr : Variants := Variants.none

/-- The pipeline's data, the results' windows held to `Rl`. -/
def rdat (c : Dev nD) : RDat τ (Elt F) Unit ℕ (UR sig nD τ) ℕ cfg0 c := (dat m c).toRRel fgt (Rl m c)

theorem enter (c : Dev nD) : Pipeline.ΦA (Val := Elt F) spec0 c ⊢ PhiS m c 0 (Nat.zero_le _) := by
  unfold Pipeline.ΦA PhiS
  rw [scopedRest0_eq]
  iintro ⟨⟨⟨%f0, H0⟩, ⟨%f1, H1⟩, ⟨%f2, H2⟩, ⟨%f3, H3⟩⟩, Hg⟩
  isplitl [H0]
  · iexists f0; isplitr; · ipureintro; exact fun h => absurd rfl h
    rw [owns_whole]; iexact H0
  isplitl [H1]
  · iexists f1; isplitr; · ipureintro; exact fun u hu => absurd hu (Nat.not_lt_zero _)
    rw [owns_whole]; iexact H1
  isplitl [H2]
  · iexists f2; rw [owns_whole]; iexact H2
  isplitl [H3]
  · iexists f3; rw [owns_whole]; iexact H3
  iexact Hg

theorem leave (c : Dev nD) (t : ℕ) (ht : t ≤ cfg0.N) : PhiS m c t ht ⊢ Pipeline.ΦA (Val := Elt F) spec0 c := by
  unfold Pipeline.ΦA PhiS
  rw [scopedRest0_eq]
  simp only [owns_whole]
  iintro ⟨⟨%f0, -, H0⟩, ⟨%f1, -, H1⟩, ⟨%f2, H2⟩, ⟨%f3, H3⟩, Hg⟩
  isplitl [H0 H1 H2 H3]
  · isplitl [H0]; · iexists f0; iexact H0
    isplitl [H1]; · iexists f1; iexact H1
    isplitl [H2]; · iexists f2; iexact H2
    iexists f3; iexact H3
  iexact Hg

/-- At the compiled mesh, for any float values, from any memory with zero counters: every weakly fair execution
    terminates, the buffers as the pipeline's data tell them and every counter at zero. -/
theorem run_proj : θ_run defs (onTc (τ := τ) (main (F := F))) (s₀ m ρ)
    (fun r => RDat.FramePost cfg0 (rdat m) (V m) r ∧ r.2.sem = fun _ => 0) :=
  RDat.θ_run_frame_track_shared cfgs 0 launch₀0 defs₀ vr (rdat m) m ρ main
    (hbody := fun c => (body_obligation m vr c).toRRel)
    (hq := fun _ _ _ => rfl) (howed := fun _ _ => rfl) (V m) (hmain m vr) (hA := fun _ _ => rfl)
    (fun c => enter m c) (fun c => leave m c _ (Nat.le_refl _)) _ (fun _ h => h)

/-- The arguments after such a run. -/
theorem args_kept {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 0 rfl).trans (V_main_arg0 m c),
    ((h c).2 main_arg1 (Pipeline.mem_restRefs_of main_arg1 (by decide) (by decide))).trans (V_main_arg1 m c),
    (h.arr_in c 6 rfl).trans (V_main_arg2 m c)⟩

end Cert.VProj

end
-- ==== Proof.VAlgebra.lean ====
/-
  The normalise-and-project call over the idealized floats, element by element: its payloads, what the host lays out
  before it, and the composed terms of the reference's host operations.
-/
module

public import proofs.«01_k».proof.Proof.VData
public import proofs.«01_k».proof.Proof.Gen.Reference2Ideal.Run
public import Idealize.ShloMosaic.Lib.Pointwise

@[expose] public section

noncomputable section

namespace Cert.VProj

open Idealize.ShloMosaic Idealize.ShloMosaic.TcCoe

/-- The gate's function of a projected value. -/
def gel (v : EReal) : EReal :=
  Ideal.ofBits .f32 0x3F000000#32 * v * (Ideal.ofBits .f32 0x3F800000#32 + Ideal.erf (v * Ideal.ofBits .f32 0x3F3504F3#32))

/-- A sum over 4096 is the sums over its quarters. -/
theorem sum_quarters (f : Fin 4096 → EReal) :
    ∑ k, f k = (∑ k : Fin 1024, f ⟨0 + k.val, by omega⟩) + (∑ k : Fin 1024, f ⟨1024 + k.val, by omega⟩)
      + (∑ k : Fin 1024, f ⟨2048 + k.val, by omega⟩) + ∑ k : Fin 1024, f ⟨3072 + k.val, by omega⟩ := by
  refine (Fin.sum_univ_add (a := 3072) (b := 1024) f).trans (congrArg₂ (· + ·) ?_ ?_)
  · refine (Fin.sum_univ_add (a := 2048) (b := 1024) _).trans (congrArg₂ (· + ·) ?_ ?_)
    · refine (Fin.sum_univ_add (a := 1024) (b := 1024) _).trans (congrArg₂ (· + ·) ?_ ?_)
      · exact Finset.sum_congr rfl fun k _ => congrArg f (Fin.ext (by show k.val = 0 + k.val; omega))
      · exact Finset.sum_congr rfl fun k _ => congrArg f (Fin.ext rfl)
    · exact Finset.sum_congr rfl fun k _ => congrArg f (Fin.ext rfl)
  · exact Finset.sum_congr rfl fun k _ => congrArg f (Fin.ext rfl)

/-! ## The kernel's payloads at an index -/

section Kernel

open Cert.Kernel2Ideal Cert.Kernel2Ideal.Gen

theorem norm_apply (x : Vec Ideal S128x4096 .f32) (g : Vec Ideal S1x4096 .f32) (p : Fin 128) (q : Fin 4096) :
    k0_pay1 x g (ix2 p q)
      = x (ix2 p q) * Ideal.rsqrt (Ideal.div (∑ k : Fin 4096, x (ix2 p k) * x (ix2 p k)) (Ideal.ofBits .f32 0x45800000#32)
          + Ideal.ofBits .f32 0x358637BD#32) * g (ix2 0 q) := by
  pointwise [k0_pay1]

variable (a a' a'' : Vec Ideal S256x1024 .bf16) (w w' w'' : Vec Ideal S1024x512 .bf16) (s s' : FVec Ideal S256x512 .f32) (p : Fin 256) (q : Fin 512)

theorem piece11 : k0_pay11 a w (ix2 p q) = ∑ k : Fin 1024, a (ix2 p k) * w (ix2 k q) := by pointwise [k0_pay11]
theorem piece14 : k0_pay14 a w (ix2 p q) = ∑ k : Fin 1024, a (ix2 p k) * w (ix2 k q) := by pointwise [k0_pay14]
theorem piece16 : k0_pay16 a w (ix2 p q) = ∑ k : Fin 1024, a (ix2 p k) * w (ix2 k q) := by pointwise [k0_pay16]
theorem piece24 : k0_pay24 a w (ix2 p q) = ∑ k : Fin 1024, a (ix2 p k) * w (ix2 k q) := by pointwise [k0_pay24]
theorem piece33 : k0_pay33 a w (ix2 p q) = ∑ k : Fin 1024, a (ix2 p k) * w (ix2 k q) := by pointwise [k0_pay33]

theorem piece18 : k0_pay18 s s' a w a' w' (ix2 p q)
    = gel (s (ix2 p q) + s' (ix2 p q) + (∑ k : Fin 1024, a (ix2 p k) * w (ix2 k q)) + ∑ k : Fin 1024, a' (ix2 p k) * w' (ix2 k q)) := by
  unfold gel
  pointwise [k0_pay18, k0_pay17]
  rfl
theorem piece21 : k0_pay21 s a w a' w' (ix2 p q)
    = s (ix2 p q) + (∑ k : Fin 1024, a (ix2 p k) * w (ix2 k q)) + ∑ k : Fin 1024, a' (ix2 p k) * w' (ix2 k q) := by
  pointwise [k0_pay21]
theorem piece26 : k0_pay26 s a w (ix2 p q) = gel (s (ix2 p q) + ∑ k : Fin 1024, a (ix2 p k) * w (ix2 k q)) := by
  unfold gel
  pointwise [k0_pay26, k0_pay25]
  rfl
theorem piece32 : k0_pay32 s a w a' w' a'' w'' (ix2 p q)
    = s (ix2 p q) + (∑ k : Fin 1024, a (ix2 p k) * w (ix2 k q)) + (∑ k : Fin 1024, a' (ix2 p k) * w' (ix2 k q)) + ∑ k : Fin 1024, a'' (ix2 p k) * w'' (ix2 k q) := by
  pointwise [k0_pay32]
theorem piece35 : k0_pay35 s (ix2 p q) = gel (s (ix2 p q)) := by
  unfold gel
  pointwise [k0_pay35, k0_pay34]
  rfl
theorem piece40 : k0_pay40 s a w a' w' a'' w'' (ix2 p q)
    = gel (s (ix2 p q) + (∑ k : Fin 1024, a (ix2 p k) * w (ix2 k q)) + (∑ k : Fin 1024, a' (ix2 p k) * w' (ix2 k q)) + ∑ k : Fin 1024, a'' (ix2 p k) * w'' (ix2 k q)) := by
  unfold gel
  pointwise [k0_pay40, k0_pay39]
  rfl

/-! ## The projected block -/

variable (A : Vec Ideal S1024x4096 .bf16) (B : Vec Ideal S4096x512 .bf16)

theorem aAt_apply (r o : ℕ) (h : ∀ a, (![r, o] : Fin 2 → ℕ) a + S256x1024.size a ≤ S1024x4096.size a)
    (k : Fin 1024) : aAt A r o h (ix2 p k)
      = A (ix2 ⟨r + p.val, by have h0 : r + 256 ≤ 1024 := h 0; omega⟩ ⟨o + k.val, by have h1 : o + 1024 ≤ 4096 := h 1; omega⟩) := by
  refine congrArg A (funext fun a => Fin.ext ?_)
  fin_cases a
  · show r + 1 * p.val = r + p.val; omega
  · show o + 1 * k.val = o + k.val; omega

theorem wAt_apply (o : ℕ) (h : ∀ a, (![o, 0] : Fin 2 → ℕ) a + S1024x512.size a ≤ S4096x512.size a)
    (k : Fin 1024) : wAt B o h (ix2 k q) = B (ix2 ⟨o + k.val, by have h0 : o + 1024 ≤ 4096 := h 0; omega⟩ q) := by
  refine congrArg B (funext fun a => Fin.ext ?_)
  fin_cases a
  · show o + 1 * k.val = o + k.val; omega
  · show 0 + 1 * q.val = q.val; omega

/-- Row `r` of the tile against column `q` of the block. -/
def dotT (r : Fin 1024) : EReal := ∑ k : Fin 4096, A (ix2 r k) * B (ix2 k q)

theorem gv0_apply : gv0 A B (ix2 p q) = gel (dotT q A B ⟨0 + p.val, by omega⟩) := by
  unfold gv0 dotT
  rw [piece18, piece11, piece14, sum_quarters]
  simp only [aAt_apply, wAt_apply]
theorem gv1_apply : gv1 A B (ix2 p q) = gel (dotT q A B ⟨256 + p.val, by omega⟩) := by
  unfold gv1 dotT
  rw [piece26, piece21, piece16, sum_quarters]
  simp only [aAt_apply, wAt_apply]
theorem gv2_apply : gv2 A B (ix2 p q) = gel (dotT q A B ⟨512 + p.val, by omega⟩) := by
  unfold gv2 dotT
  rw [piece35, piece32, piece24, sum_quarters]
  simp only [aAt_apply, wAt_apply]
theorem gv3_apply : gv3 A B (ix2 p q) = gel (dotT q A B ⟨768 + p.val, by omega⟩) := by
  unfold gv3 dotT
  rw [piece40, piece33, sum_quarters]
  simp only [aAt_apply, wAt_apply]

/-- A projected block at an index. -/
theorem GvIs.apply {X : Vec Ideal S1024x512 .bf16} (h : GvIs A B X) (r : Fin 1024) : X (ix2 r q) = gel (dotT q A B r) := by
  obtain ⟨h0, h1, h2, h3⟩ := h
  have key : ∀ (b : ℕ) (hb : b + 256 ≤ 1024) (hi : ∀ a, (![b, 0] : Fin 2 → ℕ) a + S256x512.size a ≤ S1024x512.size a) (p : Fin 256), b + p.val = r.val →
      (ix2 r q : S1024x512.Idx) = (Rect.unit (s := S1024x512) ![b, 0] S256x512.size hi).emb (ix2 p q) := fun b hb hi p e => by
    funext a
    refine Fin.ext ?_
    fin_cases a
    · show r.val = b + 1 * p.val; omega
    · show q.val = 0 + 1 * q.val; omega
  have hr := r.isLt
  have done : ∀ (b : ℕ) (p : Fin 256) (hb : b + p.val < 1024), b + p.val = r.val → gel (dotT q A B ⟨b + p.val, hb⟩) = gel (dotT q A B r) :=
    fun b p hb e => congrArg (fun i => gel (dotT q A B i)) (Fin.ext e)
  by_cases c0 : r.val < 256
  · rw [key 0 (by decide) inb_S1024x512_S256x512_0_0 ⟨r.val, c0⟩ (by simp), h0, gv0_apply]
    exact done 0 ⟨r.val, c0⟩ (by simp) (by simp)
  by_cases c1 : r.val < 512
  · have e : 256 + (⟨r.val - 256, by omega⟩ : Fin 256).val = r.val := by simp only; omega
    rw [key 256 (by decide) inb_S1024x512_S256x512_256_0 ⟨r.val - 256, by omega⟩ e, h1, gv1_apply]
    exact done 256 _ _ e
  by_cases c2 : r.val < 768
  · have e : 512 + (⟨r.val - 512, by omega⟩ : Fin 256).val = r.val := by simp only; omega
    rw [key 512 (by decide) inb_S1024x512_S256x512_512_0 ⟨r.val - 512, by omega⟩ e, h2, gv2_apply]
    exact done 512 _ _ e
  · have e : 768 + (⟨r.val - 768, by omega⟩ : Fin 256).val = r.val := by simp only; omega
    rw [key 768 (by decide) inb_S1024x512_S256x512_768_0 ⟨r.val - 768, by omega⟩ e, h3, gv3_apply]
    exact done 768 _ _ e

/-! ## What the host lays out -/

theorem lay_g (g : (⟨S4096, .f32⟩ : BufTy).Contents (Elt Ideal)) (d : Fin 4096) :
    broadcastInDim S1x4096 ![1] bcast_S4096_S1x4096_1 g (ix2 0 d) = g (ix1 d) := by
  pointwise

theorem lay_w (w : (⟨S4096x20480, .f32⟩ : BufTy).Contents (Elt Ideal)) (k d : Fin 4096) :
    (truncf .bf16 (extractStridedSlice S4096x4096 ![0, 12288] w slices_S4096x20480_S4096x4096_0_12288 : FVec Ideal S4096x4096 .f32) bitsLt_bf16_f32 : FVec Ideal S4096x4096 .bf16) (ix2 k d)
      = w (ix2 k ⟨12288 + d.val, by omega⟩) := by
  pointwise

end Kernel

/-! ## The reference at an index -/

section Reference

open Cert.Reference2Ideal Cert.Reference2Ideal.Gen

variable (a0 : FVec Ideal S8192x4096 .f32) (a1 : FVec Ideal S4096 .f32) (a2 : FVec Ideal S4096x20480 .f32)

/-- The normalised rows. -/
def hnT : FVec Ideal S8192x4096 .f32 :=
  mulf (mulf a0 (broadcastInDim S8192x4096 ![0, 1] bcast_S8192x1_S8192x4096_0_1 (Host.rsqrt (addf (Host.divf
    (broadcastInDim S8192x1 ![0] bcast_S8192_S8192x1_0 (Host.reduceAdd (mulf a0 a0) (constant S_ .f32 0x00000000#32) reducesTo_S8192x4096_S8192_d1 h_S_))
    (broadcastInDim S8192x1 ![] bcast_S_S8192x1 (constant S_ .f32 0x45800000#32)))
    (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 a1))

/-- Their projection. -/
def prT : FVec Ideal S8192x4096 .f32 :=
  Host.dotGeneral dot_S8192x4096_S4096x4096_S8192x4096_1_0_0_1_n_n none (hnT a0 a1)
    (extractStridedSlice S4096x4096 ![0, 12288] a2 slices_S4096x20480_S4096x4096_0_12288)

/-- The gate of it. -/
def gvT : FVec Ideal S8192x4096 .f32 :=
  mulf (mulf (broadcastInDim S8192x4096 ![] bcast_S_S8192x4096 (constant S_ .f32 0x3F000000#32)) (prT a0 a1 a2))
    (addf (broadcastInDim S8192x4096 ![] bcast_S_S8192x4096 (constant S_ .f32 0x3F800000#32))
      (Host.erf (mulf (prT a0 a1 a2) (broadcastInDim S8192x4096 ![] bcast_S_S8192x4096 (constant S_ .f32 0x3F3504F3#32)))))

theorem hnT_apply (s : Fin 8192) (d : Fin 4096) :
    hnT a0 a1 (ix2 s d)
      = a0 (ix2 s d) * Ideal.rsqrt (Ideal.div (∑ k : Fin 4096, a0 (ix2 s k) * a0 (ix2 s k)) (Ideal.ofBits .f32 0x45800000#32)
          + Ideal.ofBits .f32 0x358637BD#32) * a1 (ix1 d) := by
  pointwise [hnT]

theorem prT_apply (s : Fin 8192) (d : Fin 4096) :
    prT a0 a1 a2 (ix2 s d) = ∑ k : Fin 4096, hnT a0 a1 (ix2 s k) * a2 (ix2 k ⟨12288 + d.val, by omega⟩) := by
  pointwise [prT]

theorem gvT_apply (s : Fin 8192) (d : Fin 4096) : gvT a0 a1 a2 (ix2 s d) = gel (prT a0 a1 a2 (ix2 s d)) := by
  unfold gel
  pointwise [gvT]

end Reference

end Cert.VProj

end
-- ==== Proof.VValue.lean ====
/-
  The values of the normalise-and-project call over the idealized floats: the arrays a run leaves are, element by element,
  what the reference's host operations compute from the same arguments.
-/
module

public import proofs.«01_k».proof.Proof.VLaunch
public import proofs.«01_k».proof.Proof.VAlgebra
public import Idealize.ShloMosaic.Lib.Pipeline.ValueKit
public import Idealize.ShloMosaic.Lib.Claim

@[expose] public section

set_option maxRecDepth 16384

noncomputable section

namespace Cert.VProj

open Cert.Kernel2Ideal Cert.Kernel2Ideal.Gen
open Idealize.ShloMosaic Idealize.ShloMosaic.TcCoe Idealize.ShloMosaic.Tactic
open Idealize.ShloMosaic.Pipeline (Dat RDat Cfg Window)

/-! ## The blocks' places -/

theorem place0 : ∀ t : Fin grid0.N, win0_0.index t = ![min t.val 63, 0] := by decide +kernel
theorem place1 : ∀ t : Fin grid0.N, win0_1.index t = ![0, 0] := by decide +kernel
theorem place2 : ∀ t : Fin grid0.N, 8 ≤ t.val → win0_2.index t = ![0, t.val % 8] := by decide +kernel
theorem place7 : ∀ t : Fin grid0.N, win0_7.index t = ![min t.val 63, 0] := by decide +kernel
theorem place8 : ∀ t : Fin grid0.N, 8 ≤ t.val → win0_8.index t = ![t.val / 8 - 1, t.val % 8] := by decide +kernel
theorem moved8 : ∀ t : Fin grid0.N, win0_8.flush t = true → 8 ≤ t.val := by decide +kernel

variable (m : (ℓ : Loc nD τ sig) → Buf (Elt Ideal) ℓ)

/-- The arguments. -/
abbrev xA (c : Dev nD) : FVec Ideal S8192x4096 .f32 := m ((c : Thread nD τ).loc main_arg0)
abbrev gA (c : Dev nD) : FVec Ideal S4096 .f32 := m ((c : Thread nD τ).loc main_arg1)
abbrev wA (c : Dev nD) : FVec Ideal S4096x20480 .f32 := m ((c : Thread nD τ).loc main_arg2)

theorem lt72 (t : Fin cfg0.N) : t.val < 72 := lt_of_lt_of_eq t.isLt N_0

theorem x_block (c : Dev nD) (t : Fin cfg0.N) (p : Fin 128) (q : Fin 4096) :
    (iblk m c 0 t : Vec Ideal S128x4096 .f32) (ix2 p q) = xA m c (ix2 ⟨128 * min t.val 63 + p.val, by omega⟩ q) := by
  show (V m c main_arg0 : FVec Ideal S8192x4096 .f32) _ = _
  rw [V_main_arg0]
  refine congrArg (xA m c) (funext fun a => Fin.ext ?_)
  fin_cases a
  · show (win0_0.index t 0) * 128 + 1 * p.val = _
    rw [place0]; show min t.val 63 * 128 + 1 * p.val = 128 * min t.val 63 + p.val; omega
  · show (win0_0.index t 1) * 4096 + 1 * q.val = _
    rw [place0]; show 0 * 4096 + 1 * q.val = q.val; omega

theorem g_block (c : Dev nD) (t : Fin cfg0.N) (q : Fin 4096) :
    (iblk m c 1 t : Vec Ideal S1x4096 .f32) (ix2 0 q) = gA m c (ix1 q) := by
  refine Eq.trans (?_ : _ = (V m c main_v2 : FVec Ideal S1x4096 .f32) (ix2 0 q)) ?_
  · refine congrArg (V m c main_v2 : FVec Ideal S1x4096 .f32) (funext fun a => Fin.ext ?_)
    fin_cases a
    · show (win0_1.index t 0) * 1 + 1 * 0 = 0
      rw [place1]; rfl
    · show (win0_1.index t 1) * 4096 + 1 * q.val = q.val
      rw [place1]; show 0 * 4096 + 1 * q.val = q.val; omega
  · refine (congrFun (?_ : (V m c main_v2 : FVec Ideal S1x4096 .f32) = _) _).trans (lay_g (gA m c) q)
    entry_read; rfl

theorem w_block (c : Dev nD) (t : Fin cfg0.N) (ht : 8 ≤ t.val) (k : Fin 4096) (q : Fin 512) :
    WB m c t (ix2 k q) = wA m c (ix2 k ⟨12288 + (512 * (t.val % 8) + q.val), by omega⟩) := by
  refine Eq.trans (?_ : _ = (V m c main_v1 : FVec Ideal S4096x4096 .bf16) (ix2 k ⟨512 * (t.val % 8) + q.val, by omega⟩)) ?_
  · refine congrArg (V m c main_v1 : FVec Ideal S4096x4096 .bf16) (funext fun a => Fin.ext ?_)
    fin_cases a
    · show (win0_2.index t 0) * 4096 + 1 * k.val = k.val
      rw [place2 t ht]; show 0 * 4096 + 1 * k.val = k.val; omega
    · show (win0_2.index t 1) * 512 + 1 * q.val = _
      rw [place2 t ht]; show t.val % 8 * 512 + 1 * q.val = 512 * (t.val % 8) + q.val; omega
  · refine (congrFun (?_ : (V m c main_v1 : FVec Ideal S4096x4096 .bf16) = _) _).trans (lay_w (wA m c) k ⟨512 * (t.val % 8) + q.val, by omega⟩)
    entry_read; rfl

/-! ## The blocks written -/

theorem NB_apply (c : Dev nD) (t : Fin cfg0.N) (p : Fin 128) (q : Fin 4096) :
    NB m c t (ix2 p q) = hnT (xA m c) (gA m c) (ix2 ⟨128 * min t.val 63 + p.val, by omega⟩ q) := by
  unfold NB
  rw [norm_apply, hnT_apply, g_block]
  simp only [x_block]

theorem tile_apply {c : Dev nD} {t : Fin cfg0.N} (ht : 8 ≤ t.val) {A : Vec Ideal S1024x4096 .bf16} (hA : TileOk m c t.val A)
    (r : Fin 1024) (k : Fin 4096) :
    A (ix2 r k) = hnT (xA m c) (gA m c) (ix2 ⟨1024 * (t.val / 8 - 1) + r.val, by have := lt72 t; omega⟩ k) := by
  have h72 := lt72 t
  have hu : 8 * (t.val / 8 - 1) + r.val / 128 < cfg0.N := lt_of_lt_of_eq (by omega : _ < 72) N_0.symm
  refine (hA ⟨8 * (t.val / 8 - 1) + r.val / 128, hu⟩ (by show (8 * (t.val / 8 - 1) + r.val / 128) / 8 + 1 = t.val / 8; omega)
    (ix2 r k) (ix2 ⟨r.val % 128, by omega⟩ k) (by
      show r.val = 128 * ((8 * (t.val / 8 - 1) + r.val / 128) % 8) + r.val % 128; omega) rfl).trans ?_
  rw [NB_apply]
  refine congrArg (fun s => hnT (xA m c) (gA m c) (ix2 s k)) (Fin.ext ?_)
  show 128 * min (8 * (t.val / 8 - 1) + r.val / 128) 63 + r.val % 128 = 1024 * (t.val / 8 - 1) + r.val
  omega

theorem gv_block {c : Dev nD} {t : Fin cfg0.N} (ht : 8 ≤ t.val) {A : Vec Ideal S1024x4096 .bf16} {X : Vec Ideal S1024x512 .bf16}
    (hA : TileOk m c t.val A) (hX : GvIs A (WB m c t) X) (r : Fin 1024) (q : Fin 512) :
    X (ix2 r q) = gvT (xA m c) (gA m c) (wA m c)
      (ix2 ⟨1024 * (t.val / 8 - 1) + r.val, by have := lt72 t; omega⟩ ⟨512 * (t.val % 8) + q.val, by omega⟩) := by
  rw [GvIs.apply q A _ hX, gvT_apply, prT_apply]
  unfold dotT
  refine congrArg gel (Finset.sum_congr rfl fun k _ => ?_)
  rw [tile_apply m ht hA, w_block m c t ht]

/-! ## The results -/

/-- The reference's results, of the arguments. -/
def hnR (c : Dev nD) : FVec Ideal S8192x4096 .bf16 := truncf .bf16 (hnT (xA m c) (gA m c)) bitsLt_bf16_f32
def gvR (c : Dev nD) : FVec Ideal S8192x4096 .bf16 := truncf .bf16 (gvT (xA m c) (gA m c) (wA m c)) bitsLt_bf16_f32

theorem two_eq {n k : ℕ} (y : (⟨2, ![n, k]⟩ : Shape).Idx) : y = ix2 (y 0) (y 1) := by
  funext a; fin_cases a <;> rfl

set_option backward.proofsInPublic true in
theorem hn_final {r : Unit × MemSt nD τ sig (Elt Ideal)} (h : RDat.FramePost cfg0 (rdat m) (V m) r) (c : Dev nD) :
    r.2.mem ((c.tc : Thread nD τ).loc main_v3_0) = hnR m c := by
  obtain ⟨after, hL, hA⟩ := h.exists_exact c
  refine (hA 7).trans (((rdat m c).withAfter after).arrAt_eq_of_covers 7 _ (by decide +kernel) fun t hf y => ?_)
  have hX : after 7 t = NB m c t := Dat.toRRel_leaves (dat m c) (show fgt 7 = true from rfl) (hL 7 t hf)
  rw [RDat.withAfter_after, hX]
  show NB m c t y = hnT (xA m c) (gA m c) _
  rw [two_eq (n := 128) (k := 4096) y]
  refine (NB_apply m c t (y 0) (y 1)).trans (congrArg (hnT (xA m c) (gA m c)) (funext fun a => Fin.ext ?_))
  fin_cases a
  · show 128 * min t.val 63 + (y 0).val = (win0_7.index t 0) * 128 + 1 * (y 0).val
    rw [place7]; show _ = min t.val 63 * 128 + 1 * (y 0).val; omega
  · show (y 1).val = (win0_7.index t 1) * 4096 + 1 * (y 1).val
    rw [place7]; show _ = 0 * 4096 + 1 * (y 1).val; omega

set_option backward.proofsInPublic true in
theorem gv_final {r : Unit × MemSt nD τ sig (Elt Ideal)} (h : RDat.FramePost cfg0 (rdat m) (V m) r) (c : Dev nD) :
    r.2.mem ((c.tc : Thread nD τ).loc main_v3_1) = gvR m c := by
  obtain ⟨after, hL, hA⟩ := h.exists_exact c
  refine (hA 8).trans (((rdat m c).withAfter after).arrAt_eq_of_covers 8 _ (by decide +kernel) fun t hf y => ?_)
  have ht : 8 ≤ t.val := moved8 t hf
  obtain ⟨A, hT, hG⟩ : ∃ A, TileOk m c t.val A ∧ GvIs A (WB m c t) (after 8 t) :=
    Dat.toRRel_leaves (dat m c) (show fgt 8 = true from rfl) (hL 8 t hf) ht
  rw [RDat.withAfter_after]
  show after 8 t y = gvT (xA m c) (gA m c) (wA m c) _
  rw [two_eq (n := 1024) (k := 512) y]
  refine (gv_block m ht hT hG (y 0) (y 1)).trans (congrArg (gvT (xA m c) (gA m c) (wA m c)) (funext fun a => Fin.ext ?_))
  fin_cases a
  · show 1024 * (t.val / 8 - 1) + (y 0).val = (win0_8.index t 0) * 1024 + 1 * (y 0).val
    rw [place8 t ht]; show _ = (t.val / 8 - 1) * 1024 + 1 * (y 0).val; omega
  · show 512 * (t.val % 8) + (y 1).val = (win0_8.index t 1) * 512 + 1 * (y 1).val
    rw [place8 t ht]; show _ = t.val % 8 * 512 + 1 * (y 1).val; omega

end Cert.VProj

end
-- ==== Proof.HCalc.lean ====
/-
  Straight-line programs over buffers held beside one result buffer: what a program does to the result, step by step.
-/
module

public import proofs.«01_k».proof.Proof.Gen.Kernel3Ideal
public import Idealize.ShloMosaic.Lib.Pipeline.FrameBody
public import Idealize.ShloMosaic.Lib.Pipeline.FrameSuffix
public import Idealize.ShloMosaic.Lib.Ring
public import Idealize.ShloMosaic.Lib.WritesUnit
public import Idealize.ShloMosaic.Lib.Tactic

@[expose] public section

noncomputable section

namespace Cert.Heads

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- `R` holds the buffer of `m` at the value `x`. -/
def In (c : Dev nD) (R : sProp 𝕄) {s : Shape} {e : EltTy} (m : Memref sig .tc .vmem s e) (x : Vec F s e) : Prop :=
  R ⊢ iprop(owns (c : Thread nD τ) m fullShare x ∗ (owns (c : Thread nD τ) m fullShare x -∗ R))

/-- `R` holds the buffer of `m` at some value. -/
def Scr (c : Dev nD) (R : sProp 𝕄) {s : Shape} {e : EltTy} (m : Memref sig .tc .vmem s e) : Prop :=
  R ⊢ iprop((∃ x, owns (c : Thread nD τ) m fullShare x) ∗ ((∃ x, owns (c : Thread nD τ) m fullShare x) -∗ R))

theorem in_head {c : Dev nD} {P : sProp 𝕄} {s : Shape} {e : EltTy} {m : Memref sig .tc .vmem s e} {x : Vec F s e} :
    In c iprop(owns (c : Thread nD τ) m fullShare x ∗ P) m x := by
  unfold In
  iintro ⟨H, HP⟩
  isplitl [H]; · iexact H
  iintro H
  isplitl [H]; · iexact H
  iexact HP

theorem in_tail {c : Dev nD} {O P : sProp 𝕄} {s : Shape} {e : EltTy} {m : Memref sig .tc .vmem s e} {x : Vec F s e} (h : In c P m x) :
    In c iprop(O ∗ P) m x := by
  unfold In at h ⊢
  iintro ⟨HO, HP⟩
  icases h $$ HP with ⟨H, Hb⟩
  isplitl [H]; · iexact H
  iintro H
  isplitl [HO]; · iexact HO
  iapply Hb; iexact H

theorem scr_head {c : Dev nD} {P : sProp 𝕄} {s : Shape} {e : EltTy} {m : Memref sig .tc .vmem s e} :
    Scr c iprop((∃ x, owns (c : Thread nD τ) m fullShare x) ∗ P) m := by
  unfold Scr
  iintro ⟨H, HP⟩
  isplitl [H]; · iexact H
  iintro H
  isplitl [H]; · iexact H
  iexact HP

theorem scr_tail {c : Dev nD} {O P : sProp 𝕄} {s : Shape} {e : EltTy} {m : Memref sig .tc .vmem s e} (h : Scr c P m) :
    Scr c iprop(O ∗ P) m := by
  unfold Scr at h ⊢
  iintro ⟨HO, HP⟩
  icases h $$ HP with ⟨H, Hb⟩
  isplitl [H]; · iexact H
  iintro H
  isplitl [HO]; · iexact HO
  iapply Hb; iexact H

/-- What a load of the rectangle `r` finds in `x`. -/
def ld {s : Shape} {e : EltTy} (x : Vec F s e) (r : LoadRect s) : r.shape.Idx → Elt F e := fun y => x (r.idx y)

/-- What a store of `w` at the unit rectangle `off`, `size` makes of `X`. -/
def Put {s : Shape} {e : EltTy} (X : Vec F s e) (off size : Fin s.rank → ℕ) (w : (⟨s.rank, size⟩ : Shape).Idx → Elt F e) (X' : Vec F s e) : Prop :=
  (∀ (y : s.Idx) (x : (⟨s.rank, size⟩ : Shape).Idx), (∀ a, (y a).val = off a + (x a).val) → X' y = w x)
    ∧ ∀ (y : s.Idx) (a : Fin s.rank), (y a).val < off a ∨ off a + size a ≤ (y a).val → X' y = X y

variable {s₀ : Shape} {e₀ : EltTy}

/-- From the result buffer at `X` the program ends with a value and a result buffer of which `Φ` holds. -/
def Sp (𝒱₀ : Variants) (c : Dev nD) (E : Set ℕ) (R : sProp 𝕄) (out : Memref sig .tc .vmem s₀ e₀) {α : Type} (p : Prog (TpuEff nD τ sig (Elt F) Λ₀ .tc) α) (X : Vec F s₀ e₀) (Φ : α → Vec F s₀ e₀ → Prop) : Prop :=
  ∀ K : α → sProp 𝕄, iprop((R ∗ owns (c : Thread nD τ) out fullShare X)
      ∗ (∀ (v : α) (X' : Vec F s₀ e₀), ⌜Φ v X'⌝ -∗ (R ∗ owns (c : Thread nD τ) out fullShare X') -∗ K v))
    ⊢ wp frame (wpE (defs₀ (F := F)) 𝒱₀ c none) E p K

/-- A program that leaves the result buffer alone. -/
def Quiet (𝒱₀ : Variants) (c : Dev nD) (E : Set ℕ) (R : sProp 𝕄) (out : Memref sig .tc .vmem s₀ e₀) {α : Type} (p : Prog (TpuEff nD τ sig (Elt F) Λ₀ .tc) α) : Prop :=
  ∀ (X : Vec F s₀ e₀) (Φ : α → Vec F s₀ e₀ → Prop), (∀ v, Φ v X) → Sp 𝒱₀ c E R out p X Φ

variable {𝒱₀ : Variants} {c : Dev nD} {E : Set ℕ} {out : Memref sig .tc .vmem s₀ e₀}

theorem sp_pure {R : sProp 𝕄} {α : Type} {v : α} {X : Vec F s₀ e₀} {Φ : α → Vec F s₀ e₀ → Prop} (h : Φ v X) :
    Sp 𝒱₀ c E R out (pure v : Prog (TpuEff nD τ sig (Elt F) Λ₀ .tc) α) X Φ := by
  intro K
  refine BIClass.entails_trans ?_ (le_wp_ret _ _ _ v K)
  iintro ⟨HI, Hk⟩
  iapply Hk $$ %v %X %h
  iexact HI

theorem sp_bind {R : sProp 𝕄} {α β : Type} {p : Prog (TpuEff nD τ sig (Elt F) Λ₀ .tc) α} {k : α → Prog (TpuEff nD τ sig (Elt F) Λ₀ .tc) β} {X : Vec F s₀ e₀} {Φ : β → Vec F s₀ e₀ → Prop}
    (h : Sp 𝒱₀ c E R out p X fun v X' => Sp 𝒱₀ c E R out (k v) X' Φ) : Sp 𝒱₀ c E R out (p >>= k) X Φ := by
  intro K
  rw [wp_bind]
  refine BIClass.entails_trans ?_ (h _)
  iintro ⟨HI, Hk⟩
  isplitl [HI]; · iexact HI
  iintro %v %X' %hv HI
  iapply (hv K)
  isplitl [HI]; · iexact HI
  iexact Hk

theorem sp_dite {R : sProp 𝕄} {α : Type} {C : Prop} [Decidable C] {p : C → Prog (TpuEff nD τ sig (Elt F) Λ₀ .tc) α}
    {q : ¬ C → Prog (TpuEff nD τ sig (Elt F) Λ₀ .tc) α} {X : Vec F s₀ e₀} {Φ : α → Vec F s₀ e₀ → Prop}
    (hp : ∀ h, Sp 𝒱₀ c E R out (p h) X Φ) (hq : ∀ h, Sp 𝒱₀ c E R out (q h) X Φ) : Sp 𝒱₀ c E R out (if h : C then p h else q h) X Φ := by
  split
  · exact hp _
  · exact hq _

theorem sp_load {R : sProp 𝕄} {s : Shape} {e : EltTy} {m : Memref sig .tc .vmem s e} {x : Vec F s e} (hm : In c R m x) {r : LoadRect s}
    {hl : m.view.LoadsAt r} {X : Vec F s₀ e₀} {Φ : (r.shape.Idx → Elt F e) → Vec F s₀ e₀ → Prop} (h : Φ (ld x r) X) :
    Sp 𝒱₀ c E R out (Prog.lift (.load m r hl)) X Φ := by
  intro K
  unfold In at hm
  iintro ⟨⟨HI, HX⟩, Hk⟩
  icases hm $$ HI with ⟨Hm, Hb⟩
  unfold owns
  icases Hm with ⟨%f, %hf, Hm⟩
  iapply (wp_load (c := (c : Thread nD τ)) 𝒱₀ none E (View.setOn_subset_set _ _)) $$ Hm
  iintro Hm
  iapply (le_wp_ret _ _ _ _ K)
  iapply Hk $$ %_ %X %(show Φ (m.view.readAt (Elt F) r f) X by subst hf; exact h)
  isplitr [HX]
  · iapply Hb
    iexists f; isplitr; · ipureintro; exact hf
    iexact Hm
  iexact HX

theorem sp_load_scr {R : sProp 𝕄} {s : Shape} {e : EltTy} {m : Memref sig .tc .vmem s e} (hm : Scr c R m) {r : LoadRect s}
    {hl : m.view.LoadsAt r} {X : Vec F s₀ e₀} {Φ : (r.shape.Idx → Elt F e) → Vec F s₀ e₀ → Prop} (h : ∀ v, Φ v X) :
    Sp 𝒱₀ c E R out (Prog.lift (.load m r hl)) X Φ := by
  intro K
  unfold Scr at hm
  iintro ⟨⟨HI, HX⟩, Hk⟩
  icases hm $$ HI with ⟨⟨%x, Hm⟩, Hb⟩
  unfold owns
  icases Hm with ⟨%f, %hf, Hm⟩
  iapply (wp_load (c := (c : Thread nD τ)) 𝒱₀ none E (View.setOn_subset_set _ _)) $$ Hm
  iintro Hm
  iapply (le_wp_ret _ _ _ _ K)
  iapply Hk $$ %_ %X %(h _)
  isplitr [HX]
  · iapply Hb
    iexists x, f; isplitr; · ipureintro; exact hf
    iexact Hm
  iexact HX

theorem sp_load_out {R : sProp 𝕄} {r : LoadRect s₀} {hl : out.view.LoadsAt r} {X : Vec F s₀ e₀} {Φ : (r.shape.Idx → Elt F e₀) → Vec F s₀ e₀ → Prop}
    (h : ∀ v, Φ v X) : Sp 𝒱₀ c E R out (Prog.lift (.load out r hl)) X Φ := by
  intro K
  unfold owns
  iintro ⟨⟨HI, ⟨%f, %hf, HX⟩⟩, Hk⟩
  iapply (wp_load (c := (c : Thread nD τ)) 𝒱₀ none E (View.setOn_subset_set _ _)) $$ HX
  iintro HX
  iapply (le_wp_ret _ _ _ _ K)
  iapply Hk $$ %_ %X %(h _)
  isplitl [HI]; · iexact HI
  iexists f; isplitr; · ipureintro; exact hf
  iexact HX

theorem sp_store_scr {R : sProp 𝕄} {s : Shape} {e : EltTy} {m : Memref sig .tc .vmem s e} (hm : Scr c R m) {r : Rect s} {w : r.shape.Idx → Elt F e}
    {Mk : Finset r.shape.Idx} {hx : (m.access r).Stores Mk} {hu : Mk = Finset.univ ∨ ∀ a, r.stride a = 1}
    {X : Vec F s₀ e₀} {Φ : PUnit → Vec F s₀ e₀ → Prop} (h : Φ ⟨⟩ X) :
    Sp 𝒱₀ c E R out (Prog.lift (.store m r w Mk hx hu)) X Φ := by
  intro K
  unfold Scr at hm
  iintro ⟨⟨HI, HX⟩, Hk⟩
  icases hm $$ HI with ⟨⟨%x, Hm⟩, Hb⟩
  unfold owns
  icases Hm with ⟨%f, %hf, Hm⟩
  iapply (wp_store (c := (c : Thread nD τ)) (hx := hx) (hm := hu) 𝒱₀ none E (S := m.view.set) (f := f) ((View.setOn_subset_set _ _).trans (View.set_slice_subset _ _))) $$ Hm
  iintro Hm
  iapply (le_wp_ret _ _ _ _ K)
  iapply Hk $$ %_ %X %h
  isplitr [HX]
  · iapply Hb
    iexists _, _; isplitr; swap; · iexact Hm
    ipureintro; rfl
  iexact HX

theorem sp_store_out {R : sProp 𝕄} {off size : Fin s₀.rank → ℕ} {inb : ∀ a, off a + size a ≤ s₀.size a} {w : (Rect.unit (s := s₀) off size inb).shape.Idx → Elt F e₀}
    {hx : (out.access (Rect.unit (s := s₀) off size inb)).Stores Finset.univ} {hu : Finset.univ = Finset.univ ∨ ∀ a, (Rect.unit (s := s₀) off size inb).stride a = 1}
    {X : Vec F s₀ e₀} {Φ : PUnit → Vec F s₀ e₀ → Prop} (h : ∀ X', Put X off size w X' → Φ ⟨⟩ X') :
    Sp 𝒱₀ c E R out (Prog.lift (.store out (Rect.unit (s := s₀) off size inb) w Finset.univ hx hu)) X Φ := by
  intro K
  unfold owns
  iintro ⟨⟨HI, ⟨%f, %hf, HX⟩⟩, Hk⟩
  iapply (wp_store_writes₀ (c := (c : Thread nD τ)) (hx := hx) (hm := hu) 𝒱₀ none E (S := out.view.set) (f := f) ((View.setOn_subset_set _ _).trans (View.set_slice_subset _ _))) $$ HX
  iintro HX
  iapply (le_wp_ret _ _ _ _ K)
  iapply Hk $$ %_ %_ %(h (out.view.read (Elt F) (out.view.writes (Elt F) f [⟨Rect.unit (s := s₀) off size inb, w⟩]))
    ⟨fun y x hy => View.read_writes_cons_unit_of_mem out.view f inb w [] y x rfl hy,
      fun y a ha => (View.read_writes_cons_unit_of_not_mem out.view f inb w [] y rfl a ha).trans (congrFun hf y)⟩)
  isplitl [HI]; · iexact HI
  iexists _; isplitr; swap; · iexact HX
  ipureintro; rfl

theorem sp_quiet {R : sProp 𝕄} {α : Type} {p : Prog (TpuEff nD τ sig (Elt F) Λ₀ .tc) α} (hp : Quiet 𝒱₀ c E R out p) {X : Vec F s₀ e₀}
    {Φ : α → Vec F s₀ e₀ → Prop} (h : ∀ v, Φ v X) : Sp 𝒱₀ c E R out p X Φ := hp X Φ h

theorem quiet_pure {R : sProp 𝕄} {α : Type} {v : α} : Quiet 𝒱₀ c E R out (pure v : Prog (TpuEff nD τ sig (Elt F) Λ₀ .tc) α) := fun X Φ h => sp_pure (h v)

theorem quiet_bind {R : sProp 𝕄} {α β : Type} {p : Prog (TpuEff nD τ sig (Elt F) Λ₀ .tc) α} {k : α → Prog (TpuEff nD τ sig (Elt F) Λ₀ .tc) β}
    (hp : Quiet 𝒱₀ c E R out p) (hk : ∀ v, Quiet 𝒱₀ c E R out (k v)) : Quiet 𝒱₀ c E R out (p >>= k) :=
  fun X Φ h => sp_bind (hp _ _ fun v => hk v _ _ h)

theorem quiet_dite {R : sProp 𝕄} {α : Type} {C : Prop} [Decidable C] {p : C → Prog (TpuEff nD τ sig (Elt F) Λ₀ .tc) α}
    {q : ¬ C → Prog (TpuEff nD τ sig (Elt F) Λ₀ .tc) α} (hp : ∀ h, Quiet 𝒱₀ c E R out (p h)) (hq : ∀ h, Quiet 𝒱₀ c E R out (q h)) :
    Quiet 𝒱₀ c E R out (if h : C then p h else q h) := fun X Φ h => sp_dite (fun hc => hp hc X Φ h) fun hc => hq hc X Φ h

theorem quiet_load {R : sProp 𝕄} {s : Shape} {e : EltTy} {m : Memref sig .tc .vmem s e} (hm : Scr c R m) {r : LoadRect s} {hl : m.view.LoadsAt r} :
    Quiet 𝒱₀ c E R out (Prog.lift (.load m r hl)) := fun X Φ h => sp_load_scr hm h

theorem quiet_load_in {R : sProp 𝕄} {s : Shape} {e : EltTy} {m : Memref sig .tc .vmem s e} {x : Vec F s e} (hm : In c R m x) {r : LoadRect s}
    {hl : m.view.LoadsAt r} : Quiet 𝒱₀ c E R out (Prog.lift (.load m r hl)) := fun X Φ h => sp_load hm (h _)

theorem quiet_store {R : sProp 𝕄} {s : Shape} {e : EltTy} {m : Memref sig .tc .vmem s e} (hm : Scr c R m) {r : Rect s} {w : r.shape.Idx → Elt F e}
    {Mk : Finset r.shape.Idx} {hx : (m.access r).Stores Mk} {hu : Mk = Finset.univ ∨ ∀ a, r.stride a = 1} :
    Quiet 𝒱₀ c E R out (Prog.lift (.store m r w Mk hx hu)) := fun X Φ h => sp_store_scr hm (h _)

end Cert.Heads

end
-- ==== Proof.HRun.lean ====
/-
  The body of the call: the second half of the result block, four chunks of rows each as one function of the operands' blocks.
-/
module

public import proofs.«01_k».proof.Proof.HCalc
public import proofs.«01_k».proof.Proof.Gen.Kernel3Ideal.Skeleton

@[expose] public section

set_option maxRecDepth 16384

noncomputable section

namespace Cert.Heads

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- What is held beside the result: the operands' blocks at their values, the other result's block and the scratch at any. -/
structure Held (c : Dev nD) (R : sProp (MT nD τ sig Unit (Elt F) ℕ (UR sig nD τ) ℕ)) (arg2 : Memref sig .tc .vmem S1024x4096 .bf16) (arg3 : Memref sig .tc .vmem S1x4096x512 .bf16) (arg4 : Memref sig .tc .vmem S1x4096x512 .bf16) (arg5 : Memref sig .tc .vmem S1024x256 .bf16) (arg6 : Memref sig .tc .vmem S1024x128 .f32) (arg7 : Memref sig .tc .vmem S1024x128 .f32) (arg8 : Memref sig .tc .vmem S4x256 .f32) (arg9 : Memref sig .tc .vmem S1x256 .f32) (arg10 : Memref sig .tc .vmem S1x256x256 .f32) (arg11 : Memref sig .tc .vmem S1x1x256 .f32) (arg12 : Memref sig .tc .vmem S1x256x256 .f32) (arg13 : Memref sig .tc .vmem S1x1x256 .f32) (arg14 : Memref sig .tc .vmem S1x256 .f32) (arg15 : Memref sig .tc .vmem S1x256 .f32) (arg16 : Memref sig .tc .vmem S1x256 .f32) (arg17 : Memref sig .tc .vmem S1x128x128 .f32) (arg18 : Memref sig .tc .vmem S1x128x1 .f32) (arg19 : Memref sig .tc .vmem S512x512 .f32) (arg21 : Memref sig .tc .vmem S1x512x512 .bf16) (arg22 : Memref sig .tc .vmem S16x8x256 .f32) (arg23 : Memref sig .tc .vmem S16x8x256 .f32) (arg24 : Memref sig .tc .vmem S2x320x128 .f32) (arg25 : Memref sig .tc .vmem S2x320x128 .f32)
    (x2 : Vec F S1024x4096 .bf16) (x3 : Vec F S1x4096x512 .bf16) (x4 : Vec F S1x4096x512 .bf16) (x5 : Vec F S1024x256 .bf16) (x6 : Vec F S1024x128 .f32) (x7 : Vec F S1024x128 .f32) (x8 : Vec F S4x256 .f32) (x9 : Vec F S1x256 .f32) (x10 : Vec F S1x256x256 .f32) (x11 : Vec F S1x1x256 .f32) (x12 : Vec F S1x256x256 .f32) (x13 : Vec F S1x1x256 .f32) (x14 : Vec F S1x256 .f32) (x15 : Vec F S1x256 .f32) (x16 : Vec F S1x256 .f32) (x17 : Vec F S1x128x128 .f32) (x18 : Vec F S1x128x1 .f32) (x19 : Vec F S512x512 .f32) : Prop where
  h2 : In c R arg2 x2
  h3 : In c R arg3 x3
  h4 : In c R arg4 x4
  h5 : In c R arg5 x5
  h6 : In c R arg6 x6
  h7 : In c R arg7 x7
  h8 : In c R arg8 x8
  h9 : In c R arg9 x9
  h10 : In c R arg10 x10
  h11 : In c R arg11 x11
  h12 : In c R arg12 x12
  h13 : In c R arg13 x13
  h14 : In c R arg14 x14
  h15 : In c R arg15 x15
  h16 : In c R arg16 x16
  h17 : In c R arg17 x17
  h18 : In c R arg18 x18
  h19 : In c R arg19 x19
  h21 : Scr c R arg21
  h22 : Scr c R arg22
  h23 : Scr c R arg23
  h24 : Scr c R arg24
  h25 : Scr c R arg25

variable {𝒱₀ : Variants} {c : Dev nD} {E : Set ℕ} {R : sProp (MT nD τ sig Unit (Elt F) ℕ (UR sig nD τ) ℕ)}
variable {i : grid0.Coords} {arg2 : Memref sig .tc .vmem S1024x4096 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1024x256 .bf16} {harg5 : arg5.IsWhole} {arg6 : Memref sig .tc .vmem S1024x128 .f32} {harg6 : arg6.IsWhole} {arg7 : Memref sig .tc .vmem S1024x128 .f32} {harg7 : arg7.IsWhole} {arg8 : Memref sig .tc .vmem S4x256 .f32} {harg8 : arg8.IsWhole} {arg9 : Memref sig .tc .vmem S1x256 .f32} {harg9 : arg9.IsWhole} {arg10 : Memref sig .tc .vmem S1x256x256 .f32} {harg10 : arg10.IsWhole} {arg11 : Memref sig .tc .vmem S1x1x256 .f32} {harg11 : arg11.IsWhole} {arg12 : Memref sig .tc .vmem S1x256x256 .f32} {harg12 : arg12.IsWhole} {arg13 : Memref sig .tc .vmem S1x1x256 .f32} {harg13 : arg13.IsWhole} {arg14 : Memref sig .tc .vmem S1x256 .f32} {harg14 : arg14.IsWhole} {arg15 : Memref sig .tc .vmem S1x256 .f32} {harg15 : arg15.IsWhole} {arg16 : Memref sig .tc .vmem S1x256 .f32} {harg16 : arg16.IsWhole} {arg17 : Memref sig .tc .vmem S1x128x128 .f32} {harg17 : arg17.IsWhole} {arg18 : Memref sig .tc .vmem S1x128x1 .f32} {harg18 : arg18.IsWhole} {arg19 : Memref sig .tc .vmem S512x512 .f32} {harg19 : arg19.IsWhole} {arg20 : Memref sig .tc .vmem S2x1024x256 .bf16} {harg20 : arg20.IsWhole} {arg21 : Memref sig .tc .vmem S1x512x512 .bf16} {harg21 : arg21.IsWhole} {arg22 : Memref sig .tc .vmem S16x8x256 .f32} {harg22 : arg22.IsWhole} {arg23 : Memref sig .tc .vmem S16x8x256 .f32} {harg23 : arg23.IsWhole} {arg24 : Memref sig .tc .vmem S2x320x128 .f32} {harg24 : arg24.IsWhole} {arg25 : Memref sig .tc .vmem S2x320x128 .f32} {harg25 : arg25.IsWhole}
variable {x2 : Vec F S1024x4096 .bf16} {x3 : Vec F S1x4096x512 .bf16} {x4 : Vec F S1x4096x512 .bf16} {x5 : Vec F S1024x256 .bf16} {x6 : Vec F S1024x128 .f32} {x7 : Vec F S1024x128 .f32} {x8 : Vec F S4x256 .f32} {x9 : Vec F S1x256 .f32} {x10 : Vec F S1x256x256 .f32} {x11 : Vec F S1x1x256 .f32} {x12 : Vec F S1x256x256 .f32} {x13 : Vec F S1x1x256 .f32} {x14 : Vec F S1x256 .f32} {x15 : Vec F S1x256 .f32} {x16 : Vec F S1x256 .f32} {x17 : Vec F S1x128x128 .f32} {x18 : Vec F S1x128x1 .f32} {x19 : Vec F S512x512 .f32}

variable {X : Vec F S2x1024x256 .bf16}

/-- The mask-times-weight block, rounded, as every chunk multiplies by it. -/
def Wm (x17 : Vec F S1x128x128 .f32) : FVec F S128x128 .bf16 := k0_pay13 k0_pay10 (iota .tc S128x128 32 [1] iota_S128x128_d1_w32) 64#32 k0_pay11 k0_pay12 (Scalar.cmpi .sgt 64#32 0#32) (ld x17 (Rect.unit (s := S1x128x128) ![0, 0, 0] S1x128x128.size inb_S1x128x128_S1x128x128_0_0_0).toLoadRect)

/-- The spatial bias as a column. -/
def Wb (x18 : Vec F S1x128x1 .f32) : FVec F S128x1 .f32 := k0_pay14 (ld x18 (Rect.unit (s := S1x128x1) ![0, 0, 0] S1x128x1.size inb_S1x128x1_S1x128x1_0_0_0).toLoadRect)

theorem rows2 {a b A B o k : ℕ} (h0 : o + a ≤ A) (h1 : k + b ≤ B) : ∀ j : Fin 2, (![o, k] : Fin 2 → ℕ) j + (![a, b] : Fin 2 → ℕ) j ≤ (![A, B] : Fin 2 → ℕ) j
  | 0 => h0
  | 1 => h1

/-- The normalised operand of the rows from `o`, rounded. -/
def vnorm (x5 : Vec F S1024x256 .bf16) (x6 x7 : Vec F S1024x128 .f32) (x15 x16 : Vec F S1x256 .f32) (o : ℕ) (h : o ≤ 768) : FVec F S256x256 .bf16 :=
  k0_pay1181 (ld x5 (Rect.unit (s := S1024x256) ![o, 0] S256x256.size (rows2 (by omega) (by decide))).toLoadRect) (ld x6 (Rect.unit (s := S1024x128) ![o, 0] S256x1.size (rows2 (by omega) (by decide))).toLoadRect) (ld x7 (Rect.unit (s := S1024x128) ![o, 0] S256x1.size (rows2 (by omega) (by decide))).toLoadRect) (ld x15 (Rect.unit (s := S1x256) ![0, 0] S1x256.size inb_S1x256_S1x256_0_0).toLoadRect) (ld x16 (Rect.unit (s := S1x256) ![0, 0] S1x256.size inb_S1x256_S1x256_0_0).toLoadRect)

/-- The projected rows from `o`: their two halves are the gelu's operand and the silu's. -/
def wide (x2 : Vec F S1024x4096 .bf16) (x4 : Vec F S1x4096x512 .bf16) (o : ℕ) (h : o ≤ 768) : FVec F S256x512 .f32 :=
  k0_pay1191 (k0_pay1190 (k0_pay1183 (ld x2 (Rect.unit (s := S1024x4096) ![o, 0] S256x1024.size (rows2 (by omega) (by decide))).toLoadRect) (ld x4 (Rect.unit (s := S1x4096x512) ![0, 0, 0] S1x1024x512.size inb_S1x4096x512_S1x1024x512_0_0_0).toLoadRect) (ld x2 (Rect.unit (s := S1024x4096) ![o, 1024] S256x1024.size (rows2 (by omega) (by decide))).toLoadRect) (ld x4 (Rect.unit (s := S1x4096x512) ![0, 1024, 0] S1x1024x512.size inb_S1x4096x512_S1x1024x512_0_1024_0).toLoadRect)) (ld x2 (Rect.unit (s := S1024x4096) ![o, 2048] S256x1024.size (rows2 (by omega) (by decide))).toLoadRect) (ld x4 (Rect.unit (s := S1x4096x512) ![0, 2048, 0] S1x1024x512.size inb_S1x4096x512_S1x1024x512_0_2048_0).toLoadRect)) (ld x2 (Rect.unit (s := S1024x4096) ![o, 3072] S256x1024.size (rows2 (by omega) (by decide))).toLoadRect) (ld x4 (Rect.unit (s := S1x4096x512) ![0, 3072, 0] S1x1024x512.size inb_S1x4096x512_S1x1024x512_0_3072_0).toLoadRect)

/-- `X` is `w` on the rows from `o` of the second half. -/
def Half (X : Vec F S2x1024x256 .bf16) (o : ℕ) (w : S1x256x256.Idx → Elt F .bf16) : Prop :=
  ∀ (y : S2x1024x256.Idx) (x : S1x256x256.Idx), (∀ a, (y a).val = (![1, o, 0] : Fin 3 → ℕ) a + (x a).val) → X y = w x

theorem half_put {X X' : Vec F S2x1024x256 .bf16} {o : ℕ} {w : S1x256x256.Idx → Elt F .bf16}
    (hp : Put X ![1, o, 0] S1x256x256.size w X') : Half X' o w := hp.1

theorem half_keep {X X' : Vec F S2x1024x256 .bf16} {o p h : ℕ} {w w' : S1x256x256.Idx → Elt F .bf16} (hX : Half X o w)
    (hp : Put X ![h, p, 0] S1x256x256.size w' X') (hh : h = 0 ∨ p + 256 ≤ o ∨ o + 256 ≤ p) : Half X' o w := by
  intro y x hy
  refine (?_ : X' y = X y).trans (hX y x hy)
  have h0 : (y 0).val = 1 + (x 0).val := hy 0
  have h1 : (y 1).val = o + (x 1).val := hy 1
  have hx1 : (x 1).val < 256 := (x 1).isLt
  rcases hh with rfl | hh | hh
  · exact hp.2 y 0 (Or.inr (by show 0 + 1 ≤ (y 0).val; omega))
  · exact hp.2 y 1 (Or.inr (by show p + 256 ≤ (y 1).val; omega))
  · exact hp.2 y 1 (Or.inl (by show (y 1).val < p; omega))

/-- What every chunk stores of the gated half: the rows from `o`. -/
def gated (x2 : Vec F S1024x4096 .bf16) (x4 : Vec F S1x4096x512 .bf16) (x5 : Vec F S1024x256 .bf16) (x6 x7 : Vec F S1024x128 .f32) (x15 x16 : Vec F S1x256 .f32)
    (x17 : Vec F S1x128x128 .f32) (x18 : Vec F S1x128x1 .f32) (o : ℕ) (h : o ≤ 768) : S1x256x256.Idx → Elt F .bf16 :=
  k0_pay1555 (k0_pay1186 (Wm x17) (Wb x18) (vnorm x5 x6 x7 x15 x16 o h)) (wide x2 x4 o h)

set_option maxHeartbeats 4000000 in
theorem sp_part164 (H : Held c R arg2 arg3 arg4 arg5 arg6 arg7 arg8 arg9 arg10 arg11 arg12 arg13 arg14 arg15 arg16 arg17 arg18 arg19 arg21 arg22 arg23 arg24 arg25 x2 x3 x4 x5 x6 x7 x8 x9 x10 x11 x12 x13 x14 x15 x16 x17 x18 x19) {Φ : (Σ' (arg1 : BitVec 32) (v8 : Vec F S4x256 .f32) (v22 : FVec F S1x256 .f32) (v30 : FVec F S256x512 .bf16) (v34 : FVec F S1x256 .f32) (v38 : FVec F S1x256 .f32) (v94 : FVec F S128x128 .bf16) (v96 : FVec F S128x1 .f32) (v1290 : FVec F S1x256 .f32) (v1338 : FVec F S256x512 .f32) (v1385 : FVec F S8x256 .f32) (v1415 : FVec F S256x256 .f32) (v1448 : FVec F S256x512 .f32) (v1452 : FVec F S256x512 .f32) (v1850 : FVec F S8x128 .f32) (v1851 : FVec F S8x128 .f32), FVec F S1x8x128 .f32) → Vec F S2x1024x256 .bf16 → Prop}
    (h : ∀ arg1 v8 v22 v30 v34 v38 v1290 v1338 v1385 v1452 v1850 v1851 v1854 X', Half X' 0 (gated x2 x4 x5 x6 x7 x15 x16 x17 x18 0 (by decide)) →
      Φ ⟨arg1, v8, v22, v30, v34, v38, Wm x17, Wb x18, v1290, v1338, v1385, (k0_pay1186 (Wm x17) (Wb x18) (vnorm x5 x6 x7 x15 x16 256 (by decide))), (wide x2 x4 256 (by decide)), v1452, v1850, v1851, v1854⟩ X') :
    Sp 𝒱₀ c E R arg20 (k0_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) X Φ := by
  obtain ⟨h2, h3, h4, h5, h6, h7, h8, h9, h10, h11, h12, h13, h14, h15, h16, h17, h18, h19, h21, h22, h23, h24, h25⟩ := H
  simp only [k0_part164_eq_skeleton]
  delta k0_part164_skel
  rw [k0_part1_eq_skeleton, k0_part2_eq_skeleton, k0_part3_eq_skeleton, k0_part4_eq_skeleton, k0_part5_eq_skeleton, k0_part6_eq_skeleton, k0_part7_eq_skeleton, k0_part43_eq_skeleton, k0_part44_eq_skeleton, k0_part45_eq_skeleton, k0_part46_eq_skeleton, k0_part47_eq_skeleton]
  delta k0_part1_skel k0_part2_skel k0_part3_skel k0_part4_skel k0_part5_skel k0_part6_skel k0_part7_skel k0_part43_skel k0_part44_skel k0_part45_skel k0_part46_skel k0_part47_skel
  repeat' first
    | with_reducible refine sp_bind ?_
    | with_reducible refine sp_load (by assumption) ?_
    | with_reducible refine sp_load_scr (by assumption) fun _ => ?_
    | with_reducible refine sp_load_out fun _ => ?_
    | with_reducible refine sp_store_scr (by assumption) ?_
    | with_reducible refine sp_store_out fun _ _ => ?_
    | with_reducible refine sp_pure ?_
    | refine sp_quiet (by
        first
          | simp only [k0_part8_eq_skeleton, k0_part9_eq_skeleton, k0_part10_eq_skeleton, k0_part11_eq_skeleton, k0_part12_eq_skeleton, k0_part13_eq_skeleton, k0_part14_eq_skeleton, k0_part15_eq_skeleton,
              k0_part16_eq_skeleton, k0_part17_eq_skeleton, k0_part18_eq_skeleton, k0_part19_eq_skeleton, k0_part20_eq_skeleton, k0_part21_eq_skeleton, k0_part22_eq_skeleton, k0_part23_eq_skeleton,
              k0_part24_eq_skeleton, k0_part25_eq_skeleton, k0_part26_eq_skeleton, k0_part27_eq_skeleton, k0_part28_eq_skeleton, k0_part29_eq_skeleton, k0_part30_eq_skeleton, k0_part31_eq_skeleton,
              k0_part32_eq_skeleton, k0_part33_eq_skeleton, k0_part34_eq_skeleton, k0_part35_eq_skeleton, k0_part36_eq_skeleton, k0_part37_eq_skeleton, k0_part38_eq_skeleton, k0_part39_eq_skeleton,
              k0_part40_eq_skeleton, k0_part41_eq_skeleton, k0_part42_eq_skeleton, k0_part48_eq_skeleton, k0_part49_eq_skeleton, k0_part50_eq_skeleton, k0_part51_eq_skeleton, k0_part52_eq_skeleton,
              k0_part53_eq_skeleton, k0_part54_eq_skeleton, k0_part55_eq_skeleton, k0_part56_eq_skeleton, k0_part57_eq_skeleton, k0_part58_eq_skeleton, k0_part59_eq_skeleton, k0_part60_eq_skeleton]
            delta k0_part8_skel k0_part9_skel k0_part10_skel k0_part11_skel k0_part12_skel k0_part13_skel k0_part14_skel k0_part15_skel k0_part16_skel k0_part17_skel k0_part18_skel k0_part19_skel k0_part20_skel
              k0_part21_skel k0_part22_skel k0_part23_skel k0_part24_skel k0_part25_skel k0_part26_skel k0_part27_skel k0_part28_skel k0_part29_skel k0_part30_skel k0_part31_skel k0_part32_skel
              k0_part33_skel k0_part34_skel k0_part35_skel k0_part36_skel k0_part37_skel k0_part38_skel k0_part39_skel k0_part40_skel k0_part41_skel k0_part42_skel k0_part48_skel k0_part49_skel
              k0_part50_skel k0_part51_skel k0_part52_skel k0_part53_skel k0_part54_skel k0_part55_skel k0_part56_skel k0_part57_skel k0_part58_skel k0_part59_skel k0_part60_skel
          | skip
        repeat' first
          | with_reducible exact quiet_pure
          | with_reducible exact quiet_load (by assumption)
          | with_reducible exact quiet_load_in (by assumption)
          | with_reducible exact quiet_store (by assumption)
          | with_reducible refine quiet_bind ?_ fun _ => ?_
          | with_reducible refine quiet_dite (fun _ => ?_) fun _ => ?_) fun _ => ?_
  exact h _ _ _ _ _ _ _ _ _ _ _ _ _ _ (half_put (by assumption))

set_option maxHeartbeats 4000000 in
theorem sp_part165 (H : Held c R arg2 arg3 arg4 arg5 arg6 arg7 arg8 arg9 arg10 arg11 arg12 arg13 arg14 arg15 arg16 arg17 arg18 arg19 arg21 arg22 arg23 arg24 arg25 x2 x3 x4 x5 x6 x7 x8 x9 x10 x11 x12 x13 x14 x15 x16 x17 x18 x19) {v8 : Vec F S4x256 .f32} {v22 : FVec F S1x256 .f32} {v30 : FVec F S256x512 .bf16} {v34 v38 v1290 : FVec F S1x256 .f32} {v1338 : FVec F S256x512 .f32} {v1385 : FVec F S8x256 .f32} {v1452 : FVec F S256x512 .f32} {v1850 v1851 : FVec F S8x128 .f32} {v1854 : FVec F S1x8x128 .f32}
    (h0 : Half X 0 (gated x2 x4 x5 x6 x7 x15 x16 x17 x18 0 (by decide))) {Φ : (Σ' (v2554 : FVec F S256x512 .f32) (v2601 : FVec F S8x256 .f32) (v2631 : FVec F S256x256 .f32) (v2664 : FVec F S256x512 .f32) (v2668 : FVec F S256x512 .f32) (v3623 : FVec F S32x256 .f32) (v3637 : FVec F S32x256 .f32) (v3638 : FVec F S1x256 .f32) (v3643 : FVec F S32x256 .f32) (v3645 : FVec F S32x128 .f32), Vec F S1x32x128 .f32) → Vec F S2x1024x256 .bf16 → Prop}
    (h : ∀ v2554 v2601 v2668 v3623 v3637 v3638 v3643 v3645 v3646 X', Half X' 0 (gated x2 x4 x5 x6 x7 x15 x16 x17 x18 0 (by decide)) → Half X' 256 (gated x2 x4 x5 x6 x7 x15 x16 x17 x18 256 (by decide)) →
      Φ ⟨v2554, v2601, (k0_pay1186 (Wm x17) (Wb x18) (vnorm x5 x6 x7 x15 x16 512 (by decide))), (wide x2 x4 512 (by decide)), v2668, v3623, v3637, v3638, v3643, v3645, v3646⟩ X') :
    Sp 𝒱₀ c E R arg20 (k0_part165 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v8 v22 v30 v34 v38 (Wm x17) (Wb x18) v1290 v1338 v1385 (k0_pay1186 (Wm x17) (Wb x18) (vnorm x5 x6 x7 x15 x16 256 (by decide))) (wide x2 x4 256 (by decide)) v1452 v1850 v1851 v1854) X Φ := by
  obtain ⟨h2, h3, h4, h5, h6, h7, h8, h9, h10, h11, h12, h13, h14, h15, h16, h17, h18, h19, h21, h22, h23, h24, h25⟩ := H
  simp only [k0_part165_eq_skeleton]
  delta k0_part165_skel
  rw [k0_part83_eq_skeleton, k0_part84_eq_skeleton, k0_part85_eq_skeleton, k0_part86_eq_skeleton, k0_part87_eq_skeleton]
  delta k0_part83_skel k0_part84_skel k0_part85_skel k0_part86_skel k0_part87_skel
  repeat' first
    | with_reducible refine sp_bind ?_
    | with_reducible refine sp_load (by assumption) ?_
    | with_reducible refine sp_load_scr (by assumption) fun _ => ?_
    | with_reducible refine sp_load_out fun _ => ?_
    | with_reducible refine sp_store_scr (by assumption) ?_
    | with_reducible refine sp_store_out fun _ _ => ?_
    | with_reducible refine sp_pure ?_
    | refine sp_quiet (by
        first
          | simp only [k0_part61_eq_skeleton, k0_part62_eq_skeleton, k0_part63_eq_skeleton, k0_part64_eq_skeleton, k0_part65_eq_skeleton, k0_part66_eq_skeleton, k0_part67_eq_skeleton, k0_part68_eq_skeleton,
              k0_part69_eq_skeleton, k0_part70_eq_skeleton, k0_part71_eq_skeleton, k0_part72_eq_skeleton, k0_part73_eq_skeleton, k0_part74_eq_skeleton, k0_part75_eq_skeleton, k0_part76_eq_skeleton,
              k0_part77_eq_skeleton, k0_part78_eq_skeleton, k0_part79_eq_skeleton, k0_part80_eq_skeleton, k0_part81_eq_skeleton, k0_part82_eq_skeleton, k0_part88_eq_skeleton, k0_part89_eq_skeleton,
              k0_part90_eq_skeleton, k0_part91_eq_skeleton, k0_part92_eq_skeleton, k0_part93_eq_skeleton, k0_part94_eq_skeleton, k0_part95_eq_skeleton, k0_part96_eq_skeleton, k0_part97_eq_skeleton,
              k0_part98_eq_skeleton, k0_part99_eq_skeleton, k0_part100_eq_skeleton, k0_part101_eq_skeleton, k0_part102_eq_skeleton, k0_part103_eq_skeleton, k0_part104_eq_skeleton, k0_part105_eq_skeleton,
              k0_part106_eq_skeleton, k0_part107_eq_skeleton, k0_part108_eq_skeleton, k0_part109_eq_skeleton, k0_part110_eq_skeleton, k0_part111_eq_skeleton, k0_part112_eq_skeleton, k0_part113_eq_skeleton,
              k0_part114_eq_skeleton, k0_part115_eq_skeleton, k0_part116_eq_skeleton, k0_part117_eq_skeleton, k0_part118_eq_skeleton, k0_part119_eq_skeleton, k0_part120_eq_skeleton]
            delta k0_part61_skel k0_part62_skel k0_part63_skel k0_part64_skel k0_part65_skel k0_part66_skel k0_part67_skel k0_part68_skel k0_part69_skel k0_part70_skel k0_part71_skel k0_part72_skel
              k0_part73_skel k0_part74_skel k0_part75_skel k0_part76_skel k0_part77_skel k0_part78_skel k0_part79_skel k0_part80_skel k0_part81_skel k0_part82_skel k0_part88_skel k0_part89_skel
              k0_part90_skel k0_part91_skel k0_part92_skel k0_part93_skel k0_part94_skel k0_part95_skel k0_part96_skel k0_part97_skel k0_part98_skel k0_part99_skel k0_part100_skel k0_part101_skel
              k0_part102_skel k0_part103_skel k0_part104_skel k0_part105_skel k0_part106_skel k0_part107_skel k0_part108_skel k0_part109_skel k0_part110_skel k0_part111_skel k0_part112_skel k0_part113_skel
              k0_part114_skel k0_part115_skel k0_part116_skel k0_part117_skel k0_part118_skel k0_part119_skel k0_part120_skel
          | skip
        repeat' first
          | with_reducible exact quiet_pure
          | with_reducible exact quiet_load (by assumption)
          | with_reducible exact quiet_load_in (by assumption)
          | with_reducible exact quiet_store (by assumption)
          | with_reducible refine quiet_bind ?_ fun _ => ?_
          | with_reducible refine quiet_dite (fun _ => ?_) fun _ => ?_) fun _ => ?_
  exact h _ _ _ _ _ _ _ _ _ _ (half_keep (half_keep h0 (by assumption) (by decide)) (by assumption) (by decide)) (half_put (by assumption))

set_option maxHeartbeats 4000000 in
theorem sp_body (H : Held c R arg2 arg3 arg4 arg5 arg6 arg7 arg8 arg9 arg10 arg11 arg12 arg13 arg14 arg15 arg16 arg17 arg18 arg19 arg21 arg22 arg23 arg24 arg25 x2 x3 x4 x5 x6 x7 x8 x9 x10 x11 x12 x13 x14 x15 x16 x17 x18 x19) {Φ : PUnit → Vec F S2x1024x256 .bf16 → Prop}
    (h : ∀ X', Half X' 0 (gated x2 x4 x5 x6 x7 x15 x16 x17 x18 0 (by decide)) → Half X' 256 (gated x2 x4 x5 x6 x7 x15 x16 x17 x18 256 (by decide)) → Half X' 512 (gated x2 x4 x5 x6 x7 x15 x16 x17 x18 512 (by decide)) → Half X' 768 (gated x2 x4 x5 x6 x7 x15 x16 x17 x18 768 (by decide)) → Φ ⟨⟩ X') :
    Sp 𝒱₀ c E R arg20 (cc0_heads i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) X Φ := by
  have H' := H
  obtain ⟨h2, h3, h4, h5, h6, h7, h8, h9, h10, h11, h12, h13, h14, h15, h16, h17, h18, h19, h21, h22, h23, h24, h25⟩ := H'
  simp only [cc0_heads_eq_skeleton]
  delta cc0_heads_skel
  rw [k0_part123_eq_skeleton, k0_part124_eq_skeleton, k0_part125_eq_skeleton, k0_part126_eq_skeleton, k0_part127_eq_skeleton, k0_part163_eq_skeleton]
  delta k0_part123_skel k0_part124_skel k0_part125_skel k0_part126_skel k0_part127_skel k0_part163_skel
  with_reducible refine sp_bind (sp_part164 H fun _ _ _ _ _ _ _ _ _ _ _ _ _ _ h0 => ?_)
  with_reducible refine sp_bind (sp_part165 H h0 fun _ _ _ _ _ _ _ _ _ _ h0 h1 => ?_)
  repeat' first
    | with_reducible refine sp_bind ?_
    | with_reducible refine sp_load (by assumption) ?_
    | with_reducible refine sp_load_scr (by assumption) fun _ => ?_
    | with_reducible refine sp_load_out fun _ => ?_
    | with_reducible refine sp_store_scr (by assumption) ?_
    | with_reducible refine sp_store_out fun _ _ => ?_
    | with_reducible refine sp_pure ?_
    | refine sp_quiet (by
        first
          | simp only [k0_part121_eq_skeleton, k0_part122_eq_skeleton, k0_part128_eq_skeleton, k0_part129_eq_skeleton, k0_part130_eq_skeleton, k0_part131_eq_skeleton, k0_part132_eq_skeleton, k0_part133_eq_skeleton,
              k0_part134_eq_skeleton, k0_part135_eq_skeleton, k0_part136_eq_skeleton, k0_part137_eq_skeleton, k0_part138_eq_skeleton, k0_part139_eq_skeleton, k0_part140_eq_skeleton, k0_part141_eq_skeleton,
              k0_part142_eq_skeleton, k0_part143_eq_skeleton, k0_part144_eq_skeleton, k0_part145_eq_skeleton, k0_part146_eq_skeleton, k0_part147_eq_skeleton, k0_part148_eq_skeleton, k0_part149_eq_skeleton,
              k0_part150_eq_skeleton, k0_part151_eq_skeleton, k0_part152_eq_skeleton, k0_part153_eq_skeleton, k0_part154_eq_skeleton, k0_part155_eq_skeleton, k0_part156_eq_skeleton, k0_part157_eq_skeleton,
              k0_part158_eq_skeleton, k0_part159_eq_skeleton, k0_part160_eq_skeleton, k0_part161_eq_skeleton, k0_part162_eq_skeleton]
            delta k0_part121_skel k0_part122_skel k0_part128_skel k0_part129_skel k0_part130_skel k0_part131_skel k0_part132_skel k0_part133_skel k0_part134_skel k0_part135_skel k0_part136_skel k0_part137_skel
              k0_part138_skel k0_part139_skel k0_part140_skel k0_part141_skel k0_part142_skel k0_part143_skel k0_part144_skel k0_part145_skel k0_part146_skel k0_part147_skel k0_part148_skel k0_part149_skel
              k0_part150_skel k0_part151_skel k0_part152_skel k0_part153_skel k0_part154_skel k0_part155_skel k0_part156_skel k0_part157_skel k0_part158_skel k0_part159_skel k0_part160_skel k0_part161_skel
              k0_part162_skel
          | skip
        repeat' first
          | with_reducible exact quiet_pure
          | with_reducible exact quiet_load (by assumption)
          | with_reducible exact quiet_load_in (by assumption)
          | with_reducible exact quiet_store (by assumption)
          | with_reducible refine quiet_bind ?_ fun _ => ?_
          | with_reducible refine quiet_dite (fun _ => ?_) fun _ => ?_) fun _ => ?_
  have k0 := half_keep (half_keep (half_keep (half_keep h0 (by assumption) (by decide)) (by assumption) (by decide)) (by assumption) (by decide)) (by assumption) (by decide)
  have k1 := half_keep (half_keep (half_keep (half_keep h1 (by assumption) (by decide)) (by assumption) (by decide)) (by assumption) (by decide)) (by assumption) (by decide)
  exact h _ k0 k1 (half_keep (half_keep (half_put (by assumption)) (by assumption) (by decide)) (by assumption) (by decide)) (half_put (by assumption))

end Cert.Heads

end
-- ==== Proof.HPoint.lean ====
/-
  The body of `cc0_heads` at a grid point: what it keeps, what it leaves in the second half of the result's block.
-/
module

public import proofs.«01_k».proof.Proof.HRun
public import proofs.«01_k».proof.Proof.Gen.Kernel3Ideal.Frame
public import Idealize.ShloMosaic.Lib.Pipeline.DatRel

@[expose] public section

set_option maxRecDepth 16384

noncomputable section

namespace Cert.Heads

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F]
local notation "𝕄" => MT nD τ sig Unit (Elt F) ℕ (UR sig nD τ) ℕ

variable (m : (ℓ : Loc nD τ sig) → Buf (Elt F) ℓ)

/-- What is kept between points: the scratch, at any values. -/
def PhiS (c : Dev nD) (t : ℕ) (_ : t ≤ cfg0.N) : sProp 𝕄 :=
  iprop((∃ x : Vec F S16x8x256 .f32, owns (c : Thread nD τ) (Memref.whole cc0_scratch0) fullShare x)
    ∗ (∃ x : Vec F S16x8x256 .f32, owns (c : Thread nD τ) (Memref.whole cc0_scratch1) fullShare x)
    ∗ (∃ x : Vec F S2x320x128 .f32, owns (c : Thread nD τ) (Memref.whole cc0_scratch2) fullShare x)
    ∗ (∃ x : Vec F S2x320x128 .f32, owns (c : Thread nD τ) (Memref.whole cc0_scratch3) fullShare x)
    ∗ (∃ r, prngReg (c : Dev nD) r))

/-- What the body holds beside the result's block at point `t`. -/
def Keep (c : Dev nD) (t : Fin cfg0.N) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare (iblk m c 10 t)
    ∗ owns (c : Thread nD τ) (win0_11.stage (cfg0.slots t 11)) fullShare (iblk m c 11 t)
    ∗ owns (c : Thread nD τ) (win0_12.stage (cfg0.slots t 12)) fullShare (iblk m c 12 t)
    ∗ owns (c : Thread nD τ) (win0_13.stage (cfg0.slots t 13)) fullShare (iblk m c 13 t)
    ∗ owns (c : Thread nD τ) (win0_14.stage (cfg0.slots t 14)) fullShare (iblk m c 14 t)
    ∗ owns (c : Thread nD τ) (win0_15.stage (cfg0.slots t 15)) fullShare (iblk m c 15 t)
    ∗ owns (c : Thread nD τ) (win0_16.stage (cfg0.slots t 16)) fullShare (iblk m c 16 t)
    ∗ owns (c : Thread nD τ) (win0_17.stage (cfg0.slots t 17)) fullShare (iblk m c 17 t)
    ∗ (∃ x, owns (c : Thread nD τ) (win0_19.stage (cfg0.slots t 19)) fullShare x)
    ∗ (∃ x : Vec F S16x8x256 .f32, owns (c : Thread nD τ) (Memref.whole cc0_scratch0) fullShare x)
    ∗ (∃ x : Vec F S16x8x256 .f32, owns (c : Thread nD τ) (Memref.whole cc0_scratch1) fullShare x)
    ∗ (∃ x : Vec F S2x320x128 .f32, owns (c : Thread nD τ) (Memref.whole cc0_scratch2) fullShare x)
    ∗ (∃ x : Vec F S2x320x128 .f32, owns (c : Thread nD τ) (Memref.whole cc0_scratch3) fullShare x)
    ∗ (∃ r, prngReg (c : Dev nD) r))

theorem held (c : Dev nD) (t : Fin cfg0.N) : Held c (Keep m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (win0_19.stage (cfg0.slots t 19)) (Memref.whole cc0_scratch0) (Memref.whole cc0_scratch1) (Memref.whole cc0_scratch2) (Memref.whole cc0_scratch3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by
  unfold Keep
  constructor <;>
  repeat' first
    | with_reducible exact in_head
    | with_reducible exact scr_head
    | with_reducible refine in_tail ?_
    | with_reducible refine scr_tail ?_

/-- The windows stated by what is found in them: the results'. -/
def fgt : Fin cfg0.W → Bool := fun w => match w with
  | ⟨18, _⟩ | ⟨19, _⟩ => true
  | _ => false

/-- The second half of the result's block at point `t`, by its four chunks of rows. -/
def Gated (c : Dev nD) (t : Fin cfg0.N) (X : Vec F S2x1024x256 .bf16) : Prop :=
  Half X 0 (gated (iblk m c 0 t) (iblk m c 2 t) (iblk m c 3 t) (iblk m c 4 t) (iblk m c 5 t) (iblk m c 13 t) (iblk m c 14 t) (iblk m c 15 t) (iblk m c 16 t) 0 (by decide))
    ∧ Half X 256 (gated (iblk m c 0 t) (iblk m c 2 t) (iblk m c 3 t) (iblk m c 4 t) (iblk m c 5 t) (iblk m c 13 t) (iblk m c 14 t) (iblk m c 15 t) (iblk m c 16 t) 256 (by decide))
    ∧ Half X 512 (gated (iblk m c 0 t) (iblk m c 2 t) (iblk m c 3 t) (iblk m c 4 t) (iblk m c 5 t) (iblk m c 13 t) (iblk m c 14 t) (iblk m c 15 t) (iblk m c 16 t) 512 (by decide))
    ∧ Half X 768 (gated (iblk m c 0 t) (iblk m c 2 t) (iblk m c 3 t) (iblk m c 4 t) (iblk m c 5 t) (iblk m c 13 t) (iblk m c 14 t) (iblk m c 15 t) (iblk m c 16 t) 768 (by decide))

/-- What the body leaves in a result's buffer at point `t`. -/
def Rl (c : Dev nD) : (w : Fin cfg0.W) → Fin cfg0.N → ((cfg0.win w).block.Idx → Elt F (cfg0.win w).elt) → Prop := fun w => match w with
  | ⟨18, _⟩ => fun t X => Gated m c t X
  | _ => fun _ _ => True

/-- The pipeline's proof data. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | _ => fun _ => Classical.arbitrary _
  Φ t := PhiS c t.val (Nat.le_of_lt_succ t.isLt)
  q w := Pipeline.shareOf spec0 w
  owed _ := 0

set_option backward.proofsInPublic true in
set_option maxHeartbeats 4000000 in
theorem body_obligation (𝒱₀ : Variants) (c : Dev nD) : BodyObligationRel (dat m c) (defs₀ (F := F)) 𝒱₀ () Set.univ fgt (Rl m c) := fun t => by
  rw [bigSep_W0, bigSep_W0]
  have f0 : fgt (0 : Fin 20) = false := rfl
  have f1 : fgt (1 : Fin 20) = false := rfl
  have f2 : fgt (2 : Fin 20) = false := rfl
  have f3 : fgt (3 : Fin 20) = false := rfl
  have f4 : fgt (4 : Fin 20) = false := rfl
  have f5 : fgt (5 : Fin 20) = false := rfl
  have f6 : fgt (6 : Fin 20) = false := rfl
  have f7 : fgt (7 : Fin 20) = false := rfl
  have f8 : fgt (8 : Fin 20) = false := rfl
  have f9 : fgt (9 : Fin 20) = false := rfl
  have f10 : fgt (10 : Fin 20) = false := rfl
  have f11 : fgt (11 : Fin 20) = false := rfl
  have f12 : fgt (12 : Fin 20) = false := rfl
  have f13 : fgt (13 : Fin 20) = false := rfl
  have f14 : fgt (14 : Fin 20) = false := rfl
  have f15 : fgt (15 : Fin 20) = false := rfl
  have f16 : fgt (16 : Fin 20) = false := rfl
  have f17 : fgt (17 : Fin 20) = false := rfl
  have f18 : fgt (18 : Fin 20) = true := rfl
  have f19 : fgt (19 : Fin 20) = true := rfl
  simp only [f0, f1, f2, f3, f4, f5, f6, f7, f8, f9, f10, f11, f12, f13, f14, f15, f16, f17, f18, f19]
  rw [show (dat m c).Φ t.castSucc = PhiS c t.val (Nat.le_of_lt t.isLt) from by
      dsimp only [dat]; exact Pipeline.Dat.Φ_castSucc (PhiS c) t,
    show (dat m c).Φ t.succ = PhiS c (t.val + 1) t.isLt from rfl,
    show (dat m c).owesAt () t.succ = (dat m c).owesAt () t.castSucc from rfl]
  unfold PhiS
  iintro ⟨⟨S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%x18, -, H18⟩, ⟨%x19, -, H19⟩⟩
  rw [before0_0_of m (dat m c) rfl (fun _ => rfl) t d0, before0_1_of m (dat m c) rfl (fun _ => rfl) t d1, before0_2_of m (dat m c) rfl (fun _ => rfl) t d2, before0_3_of m (dat m c) rfl (fun _ => rfl) t d3, before0_4_of m (dat m c) rfl (fun _ => rfl) t d4, before0_5_of m (dat m c) rfl (fun _ => rfl) t d5, before0_6_of m (dat m c) rfl (fun _ => rfl) t d6, before0_7_of m (dat m c) rfl (fun _ => rfl) t d7, before0_8_of m (dat m c) rfl (fun _ => rfl) t d8, before0_9_of m (dat m c) rfl (fun _ => rfl) t d9, before0_10_of m (dat m c) rfl (fun _ => rfl) t d10, before0_11_of m (dat m c) rfl (fun _ => rfl) t d11, before0_12_of m (dat m c) rfl (fun _ => rfl) t d12, before0_13_of m (dat m c) rfl (fun _ => rfl) t d13, before0_14_of m (dat m c) rfl (fun _ => rfl) t d14, before0_15_of m (dat m c) rfl (fun _ => rfl) t d15, before0_16_of m (dat m c) rfl (fun _ => rfl) t d16, before0_17_of m (dat m c) rfl (fun _ => rfl) t d17]
  change _ ⊢ (wp frame (wpE (defs₀ (F := F)) 𝒱₀ c none) Set.univ (bodyAt0 t) _)
  refine BIClass.entails_trans ?_ (sp_body (𝒱₀ := 𝒱₀) (E := Set.univ) (X := x18) (held m c t) (Φ := fun _ X' => Gated m c t X')
    (fun X' h0 h1 h2 h3 => ⟨h0, h1, h2, h3⟩) _)
  unfold Keep
  iintro ⟨⟨⟨⟨⟨⟨⟨⟨⟨⟨⟨⟨⟨⟨⟨⟨⟨⟨⟨⟨⟨⟨⟨⟨⟨S0, S1⟩, S2⟩, S3⟩, Hg⟩, Ho⟩, H0⟩, H1⟩, H2⟩, H3⟩, H4⟩, H5⟩, H6⟩, H7⟩, H8⟩, H9⟩, H10⟩, H11⟩, H12⟩, H13⟩, H14⟩, H15⟩, H16⟩, H17⟩, H18⟩, H19⟩
  isplitl [S0 S1 S2 S3 Hg H0 H1 H2 H3 H4 H5 H6 H7 H8 H9 H10 H11 H12 H13 H14 H15 H16 H17 H18 H19]
  · isplitl [S0 S1 S2 S3 Hg H0 H1 H2 H3 H4 H5 H6 H7 H8 H9 H10 H11 H12 H13 H14 H15 H16 H17 H19]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H19]; · iexists _; iexact H19
      isplitl [S0]; · iexact S0
      isplitl [S1]; · iexact S1
      isplitl [S2]; · iexact S2
      isplitl [S3]; · iexact S3
      iexact Hg
    iexact H18
  iintro %v %X' %hX ⟨⟨H0, H1, H2, H3, H4, H5, H6, H7, H8, H9, H10, H11, H12, H13, H14, H15, H16, H17, ⟨%y19, H19⟩, S0, S1, S2, S3, Hg⟩, H18⟩
  isplitl [S0 S1 S2 S3 Hg]
  · isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iexists _; isplitr; swap; · iexact H18
    ipureintro; exact hX
  iexists _; isplitr; swap; · iexact H19
  ipureintro; trivial

end Cert.Heads

end
-- ==== Proof.HLaunch.lean ====
/-
  The launch of `cc0_heads`: one run of the whole program over any float values. The lines after the region read the
  result's array, so the run is stated with them: every buffer beside the arrays ends at what the lines write over SOME
  arrays the pipeline's data allow.
-/
module

public import proofs.«01_k».proof.Proof.HPoint
public import proofs.«01_k».proof.Proof.Gen.Kernel3Ideal.Frame
public import proofs.«01_k».proof.Proof.Gen.Kernel3Ideal.Launch
public import Idealize.ShloMosaic.Lib.Pipeline.ArrRel
public import Idealize.ShloMosaic.Lib.Pipeline.FrameSuffix

@[expose] public section

set_option maxRecDepth 16384

noncomputable section

namespace Cert.Heads

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- No loop of the program needs a variant. -/
def vr : Variants := Variants.none

/-- The pipeline's data, the result's window held to `Rl`. -/
def rdat (c : Dev nD) : RDat τ (Elt F) Unit ℕ (UR sig nD τ) ℕ cfg0 c := (dat m c).toRRel fgt (Rl m c)

theorem enter (c : Dev nD) : Pipeline.ΦA (Val := Elt F) spec0 c ⊢ PhiS c 0 (Nat.zero_le _) := by
  unfold Pipeline.ΦA PhiS
  rw [scopedRest0_eq]
  simp only [owns_whole]
  iintro ⟨⟨H0, H1, H2, H3⟩, Hg⟩
  isplitl [H0]; · iexact H0
  isplitl [H1]; · iexact H1
  isplitl [H2]; · iexact H2
  isplitl [H3]; · iexact H3
  iexact Hg

theorem leave (c : Dev nD) (t : ℕ) (ht : t ≤ cfg0.N) : PhiS c t ht ⊢ Pipeline.ΦA (Val := Elt F) spec0 c := by
  unfold Pipeline.ΦA PhiS
  rw [scopedRest0_eq]
  simp only [owns_whole]
  iintro ⟨H0, H1, H2, H3, Hg⟩
  isplitl [H0 H1 H2 H3]
  · isplitl [H0]; · iexact H0
    isplitl [H1]; · iexact H1
    isplitl [H2]; · iexact H2
    iexact H3
  iexact Hg

/-! ## The lines after the region -/

/-- Arrays of the windows, at core `c`. -/
abbrev Arrs (F : FTy → Type) (c : Dev nD) : Type := (w : Fin cfg0.W) → Buf (Elt F) ((cfg0.win w).arr.view.loc (c.tc : Thread nD τ))

/-- The arrays the region may leave. -/
def Left (c : Dev nD) (A : Arrs F c) : Prop := ∀ w, (rdat m c).ArrAt w cfg0.N (A w)

/-- What the buffers hold after the region's arrays `A` and the lines after it. -/
def final (c : Dev nD) (A : Arrs F c) (b : Ref sig .tc) : Buf (Elt F) ((c.tc : Thread nD τ).loc b) :=
  StableHlo.after [hostOps1 (F := F)].flatten (Pipeline.withArrays spec0 c (V0 m c) A) (Proc.devRef .tc b)

/-- The buffers no window stages, at the values `G`. -/
abbrev others (c : Dev nD) (G : (b : Ref sig .tc) → Buf (Elt F) ((c.tc : Thread nD τ).loc b)) : sProp 𝕄 :=
  Pipeline.unscopedRestP (Ix := Unit) (Name := ℕ) (U := UR sig nD τ) (Lvl := ℕ) Pipeline.Prefetch.none spec0 c G

theorem arrays_open (c : Dev nD) : ((rdat m c).arraysAt cfg0.N : sProp 𝕄) ⊢ iprop(∃ A, ⌜Left m c A⌝ ∗ (rdat m c).arrays A) := by
  unfold RDat.arraysAt RDat.arrays
  refine BIClass.entails_trans (BI.bigSep_exists_pi Finset.univ _) ?_
  iintro ⟨%A, H⟩
  icases (BI.bigSep_pure_sep Finset.univ (fun w => (rdat m c).ArrAt w cfg0.N (A w)) _) $$ H with ⟨%hA, H⟩
  iexists A
  isplitr; · ipureintro; exact fun w => hA w (Finset.mem_univ w)
  iexact H

theorem arrays_close (c : Dev nD) (A : Arrs F c) (hA : Left m c A) : ((rdat m c).arrays A : sProp 𝕄) ⊢ (rdat m c).arraysAt cfg0.N := by
  unfold RDat.arraysAt RDat.arrays
  refine BI.bigSep_mono fun w _ => ?_
  show ((cfg0.win w).arr.view.loc (c.tc : Thread nD τ) ↦[(cfg0.win w).arr.view.set]{(rdat m c).share w} A w : sProp 𝕄)
    ⊢ iprop(∃ B, ⌜(rdat m c).ArrAt w cfg0.N B⌝ ∗ (cfg0.win w).arr.view.loc (c.tc : Thread nD τ) ↦[(cfg0.win w).arr.view.set]{(rdat m c).share w} B)
  iintro H
  iexists (A w)
  isplitr; · ipureintro; exact hA w
  iexact H

/-- The arrays as buffers: those staged by two windows are operands', so they are as found. -/
theorem arrays_bufs (c : Dev nD) (A : Arrs F c) (hA : Left m c A) :
    ((rdat m c).arrays A : sProp 𝕄) = Pipeline.arrBufs spec0 c (fun b => Pipeline.withArrays spec0 c (V0 m c) A (Proc.devRef .tc b)) :=
  ((rdat m c).arrBufs_eq_arrays launch₀0.sharedIn launch₀0.arr_whole (fun _ _ => rfl) _ A fun w =>
    (Pipeline.withArrays_arr_shared spec0 c (V0 m c) A ((rdat m c).ArrAt_sharedIn launch₀0.sharedIn (V0 m c) (fun _ => rfl) cfg0.N A hA) w).symm).symm

/-- The lines run: the arrays are left, the other buffers end at `final`. -/
theorem lines_run (c : Dev nD) (K : PUnit → sProp 𝕄) :
    iprop((iprop(boundary (c.tc : Thread nD τ) ∗ (rdat m c).arraysAt cfg0.N ∗ (∃ A, ⌜Left m c A⌝ ∗ others c (final m c A))) -∗ K ⟨⟩)
        ∗ boundary (c.tc : Thread nD τ) ∗ (rdat m c).arraysAt cfg0.N ∗ others c (V m c))
      ⊢ wp frame (wpE (defs (F := F)) (Variants.lift vr) (c.tc : Thread nD τ) none) Set.univ (Pipeline.chain ([hostOps1].map StableHlo.seq)) K := by
  iintro ⟨Hk, Hb, Ha, Ho⟩
  icases (arrays_open m c) $$ Ha with ⟨%A, %hA, Ha⟩
  ihave Ha := (Entails.of_eq (arrays_bufs m c A hA)) $$ Ha
  iapply (Pipeline.tail_seqs_bufs_b pcfgs defs₀ vr Pipeline.Prefetch.none spec0 c (V0 m c) A [hostOps1] sfx_sub sfx_fresh sfx_keeps K)
  isplitl [Hk]
  · iintro ⟨Hb, Ha, Ho⟩
    iapply Hk
    isplitl [Hb]; · iexact Hb
    isplitl [Ha]
    · iapply (arrays_close m c A hA)
      iapply (Entails.of_eq (arrays_bufs m c A hA).symm)
      iexact Ha
    iexists A
    isplitr; · ipureintro; exact hA
    iexact Ho
  isplitl [Hb]; · iexact Hb
  isplitl [Ha]; · iexact Ha
  iexact Ho

/-- What a run ends at. -/
def Post (r : PUnit × MemSt nD τ sig (Elt F)) : Prop := ∀ c : Dev nD,
  (∀ w, (rdat m c).ArrAt w cfg0.N (r.2.mem ((cfg0.spec w).arr.view.loc (c.tc : Thread nD τ))))
    ∧ ∃ A, Left m c A ∧ ∀ b ∈ Pipeline.restRefsP sig Pipeline.Prefetch.none spec0, r.2.mem ((c.tc : Thread nD τ).loc b) = final m c A b

/-- At the compiled mesh, for any float values, from any memory with zero counters: every weakly fair execution
    terminates, the buffers as the pipeline's data and the lines after it tell them, every counter at zero. -/
theorem run_heads : θ_run defs (onTc (τ := τ) (main (F := F))) (s₀ m ρ) (fun r => Post m r ∧ r.2.sem = fun _ => 0) := by
  classical
  have kit := launch₀0.toP (nD := nD) (τ := τ) (Val := Elt F)
  let a : (p : Fin 1) → (pcfgs (F := F) p).Adm := fun q => (cfgs q).toPCfg_adm
  refine RDat.θ_run_region_pf_tail_quiescent pcfgs a (RDat.familyOf pcfgs a 0 (rdat m)) () (kit.cellOf_inj a) 0 kit.win
    (Pipeline.OwnSemFacts.none spec0) kit.pre Idealize.ShloMosaic.emb₁ defs₀ vr m ρ main (fun _ => Pipeline.chain ([hostOps1].map StableHlo.seq))
    (fun c => by rw [RDat.familyOf_self]; exact (body_obligation m vr c).toRRel)
    kit.block_pos kit.arr_whole kit.stage_whole (fun c t => by rw [RDat.familyOf_self]; rfl)
    (G := fun _ => iprop(emp))
    (u₀ := initOf (Pipeline.cells (Pipeline.pin pcfgs a) (kit.cellOf_inj a)) (Pipeline.launchToks (Pipeline.pin pcfgs a) (kit.cellOf_inj a)))
    (V := V m) (hmain := hmain m vr) (hpf := fun _ k => k.elim0)
    (X := fun c => iprop(∃ r, prngReg c r)) (Y := fun c => iprop(∃ r, prngReg c r))
    (Z := fun c => others c (V m c)) (Z' := fun c => iprop(∃ A, ⌜Left m c A⌝ ∗ others c (final m c A)))
    (QY := fun c s => ∃ A, Left m c A ∧ ∀ b ∈ Pipeline.restRefsP sig Pipeline.Prefetch.none spec0, s.mem ((c.tc : Thread nD τ).loc b) = final m c A b)
    (hu₀ := ?_) (hsplit := ?_) (hX := ?_) (hin := ?_) (hout := ?_) (htail := ?_) (hY := ?_) (hQ := ?_)
  · iintro H
    imodintro
    isplitl [H]
    · iapply (show (ownU _ : sProp 𝕄) ⊢ BI.own (Idealize.ShloMosaic.emb₁ (initOf _ _)) from .rfl)
      iexact H
    · iapply (show (BI.emp : sProp 𝕄) ⊢ bigSep Finset.univ (fun _ : Dev nD => (BI.emp : sProp 𝕄)) from by rw [BI.bigSep_emp_const])
      iempintro
  · intro c
    rw [RDat.familyOf_self]
    exact (rdat m c).arrays_split_shared launch₀0.sharedIn launch₀0.arr_whole (fun _ _ => rfl) (V m c) _ fun _ => rfl
  · intro c
    iintro ⟨Ho, -, -, Hg, -⟩
    imodintro
    isplitl [Hg]; · iexists _; iexact Hg
    iexact Ho
  · intro c
    rw [RDat.familyOf_self]
    refine BIClass.entails_trans ?_ (enter c)
    unfold Pipeline.ΦA
    iintro ⟨Hg, -, Hs⟩
    isplitl [Hs]; · iexact Hs
    iexact Hg
  · intro c
    rw [RDat.familyOf_self]
    refine BIClass.entails_trans (leave c _ (Nat.le_refl _)) ?_
    rw [Pipeline.ownSems0_none]
    unfold Pipeline.ΦA
    iintro ⟨Hs, Hg⟩
    isplitl [Hg]; · iexact Hg
    isplitr; · iempintro
    iexact Hs
  · intro c K
    rw [RDat.familyOf_self]
    exact lines_run m c K
  · intro c s
    iintro ⟨-, ⟨%A, %hA, Ho⟩, Hs⟩
    unfold others Pipeline.unscopedRestP
    ihave H := (pointsTo_read_all (Pipeline.restRefsP sig Pipeline.Prefetch.none spec0) (fun b => (c.tc : Thread nD τ).loc b) (final m c A) s) $$ [Ho Hs]
    · isplitl [Ho] <;> iassumption
    icases H with ⟨%h, Hs⟩
    imodintro
    isplitr
    · ipureintro; exact ⟨A, hA, h⟩
    · iexact Hs
  · intro s h hz
    refine ⟨fun c => ⟨fun w => ?_, (h c).2.2⟩, hz⟩
    have hw := (h c).1 w
    rw [RDat.familyOf_self] at hw
    exact hw

end Cert.Heads

end
-- ==== Proof.HAlgebra.lean ====
/-
  The heads' call over the idealized floats, element by element: the second half of its result.
-/
module

public import proofs.«01_k».proof.Proof.HRun
public import proofs.«01_k».proof.Proof.VAlgebra
public import proofs.«01_k».proof.Proof.Gen.Reference3Ideal.Run
public import Idealize.ShloMosaic.Lib.Pointwise

@[expose] public section

set_option maxRecDepth 16384

noncomputable section

namespace Cert.Heads

open Idealize.ShloMosaic Idealize.ShloMosaic.TcCoe

/-! ## The kernel's payloads at an index -/

section Kernel

open Cert.Kernel3Ideal Cert.Kernel3Ideal.Gen

theorem centre_apply (v : Vec Ideal S256x256 .bf16) (mu rs : Vec Ideal S256x1 .f32) (g b : Vec Ideal S1x256 .f32) (p q : Fin 256) :
    k0_pay1181 v mu rs g b (ix2 p q) = (v (ix2 p q) - mu (ix2 p 0)) * rs (ix2 p 0) * g (ix2 0 q) + b (ix2 0 q) := by
  pointwise [k0_pay1181]

theorem spatial_low (w : FVec Ideal S128x128 .bf16) (b : FVec Ideal S128x1 .f32) (v : FVec Ideal S256x256 .bf16) (p q : Fin 256) (hp : p.val < 128) :
    k0_pay1186 w b v (ix2 p q) = (∑ k : Fin 128, w (ix2 ⟨p.val, hp⟩ k) * v (ix2 ⟨k.val, by omega⟩ q)) + b (ix2 ⟨p.val, hp⟩ 0) := by
  pointwise [k0_pay1186]
  rw [dif_pos hp]

theorem spatial_high (w : FVec Ideal S128x128 .bf16) (b : FVec Ideal S128x1 .f32) (v : FVec Ideal S256x256 .bf16) (p q : Fin 256) (hp : 128 ≤ p.val) :
    k0_pay1186 w b v (ix2 p q) = (∑ k : Fin 128, w (ix2 ⟨p.val - 128, by omega⟩ k) * v (ix2 ⟨128 + k.val, by omega⟩ q)) + b (ix2 ⟨p.val - 128, by omega⟩ 0) := by
  pointwise [k0_pay1186]
  rw [dif_neg (by omega)]

theorem strip_apply (a a' a'' b' : Vec Ideal S256x1024 .bf16) (w w' w'' v' : Vec Ideal S1x1024x512 .bf16) (p : Fin 256) (q : Fin 512) :
    k0_pay1191 (k0_pay1190 (k0_pay1183 a w a' w') a'' w'') b' v' (ix2 p q)
      = (∑ k : Fin 1024, a (ix2 p k) * w (ix3 0 k q)) + (∑ k : Fin 1024, a' (ix2 p k) * w' (ix3 0 k q))
        + (∑ k : Fin 1024, a'' (ix2 p k) * w'' (ix3 0 k q)) + ∑ k : Fin 1024, b' (ix2 p k) * v' (ix3 0 k q) := by
  pointwise [k0_pay1191, k0_pay1190, k0_pay1183]

/-- The logistic gate of a value, by the hyperbolic tangent of its half. -/
def gateT (z : EReal) : EReal :=
  Ideal.ofBits .f32 0x3F000000#32 * z + Ideal.ofBits .f32 0x3F000000#32 * z * Ideal.tanh (Ideal.ofBits .f32 0x3F000000#32 * z)

theorem gate_apply (s : FVec Ideal S256x256 .f32) (u : FVec Ideal S256x512 .f32) (p q : Fin 256) :
    k0_pay1555 s u (ix3 0 p q) = Cert.VProj.gel (u (ix2 p ⟨q.val, by omega⟩)) * s (ix2 p q) * gateT (u (ix2 p ⟨256 + q.val, by omega⟩)) := by
  unfold Cert.VProj.gel gateT
  pointwise [k0_pay1555]
  rfl

/-- Whether place `q` is in a chunk no later than place `p`'s. -/
def seen (p q : Fin 128) : BitVec 1 := IntOp.cmpi .sle (BitVec.ofNat 32 (q.val / 64)) (BitVec.ofNat 32 (p.val / 64))

theorem row_chunk : ∀ p : Fin 128, k0_pay10 (ix2 p 0) = BitVec.ofNat 32 (p.val / 64) := by decide +kernel

theorem col_chunk : ∀ q : Fin 128, (Scalar.select (IntOp.andi
      (IntOp.cmpi CmpIPredicate.ne (k0_pay12 (ix2 0 q)) (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 q.val) 64#32) 0#32))
    (IntOp.subi (k0_pay11 (ix2 0 q)) 1#32) (k0_pay11 (ix2 0 q)) : BitVec 32) = BitVec.ofNat 32 (q.val / 64) := by decide +kernel

theorem mask_apply (x : Vec Ideal S1x128x128 .f32) (p q : Fin 128) :
    k0_pay13 k0_pay10 (iota .tc S128x128 32 [1] iota_S128x128_d1_w32) 64#32 k0_pay11 k0_pay12 (Scalar.cmpi .sgt 64#32 0#32) x (ix2 p q)
      = Scalar.select (seen p q) (x (ix3 0 p q)) 0 := by
  pointwise [k0_pay13]
  exact congrArg₂ (fun a b => Scalar.select (IntOp.cmpi .sle a b) (x (ix3 0 p q)) 0) (col_chunk q) (row_chunk p)

theorem column_apply (x : Vec Ideal S1x128x1 .f32) (p : Fin 128) : k0_pay14 x (ix2 p 0) = x (ix3 0 p 0) := by
  pointwise [k0_pay14]

/-! ## A chunk of the result -/

variable (x2 : Vec Ideal S1024x4096 .bf16) (x4 : Vec Ideal S1x4096x512 .bf16) (x5 : Vec Ideal S1024x256 .bf16) (x6 x7 : Vec Ideal S1024x128 .f32)
  (x15 x16 : Vec Ideal S1x256 .f32) (x17 : Vec Ideal S1x128x128 .f32) (x18 : Vec Ideal S1x128x1 .f32)

/-- The normalised operand at row `r` of the block. -/
def vnAt (r : Fin 1024) (q : Fin 256) : EReal :=
  (x5 (ix2 r q) - x6 (ix2 r 0)) * x7 (ix2 r 0) * x15 (ix2 0 q) + x16 (ix2 0 q)

/-- Row `r` of the block against column `q` of the head's weights. -/
def prAt (r : Fin 1024) (q : Fin 512) : EReal := ∑ k : Fin 4096, x2 (ix2 r k) * x4 (ix3 0 k q)

/-- The spatial mix at row `r` of the block. -/
def mixAt (r : Fin 1024) (q : Fin 256) : EReal :=
  (∑ k : Fin 128, Scalar.select (seen ⟨r.val % 128, by omega⟩ k) (x17 (ix3 0 ⟨r.val % 128, by omega⟩ k)) 0
    * vnAt x5 x6 x7 x15 x16 ⟨128 * (r.val / 128) + k.val, by omega⟩ q) + x18 (ix3 0 ⟨r.val % 128, by omega⟩ 0)

/-- The result at row `r` of the block. -/
def gatedAt (r : Fin 1024) (q : Fin 256) : EReal :=
  Cert.VProj.gel (prAt x2 x4 r ⟨q.val, by omega⟩) * mixAt x5 x6 x7 x15 x16 x17 x18 r q * gateT (prAt x2 x4 r ⟨256 + q.val, by omega⟩)

variable (o : ℕ) (h : o ≤ 768)

theorem wide_apply (p : Fin 256) (q : Fin 512) :
    wide x2 x4 o h (ix2 p q) = ∑ k : Fin 4096, x2 (ix2 ⟨o + p.val, by omega⟩ k) * x4 (ix3 0 k q) := by
  unfold wide
  rw [strip_apply, Cert.VProj.sum_quarters]
  have ha : ∀ (b : ℕ) (hb : ∀ j, (![o, b] : Fin 2 → ℕ) j + S256x1024.size j ≤ S1024x4096.size j) (hb' : b + 1024 ≤ 4096) (k : Fin 1024),
      ld x2 (Rect.unit (s := S1024x4096) ![o, b] S256x1024.size hb).toLoadRect (ix2 p k) = x2 (ix2 ⟨o + p.val, by omega⟩ ⟨b + k.val, by omega⟩) := fun b hb hb' k => by
    refine congrArg x2 (funext fun a => Fin.ext ?_)
    fin_cases a
    · show o + 1 * p.val = o + p.val; omega
    · show b + 1 * k.val = b + k.val; omega
  have hw : ∀ (b : ℕ) (hb : ∀ j, (![0, b, 0] : Fin 3 → ℕ) j + S1x1024x512.size j ≤ S1x4096x512.size j) (hb' : b + 1024 ≤ 4096) (k : Fin 1024),
      ld x4 (Rect.unit (s := S1x4096x512) ![0, b, 0] S1x1024x512.size hb).toLoadRect (ix3 0 k q) = x4 (ix3 0 ⟨b + k.val, by omega⟩ q) := fun b hb hb' k => by
    refine congrArg x4 (funext fun a => Fin.ext ?_)
    fin_cases a
    · rfl
    · show b + 1 * k.val = b + k.val; omega
    · show 0 + 1 * q.val = q.val; omega
  simp only [ha 0 _ (by decide), ha 1024 _ (by decide), ha 2048 _ (by decide), ha 3072 _ (by decide), hw 0 _ (by decide), hw 1024 _ (by decide), hw 2048 _ (by decide), hw 3072 _ (by decide)]

theorem vnorm_apply (p q : Fin 256) :
    vnorm x5 x6 x7 x15 x16 o h (ix2 p q)
      = (x5 (ix2 ⟨o + p.val, by omega⟩ q) - x6 (ix2 ⟨o + p.val, by omega⟩ 0)) * x7 (ix2 ⟨o + p.val, by omega⟩ 0) * x15 (ix2 0 q) + x16 (ix2 0 q) := by
  unfold vnorm
  rw [centre_apply]
  have hc : ∀ (x : Vec Ideal S1024x128 .f32) (hb : ∀ j, (![o, 0] : Fin 2 → ℕ) j + S256x1.size j ≤ S1024x128.size j),
      ld x (Rect.unit (s := S1024x128) ![o, 0] S256x1.size hb).toLoadRect (ix2 p 0) = x (ix2 ⟨o + p.val, by omega⟩ 0) := fun x hb => by
    refine congrArg x (funext fun a => Fin.ext ?_)
    fin_cases a
    · show o + 1 * p.val = o + p.val; omega
    · rfl
  have hv : ∀ (hb : ∀ j, (![o, 0] : Fin 2 → ℕ) j + S256x256.size j ≤ S1024x256.size j),
      ld x5 (Rect.unit (s := S1024x256) ![o, 0] S256x256.size hb).toLoadRect (ix2 p q) = x5 (ix2 ⟨o + p.val, by omega⟩ q) := fun hb => by
    refine congrArg x5 (funext fun a => Fin.ext ?_)
    fin_cases a
    · show o + 1 * p.val = o + p.val; omega
    · show 0 + 1 * q.val = q.val; omega
  have hr : ∀ (x : Vec Ideal S1x256 .f32) (hb : ∀ j, (![0, 0] : Fin 2 → ℕ) j + S1x256.size j ≤ S1x256.size j),
      ld x (Rect.unit (s := S1x256) ![0, 0] S1x256.size hb).toLoadRect (ix2 0 q) = x (ix2 0 q) := fun x hb => by
    refine congrArg x (funext fun a => Fin.ext ?_)
    fin_cases a
    · rfl
    · show 0 + 1 * q.val = q.val; omega
  rw [hv, hc, hc, hr, hr]

theorem Wm_apply (p q : Fin 128) : Wm x17 (ix2 p q) = Scalar.select (seen p q) (x17 (ix3 0 p q)) 0 := by
  unfold Wm
  rw [mask_apply]
  refine congrArg (fun z => Scalar.select (seen p q) (x17 z) 0) (funext fun a => Fin.ext ?_)
  fin_cases a
  · rfl
  · show 0 + 1 * p.val = p.val; omega
  · show 0 + 1 * q.val = q.val; omega

theorem Wb_apply (p : Fin 128) : Wb x18 (ix2 p 0) = x18 (ix3 0 p 0) := by
  unfold Wb
  rw [column_apply]
  refine congrArg x18 (funext fun a => Fin.ext ?_)
  fin_cases a
  · rfl
  · show 0 + 1 * p.val = p.val; omega
  · rfl

theorem spatial_apply (ho : o % 128 = 0) (p q : Fin 256) :
    k0_pay1186 (Wm x17) (Wb x18) (vnorm x5 x6 x7 x15 x16 o h) (ix2 p q) = mixAt x5 x6 x7 x15 x16 x17 x18 ⟨o + p.val, by omega⟩ q := by
  unfold mixAt vnAt
  by_cases hp : p.val < 128
  · rw [spatial_low _ _ _ _ _ hp]
    have e : (⟨p.val, hp⟩ : Fin 128) = ⟨(o + p.val) % 128, by omega⟩ := Fin.ext (by show p.val = (o + p.val) % 128; omega)
    have e' : ∀ k : Fin 128, (⟨o + k.val, by omega⟩ : Fin 1024) = ⟨128 * ((o + p.val) / 128) + k.val, by omega⟩ := fun k =>
      Fin.ext (by show o + k.val = 128 * ((o + p.val) / 128) + k.val; omega)
    simp only [Wm_apply, Wb_apply, vnorm_apply, e, e']
  · rw [spatial_high _ _ _ _ _ (by omega)]
    have e : (⟨p.val - 128, by omega⟩ : Fin 128) = ⟨(o + p.val) % 128, by omega⟩ := Fin.ext (by show p.val - 128 = (o + p.val) % 128; omega)
    have e' : ∀ k : Fin 128, (⟨o + (128 + k.val), by omega⟩ : Fin 1024) = ⟨128 * ((o + p.val) / 128) + k.val, by omega⟩ := fun k =>
      Fin.ext (by show o + (128 + k.val) = 128 * ((o + p.val) / 128) + k.val; omega)
    simp only [Wm_apply, Wb_apply, vnorm_apply, e, e']

theorem gated_apply (ho : o % 128 = 0) (p q : Fin 256) :
    gated x2 x4 x5 x6 x7 x15 x16 x17 x18 o h (ix3 0 p q) = gatedAt x2 x4 x5 x6 x7 x15 x16 x17 x18 ⟨o + p.val, by omega⟩ q := by
  unfold gated gatedAt prAt
  rw [gate_apply, spatial_apply _ _ _ _ _ _ _ _ _ ho, wide_apply, wide_apply]

end Kernel

/-! ## The gate, two ways -/

/-- The gate as a quotient. -/
def gateQ (z : EReal) : EReal := Ideal.div z (1 + Ideal.exp (-z))

theorem half_eq : Ideal.ofBits .f32 0x3F000000#32 = ((1 / 2 : ℝ) : EReal) := by
  simp [Ideal.ofBits, Ideal.ieee, -EReal.coe_mul]; norm_num

theorem gateT_eq (x : ℝ) : gateT (x : EReal) = gateQ (x : EReal) := by
  unfold gateT gateQ
  rw [half_eq, ← EReal.coe_mul]
  show ((1 / 2 * x : ℝ) : EReal) + ((1 / 2 * x : ℝ) : EReal) * ((Real.tanh (1 / 2 * x) : ℝ) : EReal) = Ideal.div (x : EReal) (1 + ((Real.exp (-x) : ℝ) : EReal))
  have hp : 0 < 1 + Real.exp (-x) := by positivity
  have hy : (1 : EReal) + ((Real.exp (-x) : ℝ) : EReal) = ((1 + Real.exp (-x) : ℝ) : EReal) := by rw [EReal.coe_add, EReal.coe_one]
  rw [hy]
  unfold Ideal.div
  rw [if_neg (by exact_mod_cast hp.ne'), ← EReal.coe_inv, ← EReal.coe_mul, ← EReal.coe_mul, ← EReal.coe_add]
  congr 1
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add, add_neg_cancel, Real.exp_zero]
  have h3 : 0 < Real.exp (1 / 2 * x) := Real.exp_pos _
  have h4 : 0 < Real.exp (-(1 / 2 * x)) := Real.exp_pos _
  rw [Real.tanh_eq_sinh_div_cosh, Real.sinh_eq, Real.cosh_eq, h1]
  generalize Real.exp (1 / 2 * x) = e at *
  generalize Real.exp (-(1 / 2 * x)) = f at *
  have h5 : 1 + f * f ≠ 0 := by positivity
  have h6 : e + f ≠ 0 := by positivity
  have h7 : f = 1 / e := by field_simp; linarith
  subst h7
  field_simp
  ring

theorem masked (b : BitVec 1) (x : EReal) : x * FloatOps.uitofp (F := Ideal) .f32 b = Scalar.select b x 0 := by
  rcases BitVec.eq_zero_or_eq_one b with rfl | rfl
  · show x * (((0 : ℕ) : ℝ) : EReal) = 0
    simp
  · show x * (((1 : ℕ) : ℝ) : EReal) = x
    simp

/-! ## The reference at an index -/

section Reference

open Cert.Reference3Ideal Cert.Reference3Ideal.Gen

variable (a0 : FVec Ideal S8192x4096 .bf16) (a1 : FVec Ideal S4096x20480 .f32) (a2 : FVec Ideal S8192x4096 .bf16) (a3 a4 : FVec Ideal S8192 .f32)
  (a12 a13 : FVec Ideal S4096 .f32) (a14 : FVec Ideal S16x128x128 .f32) (a15 : FVec Ideal S16x128 .f32)

/-- The projection. -/
def proj : FVec Ideal S8192x20480 .f32 := Host.dotGeneral dot_S8192x4096_S4096x20480_S8192x20480_1_0_0_1_n_n none (extf .f32 a0 bitsLt_bf16_f32) a1

theorem proj_apply (s : Fin 8192) (d : Fin 20480) : proj a0 a1 (ix2 s d) = ∑ k : Fin 4096, a0 (ix2 s k) * a1 (ix2 k d) := by
  pointwise [proj]

/-- The normalised operand. -/
def vnR : FVec Ideal S8192x4096 .f32 :=
  addf (mulf (mulf (subf (extf .f32 a2 bitsLt_bf16_f32) (broadcastInDim S8192x4096 ![0, 1] bcast_S8192x1_S8192x4096_0_1 (broadcastInDim S8192x1 ![0] bcast_S8192_S8192x1_0 a3)))
    (broadcastInDim S8192x4096 ![0, 1] bcast_S8192x1_S8192x4096_0_1 (broadcastInDim S8192x1 ![0] bcast_S8192_S8192x1_0 a4)))
    (broadcastInDim S8192x4096 ![0, 1] bcast_S1x4096_S8192x4096_0_1 (broadcastInDim S1x4096 ![1] bcast_S4096_S1x4096_1 a12)))
    (broadcastInDim S8192x4096 ![0, 1] bcast_S1x4096_S8192x4096_0_1 (broadcastInDim S1x4096 ![1] bcast_S4096_S1x4096_1 a13))

theorem vnR_apply (s : Fin 8192) (d : Fin 4096) :
    vnR a2 a3 a4 a12 a13 (ix2 s d) = (a2 (ix2 s d) - a3 (ix1 s)) * a4 (ix1 s) * a12 (ix1 d) + a13 (ix1 d) := by
  pointwise [vnR]

/-- The places' chunks. -/
def chunks : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

theorem chunks_apply : ∀ p : Fin 128, chunks (ix1 p) = BitVec.ofNat 32 (p.val / 64) := by decide +kernel

/-- The masked spatial weights. -/
def wspM : FVec Ideal S16x128x128 .f32 :=
  mulf a14 (broadcastInDim S16x128x128 ![0, 1, 2] bcast_S1x128x128_S16x128x128_0_1_2 (broadcastInDim S1x128x128 ![1, 2] bcast_S128x128_S1x128x128_1_2
    (uitofp .f32 (cmpi .sle (broadcastInDim S128x128 ![0, 1] bcast_S1x128_S128x128_0_1 (broadcastInDim S1x128 ![1] bcast_S128_S1x128_1 chunks))
      (broadcastInDim S128x128 ![0, 1] bcast_S128x1_S128x128_0_1 (broadcastInDim S128x1 ![0] bcast_S128_S128x1_0 chunks))))))

theorem wspM_apply (g : Fin 16) (p q : Fin 128) : wspM a14 (ix3 g p q) = Scalar.select (seen p q) (a14 (ix3 g p q)) 0 := by
  rw [← masked]
  unfold seen
  rw [← chunks_apply p, ← chunks_apply q]
  pointwise [wspM]

/-- The spatial mix. -/
def spR : FVec Ideal S64x128x16x256 .f32 :=
  addf (transpose S64x128x16x256 [1, 3, 0, 2] (Host.dotGeneral dot_S64x128x16x256_S16x128x128_S16x64x256x128_1_2_03_1_2_0 none
      (shapeCast _ (vnR a2 a3 a4 a12 a13) shapeCasts_S8192x4096_S64x128x16x256) (wspM a14)) transposes_S16x64x256x128_S64x128x16x256_1_3_0_2)
    (broadcastInDim S64x128x16x256 ![0, 1, 2, 3] bcast_S1x128x16x1_S64x128x16x256_0_1_2_3 (broadcastInDim S1x128x16x1 ![1, 2] bcast_S128x16_S1x128x16x1_1_2
      (transpose S128x16 [1, 0] a15 transposes_S16x128_S128x16_1_0)))

theorem spR_apply (n : Fin 64) (i : Fin 128) (g : Fin 16) (d : Fin 256) :
    spR a2 a3 a4 a12 a13 a14 a15 (ix4 n i g d)
      = (∑ k : Fin 128, vnR a2 a3 a4 a12 a13 (ix2 ⟨n.val * 128 + k.val, by omega⟩ ⟨g.val * 256 + d.val, by omega⟩) * wspM a14 (ix3 g i k)) + a15 (ix2 g i) := by
  pointwise [spR]

/-- The result, unrounded. -/
def outR : FVec Ideal S8192x4096 .f32 :=
  mulf (mulf (mulf (mulf (broadcastInDim S8192x4096 ![] bcast_S_S8192x4096 (constant S_ .f32 0x3F000000#32)) (extractStridedSlice S8192x4096 ![0, 8192] (proj a0 a1) slices_S8192x20480_S8192x4096_0_8192))
      (addf (broadcastInDim S8192x4096 ![] bcast_S_S8192x4096 (constant S_ .f32 0x3F800000#32)) (Host.erf (mulf (extractStridedSlice S8192x4096 ![0, 8192] (proj a0 a1) slices_S8192x20480_S8192x4096_0_8192)
        (broadcastInDim S8192x4096 ![] bcast_S_S8192x4096 (constant S_ .f32 0x3F3504F3#32))))))
      (shapeCast _ (spR a2 a3 a4 a12 a13 a14 a15) shapeCasts_S64x128x16x256_S8192x4096))
    (Host.divf (extractStridedSlice S8192x4096 ![0, 16384] (proj a0 a1) slices_S8192x20480_S8192x4096_0_16384)
      (addf (broadcastInDim S8192x4096 ![] bcast_S_S8192x4096 (constant S_ .f32 0x3F800000#32)) (Host.exp (Host.negf (extractStridedSlice S8192x4096 ![0, 16384] (proj a0 a1) slices_S8192x20480_S8192x4096_0_16384)))))

theorem outR_apply (s : Fin 8192) (d : Fin 4096) :
    outR a0 a1 a2 a3 a4 a12 a13 a14 a15 (ix2 s d)
      = Cert.VProj.gel (proj a0 a1 (ix2 s ⟨8192 + d.val, by omega⟩))
        * spR a2 a3 a4 a12 a13 a14 a15 (ix4 ⟨s.val / 128, by omega⟩ ⟨s.val % 128, by omega⟩ ⟨d.val / 256, by omega⟩ ⟨d.val % 256, by omega⟩)
        * gateQ (proj a0 a1 (ix2 s ⟨16384 + d.val, by omega⟩)) := by
  unfold Cert.VProj.gel gateQ
  pointwise [outR]

theorem out_eq (m : (ℓ : Loc nD τ sig) → Buf (Elt Ideal) ℓ) (c : Dev nD) :
    Value.res_main_v51 m c = truncf .bf16 (outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg12)) (m ((c.tc : Thread nD τ).loc main_arg13))
      (m ((c.tc : Thread nD τ).loc main_arg14)) (m ((c.tc : Thread nD τ).loc main_arg15))) bitsLt_bf16_f32 := rfl

end Reference

end Cert.Heads

end
-- ==== Proof.HValue.lean ====
/-
  The values of the heads' call over the idealized floats: the second half of the result a run leaves is, element by
  element, what the reference's host operations compute from the same arguments, where the gate's operand is finite.
-/
module

public import proofs.«01_k».proof.Proof.HLaunch
public import proofs.«01_k».proof.Proof.HAlgebra
public import proofs.«01_k».proof.Pre_gate_finite
public import Idealize.ShloMosaic.Lib.Pipeline.ValueKit
public import Idealize.ShloMosaic.Lib.Claim

@[expose] public section

set_option maxRecDepth 16384

noncomputable section

namespace Cert.Heads

open Cert.Kernel3Ideal Cert.Kernel3Ideal.Gen
open Idealize.ShloMosaic Idealize.ShloMosaic.TcCoe Idealize.ShloMosaic.Tactic
open Idealize.ShloMosaic.Pipeline (Dat RDat Cfg Window)

/-! ## The buffers the program only reads -/

section Kept

variable {F : FTy → Type} [FloatOps F] (m : (ℓ : Loc nD τ sig) → Buf (Elt F) ℓ)

/-- A buffer that no window stages and no line writes is as the region found it. -/
theorem final_keep (c : Dev nD) (A : Arrs F c) (b : Ref sig .tc) (hw : ∀ w, Pipeline.arrRef spec0 w ≠ b) (h4 : b ≠ main_v24) (h5 : b ≠ main_v25) :
    final m c A b = V m c b := by
  unfold final
  rw [StableHlo.after_of_forall_not_mem (b := Proc.devRef .tc b) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne h4, StableHlo.devRef_ne_of_ne h5⟩)),
    Pipeline.withArrays_of_ne _ c (V0 m c) _ b hw]

/-- An array a window only reads is as the region found it. -/
theorem arr_keep {r : PUnit × MemSt nD τ sig (Elt F)} (h : Post m r) (c : Dev nD) (w : Fin cfg0.W) (hin : (cfg0.win w).isOut = false) :
    r.2.mem ((cfg0.spec w).arr.view.loc (c.tc : Thread nD τ)) = V m c (Pipeline.arrRef spec0 w) := by
  have hA := (h c).1 w
  rw [RDat.ArrAt_in _ w hin] at hA
  exact hA

theorem rest_keep {r : PUnit × MemSt nD τ sig (Elt F)} (h : Post m r) (c : Dev nD) (b : Ref sig .tc)
    (hb : b ∈ Pipeline.restRefsP sig Pipeline.Prefetch.none spec0) (hw : ∀ w, Pipeline.arrRef spec0 w ≠ b) (h4 : b ≠ main_v24) (h5 : b ≠ main_v25) :
    r.2.mem ((c.tc : Thread nD τ).loc b) = V m c b := by
  obtain ⟨A, -, hr⟩ := (h c).2
  exact (hr b hb).trans (final_keep m c A b hw h4 h5)

/-- The arguments after a run. -/
theorem args_kept {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(arr_keep m h c 0 rfl).trans (V_main_arg0 m c),
    (rest_keep m h c main_arg1 (Pipeline.mem_restRefs_of main_arg1 (by decide) (by decide)) (by decide) (by decide) (by decide)).trans (V_main_arg1 m c),
    (arr_keep m h c 3 rfl).trans (V_main_arg2 m c),
    (rest_keep m h c main_arg3 (Pipeline.mem_restRefs_of main_arg3 (by decide) (by decide)) (by decide) (by decide) (by decide)).trans (V_main_arg3 m c),
    (rest_keep m h c main_arg4 (Pipeline.mem_restRefs_of main_arg4 (by decide) (by decide)) (by decide) (by decide) (by decide)).trans (V_main_arg4 m c),
    (arr_keep m h c 6 rfl).trans (V_main_arg5 m c),
    (rest_keep m h c main_arg6 (Pipeline.mem_restRefs_of main_arg6 (by decide) (by decide)) (by decide) (by decide) (by decide)).trans (V_main_arg6 m c),
    (arr_keep m h c 8 rfl).trans (V_main_arg7 m c),
    (rest_keep m h c main_arg8 (Pipeline.mem_restRefs_of main_arg8 (by decide) (by decide)) (by decide) (by decide) (by decide)).trans (V_main_arg8 m c),
    (arr_keep m h c 10 rfl).trans (V_main_arg9 m c),
    (rest_keep m h c main_arg10 (Pipeline.mem_restRefs_of main_arg10 (by decide) (by decide)) (by decide) (by decide) (by decide)).trans (V_main_arg10 m c),
    (rest_keep m h c main_arg11 (Pipeline.mem_restRefs_of main_arg11 (by decide) (by decide)) (by decide) (by decide) (by decide)).trans (V_main_arg11 m c),
    (rest_keep m h c main_arg12 (Pipeline.mem_restRefs_of main_arg12 (by decide) (by decide)) (by decide) (by decide) (by decide)).trans (V_main_arg12 m c),
    (rest_keep m h c main_arg13 (Pipeline.mem_restRefs_of main_arg13 (by decide) (by decide)) (by decide) (by decide) (by decide)).trans (V_main_arg13 m c),
    (arr_keep m h c 15 rfl).trans (V_main_arg14 m c),
    (rest_keep m h c main_arg15 (Pipeline.mem_restRefs_of main_arg15 (by decide) (by decide)) (by decide) (by decide) (by decide)).trans (V_main_arg15 m c),
    (arr_keep m h c 17 rfl).trans (V_main_arg16 m c)⟩

end Kept

/-! ## What the host lays out -/

/-- The weights regrouped by head. -/
def headsOf (w : FVec Ideal S4096x20480 .f32) : FVec Ideal S16x4096x1024 .bf16 :=
  let v : FVec Ideal S4096x5x16x256 .bf16 := shapeCast _ (truncf .bf16 w bitsLt_bf16_f32 : FVec Ideal S4096x20480 .bf16) shapeCasts_S4096x20480_S4096x5x16x256
  transpose S16x4096x1024 [1, 0, 2] (concatenate S4096x16x1024 2 [
      ⟨S4096x16x256, (shapeCast _ (extractStridedSlice S4096x1x16x256 ![0, 0, 0, 0] v slices_S4096x5x16x256_S4096x1x16x256_0_0_0_0) shapeCasts_S4096x1x16x256_S4096x16x256 : FVec Ideal S4096x16x256 .bf16)⟩,
      ⟨S4096x16x256, (shapeCast _ (extractStridedSlice S4096x1x16x256 ![0, 1, 0, 0] v slices_S4096x5x16x256_S4096x1x16x256_0_1_0_0) shapeCasts_S4096x1x16x256_S4096x16x256 : FVec Ideal S4096x16x256 .bf16)⟩,
      ⟨S4096x16x256, (shapeCast _ (extractStridedSlice S4096x1x16x256 ![0, 2, 0, 0] v slices_S4096x5x16x256_S4096x1x16x256_0_2_0_0) shapeCasts_S4096x1x16x256_S4096x16x256 : FVec Ideal S4096x16x256 .bf16)⟩,
      ⟨S4096x16x256, (shapeCast _ (extractStridedSlice S4096x1x16x256 ![0, 4, 0, 0] v slices_S4096x5x16x256_S4096x1x16x256_0_4_0_0) shapeCasts_S4096x1x16x256_S4096x16x256 : FVec Ideal S4096x16x256 .bf16)⟩]
    concatenates_S4096x16x256_S4096x16x256_S4096x16x256_S4096x16x256_S4096x16x1024_d2) transposes_S4096x16x1024_S16x4096x1024_1_0_2

theorem heads_u (w : FVec Ideal S4096x20480 .f32) (j : Fin 16) (k : Fin 4096) (q : Fin 256) :
    headsOf w (ix3 j k ⟨512 + q.val, by omega⟩) = w (ix2 k ⟨8192 + (256 * j.val + q.val), by omega⟩) := by
  pointwise [headsOf]
  rw [dif_neg (by omega), dif_neg (by omega), dif_pos (by omega)]
  refine congrArg w (congrArg (ix2 k) (Fin.ext ?_))
  show 8192 + j.val * 256 + (512 + q.val - 256 - 256) = 8192 + (256 * j.val + q.val)
  omega

theorem heads_g (w : FVec Ideal S4096x20480 .f32) (j : Fin 16) (k : Fin 4096) (q : Fin 256) :
    headsOf w (ix3 j k ⟨768 + q.val, by omega⟩) = w (ix2 k ⟨16384 + (256 * j.val + q.val), by omega⟩) := by
  pointwise [headsOf]
  rw [dif_neg (by omega), dif_neg (by omega), dif_neg (by omega)]
  refine congrArg w (congrArg (ix2 k) (Fin.ext ?_))
  show 16384 + j.val * 256 + (768 + q.val - 256 - 256 - 256) = 16384 + (256 * j.val + q.val)
  omega

theorem lay_col (x : (⟨S8192, .f32⟩ : BufTy).Contents (Elt Ideal)) (s : Fin 8192) (q : Fin 128) :
    (broadcastInDim S8192x128 ![0, 1] bcast_S8192x1_S8192x128_0_1 (broadcastInDim S8192x1 ![0] bcast_S8192_S8192x1_0 x) : FVec Ideal S8192x128 .f32) (ix2 s q) = x (ix1 s) := by
  pointwise

theorem lay_row (x : (⟨S4096, .f32⟩ : BufTy).Contents (Elt Ideal)) (d : Fin 4096) :
    (broadcastInDim S1x4096 ![1] bcast_S4096_S1x4096_1 x : FVec Ideal S1x4096 .f32) (ix2 0 d) = x (ix1 d) := by
  pointwise

theorem lay_bias (x : (⟨S16x128, .f32⟩ : BufTy).Contents (Elt Ideal)) (j : Fin 16) (p : Fin 128) :
    (broadcastInDim S16x128x1 ![0, 1] bcast_S16x128_S16x128x1_0_1 x : FVec Ideal S16x128x1 .f32) (ix3 j p 0) = x (ix2 j p) := by
  pointwise

/-! ## The blocks' places -/

theorem place0 : ∀ t : Fin grid0.N, win0_0.index t = ![t.val / 16, 0] := by decide +kernel
theorem place2 : ∀ t : Fin grid0.N, win0_2.index t = ![t.val % 16, 0, 1] := by decide +kernel
theorem place3 : ∀ t : Fin grid0.N, win0_3.index t = ![t.val / 16, t.val % 16] := by decide +kernel
theorem place4 : ∀ t : Fin grid0.N, win0_4.index t = ![t.val / 16, 0] := by decide +kernel
theorem place5 : ∀ t : Fin grid0.N, win0_5.index t = ![t.val / 16, 0] := by decide +kernel
theorem place13 : ∀ t : Fin grid0.N, win0_13.index t = ![0, t.val % 16] := by decide +kernel
theorem place14 : ∀ t : Fin grid0.N, win0_14.index t = ![0, t.val % 16] := by decide +kernel
theorem place15 : ∀ t : Fin grid0.N, win0_15.index t = ![t.val % 16, 0, 0] := by decide +kernel
theorem place16 : ∀ t : Fin grid0.N, win0_16.index t = ![t.val % 16, 0, 0] := by decide +kernel
theorem place18 : ∀ t : Fin grid0.N, win0_18.index t = ![0, t.val / 16, t.val % 16] := by decide +kernel

variable (m : (ℓ : Loc nD τ sig) → Buf (Elt Ideal) ℓ)

/-- The arguments the result reads. -/
abbrev hA (c : Dev nD) : FVec Ideal S8192x4096 .bf16 := m ((c : Thread nD τ).loc main_arg0)
abbrev wA (c : Dev nD) : FVec Ideal S4096x20480 .f32 := m ((c : Thread nD τ).loc main_arg1)
abbrev vA (c : Dev nD) : FVec Ideal S8192x4096 .bf16 := m ((c : Thread nD τ).loc main_arg2)
abbrev muA (c : Dev nD) : FVec Ideal S8192 .f32 := m ((c : Thread nD τ).loc main_arg3)
abbrev rsA (c : Dev nD) : FVec Ideal S8192 .f32 := m ((c : Thread nD τ).loc main_arg4)
abbrev lgA (c : Dev nD) : FVec Ideal S4096 .f32 := m ((c : Thread nD τ).loc main_arg12)
abbrev lbA (c : Dev nD) : FVec Ideal S4096 .f32 := m ((c : Thread nD τ).loc main_arg13)
abbrev spA (c : Dev nD) : FVec Ideal S16x128x128 .f32 := m ((c : Thread nD τ).loc main_arg14)
abbrev sbA (c : Dev nD) : FVec Ideal S16x128 .f32 := m ((c : Thread nD τ).loc main_arg15)

theorem lt128 (t : Fin cfg0.N) : t.val < 128 := lt_of_lt_of_eq t.isLt N_0

/-- The result's row and column, of a point's and a block's. -/
def rowOf (t : Fin cfg0.N) (r : Fin 1024) : Fin 8192 := ⟨1024 * (t.val / 16) + r.val, by have := lt128 t; omega⟩
def headOf (t : Fin cfg0.N) : Fin 16 := ⟨t.val % 16, by omega⟩
def colOf (t : Fin cfg0.N) (q : Fin 256) : Fin 4096 := ⟨256 * (t.val % 16) + q.val, by omega⟩

theorem h_block (c : Dev nD) (t : Fin cfg0.N) (r : Fin 1024) (k : Fin 4096) :
    (iblk m c 0 t : Vec Ideal S1024x4096 .bf16) (ix2 r k) = hA m c (ix2 (rowOf t r) k) := by
  show (V m c main_arg0 : FVec Ideal S8192x4096 .bf16) _ = _
  rw [V_main_arg0]
  refine congrArg (hA m c) (funext fun a => Fin.ext ?_)
  fin_cases a
  · show (win0_0.index t 0) * 1024 + 1 * r.val = 1024 * (t.val / 16) + r.val
    rw [place0]; show t.val / 16 * 1024 + 1 * r.val = _; omega
  · show (win0_0.index t 1) * 4096 + 1 * k.val = k.val
    rw [place0]; show 0 * 4096 + 1 * k.val = k.val; omega

theorem w_block (c : Dev nD) (t : Fin cfg0.N) (k : Fin 4096) (q : Fin 512) :
    (iblk m c 2 t : Vec Ideal S1x4096x512 .bf16) (ix3 0 k q) = headsOf (wA m c) (ix3 (headOf t) k ⟨512 + q.val, by omega⟩) := by
  refine Eq.trans (?_ : _ = (V m c main_v11 : FVec Ideal S16x4096x1024 .bf16) (ix3 (headOf t) k ⟨512 + q.val, by omega⟩)) ?_
  · refine congrArg (V m c main_v11 : FVec Ideal S16x4096x1024 .bf16) (funext fun a => Fin.ext ?_)
    fin_cases a
    · show (win0_2.index t 0) * 1 + 1 * 0 = t.val % 16
      rw [place2]; show t.val % 16 * 1 + 1 * 0 = _; omega
    · show (win0_2.index t 1) * 4096 + 1 * k.val = k.val
      rw [place2]; show 0 * 4096 + 1 * k.val = k.val; omega
    · show (win0_2.index t 2) * 512 + 1 * q.val = 512 + q.val
      rw [place2]; show 1 * 512 + 1 * q.val = _; omega
  · refine congrFun (?_ : (V m c main_v11 : FVec Ideal S16x4096x1024 .bf16) = _) _
    entry_read; rfl

theorem v_block (c : Dev nD) (t : Fin cfg0.N) (r : Fin 1024) (q : Fin 256) :
    (iblk m c 3 t : Vec Ideal S1024x256 .bf16) (ix2 r q) = vA m c (ix2 (rowOf t r) (colOf t q)) := by
  show (V m c main_arg2 : FVec Ideal S8192x4096 .bf16) _ = _
  rw [V_main_arg2]
  refine congrArg (vA m c) (funext fun a => Fin.ext ?_)
  fin_cases a
  · show (win0_3.index t 0) * 1024 + 1 * r.val = 1024 * (t.val / 16) + r.val
    rw [place3]; show t.val / 16 * 1024 + 1 * r.val = _; omega
  · show (win0_3.index t 1) * 256 + 1 * q.val = 256 * (t.val % 16) + q.val
    rw [place3]; show t.val % 16 * 256 + 1 * q.val = _; omega

theorem mu_block (c : Dev nD) (t : Fin cfg0.N) (r : Fin 1024) :
    (iblk m c 4 t : Vec Ideal S1024x128 .f32) (ix2 r 0) = muA m c (ix1 (rowOf t r)) := by
  refine Eq.trans (?_ : _ = (V m c main_v13 : FVec Ideal S8192x128 .f32) (ix2 (rowOf t r) 0)) ?_
  · refine congrArg (V m c main_v13 : FVec Ideal S8192x128 .f32) (funext fun a => Fin.ext ?_)
    fin_cases a
    · show (win0_4.index t 0) * 1024 + 1 * r.val = 1024 * (t.val / 16) + r.val
      rw [place4]; show t.val / 16 * 1024 + 1 * r.val = _; omega
    · show (win0_4.index t 1) * 128 + 1 * 0 = 0
      rw [place4]; rfl
  · refine (congrFun (?_ : (V m c main_v13 : FVec Ideal S8192x128 .f32) = _) _).trans (lay_col (muA m c) _ 0)
    entry_read; rfl

theorem rs_block (c : Dev nD) (t : Fin cfg0.N) (r : Fin 1024) :
    (iblk m c 5 t : Vec Ideal S1024x128 .f32) (ix2 r 0) = rsA m c (ix1 (rowOf t r)) := by
  refine Eq.trans (?_ : _ = (V m c main_v15 : FVec Ideal S8192x128 .f32) (ix2 (rowOf t r) 0)) ?_
  · refine congrArg (V m c main_v15 : FVec Ideal S8192x128 .f32) (funext fun a => Fin.ext ?_)
    fin_cases a
    · show (win0_5.index t 0) * 1024 + 1 * r.val = 1024 * (t.val / 16) + r.val
      rw [place5]; show t.val / 16 * 1024 + 1 * r.val = _; omega
    · show (win0_5.index t 1) * 128 + 1 * 0 = 0
      rw [place5]; rfl
  · refine (congrFun (?_ : (V m c main_v15 : FVec Ideal S8192x128 .f32) = _) _).trans (lay_col (rsA m c) _ 0)
    entry_read; rfl

theorem lg_block (c : Dev nD) (t : Fin cfg0.N) (q : Fin 256) :
    (iblk m c 13 t : Vec Ideal S1x256 .f32) (ix2 0 q) = lgA m c (ix1 (colOf t q)) := by
  refine Eq.trans (?_ : _ = (V m c main_v20 : FVec Ideal S1x4096 .f32) (ix2 0 (colOf t q))) ?_
  · refine congrArg (V m c main_v20 : FVec Ideal S1x4096 .f32) (funext fun a => Fin.ext ?_)
    fin_cases a
    · show (win0_13.index t 0) * 1 + 1 * 0 = 0
      rw [place13]; rfl
    · show (win0_13.index t 1) * 256 + 1 * q.val = 256 * (t.val % 16) + q.val
      rw [place13]; show t.val % 16 * 256 + 1 * q.val = _; omega
  · refine (congrFun (?_ : (V m c main_v20 : FVec Ideal S1x4096 .f32) = _) _).trans (lay_row (lgA m c) _)
    entry_read; rfl

theorem lb_block (c : Dev nD) (t : Fin cfg0.N) (q : Fin 256) :
    (iblk m c 14 t : Vec Ideal S1x256 .f32) (ix2 0 q) = lbA m c (ix1 (colOf t q)) := by
  refine Eq.trans (?_ : _ = (V m c main_v21 : FVec Ideal S1x4096 .f32) (ix2 0 (colOf t q))) ?_
  · refine congrArg (V m c main_v21 : FVec Ideal S1x4096 .f32) (funext fun a => Fin.ext ?_)
    fin_cases a
    · show (win0_14.index t 0) * 1 + 1 * 0 = 0
      rw [place14]; rfl
    · show (win0_14.index t 1) * 256 + 1 * q.val = 256 * (t.val % 16) + q.val
      rw [place14]; show t.val % 16 * 256 + 1 * q.val = _; omega
  · refine (congrFun (?_ : (V m c main_v21 : FVec Ideal S1x4096 .f32) = _) _).trans (lay_row (lbA m c) _)
    entry_read; rfl

theorem sp_block (c : Dev nD) (t : Fin cfg0.N) (p k : Fin 128) :
    (iblk m c 15 t : Vec Ideal S1x128x128 .f32) (ix3 0 p k) = spA m c (ix3 (headOf t) p k) := by
  show (V m c main_arg14 : FVec Ideal S16x128x128 .f32) _ = _
  rw [V_main_arg14]
  refine congrArg (spA m c) (funext fun a => Fin.ext ?_)
  fin_cases a
  · show (win0_15.index t 0) * 1 + 1 * 0 = t.val % 16
    rw [place15]; show t.val % 16 * 1 + 1 * 0 = _; omega
  · show (win0_15.index t 1) * 128 + 1 * p.val = p.val
    rw [place15]; show 0 * 128 + 1 * p.val = _; omega
  · show (win0_15.index t 2) * 128 + 1 * k.val = k.val
    rw [place15]; show 0 * 128 + 1 * k.val = _; omega

theorem sb_block (c : Dev nD) (t : Fin cfg0.N) (p : Fin 128) :
    (iblk m c 16 t : Vec Ideal S1x128x1 .f32) (ix3 0 p 0) = sbA m c (ix2 (headOf t) p) := by
  refine Eq.trans (?_ : _ = (V m c main_v22 : FVec Ideal S16x128x1 .f32) (ix3 (headOf t) p 0)) ?_
  · refine congrArg (V m c main_v22 : FVec Ideal S16x128x1 .f32) (funext fun a => Fin.ext ?_)
    fin_cases a
    · show (win0_16.index t 0) * 1 + 1 * 0 = t.val % 16
      rw [place16]; show t.val % 16 * 1 + 1 * 0 = _; omega
    · show (win0_16.index t 1) * 128 + 1 * p.val = p.val
      rw [place16]; show 0 * 128 + 1 * p.val = _; omega
    · show (win0_16.index t 2) * 1 + 1 * 0 = 0
      rw [place16]; rfl
  · refine (congrFun (?_ : (V m c main_v22 : FVec Ideal S16x128x1 .f32) = _) _).trans (lay_bias (sbA m c) _ p)
    entry_read; rfl

/-! ## A chunk against the reference -/

/-- The reference's result, of the arguments. -/
def outA (c : Dev nD) : FVec Ideal S8192x4096 .bf16 :=
  truncf .bf16 (outR (hA m c) (wA m c) (vA m c) (muA m c) (rsA m c) (lgA m c) (lbA m c) (spA m c) (sbA m c)) bitsLt_bf16_f32

/-- Every entry of the gate's operands is a real number. -/
def GateFin (c : Dev nD) : Prop :=
  (∀ s k, ∃ x : ℝ, hA m c (ix2 s k) = (x : EReal)) ∧ ∀ (k d : Fin 4096), ∃ x : ℝ, wA m c (ix2 k ⟨16384 + d.val, by omega⟩) = (x : EReal)

theorem proj_real {c : Dev nD} (h : GateFin m c) (s : Fin 8192) (d : Fin 4096) :
    ∃ z : ℝ, proj (hA m c) (wA m c) (ix2 s ⟨16384 + d.val, by omega⟩) = (z : EReal) := by
  rw [proj_apply]
  refine Finset.sum_induction _ (fun e : EReal => ∃ z : ℝ, e = z) ?_ ⟨0, rfl⟩ fun k _ => ?_
  · rintro _ _ ⟨x, rfl⟩ ⟨y, rfl⟩
    exact ⟨x + y, (EReal.coe_add x y).symm⟩
  · obtain ⟨x, hx⟩ := h.1 s k
    obtain ⟨y, hy⟩ := h.2 k d
    rw [hx, hy]
    exact ⟨x * y, (EReal.coe_mul x y).symm⟩

theorem pr_u (c : Dev nD) (t : Fin cfg0.N) (r : Fin 1024) (q : Fin 256) :
    prAt (iblk m c 0 t) (iblk m c 2 t) r ⟨q.val, by omega⟩ = proj (hA m c) (wA m c) (ix2 (rowOf t r) ⟨8192 + (colOf t q).val, by omega⟩) := by
  rw [proj_apply]
  unfold prAt
  refine Finset.sum_congr rfl fun k _ => ?_
  rw [h_block, w_block]
  exact congrArg _ (heads_u (wA m c) (headOf t) k q)

theorem pr_g (c : Dev nD) (t : Fin cfg0.N) (r : Fin 1024) (q : Fin 256) :
    prAt (iblk m c 0 t) (iblk m c 2 t) r ⟨256 + q.val, by omega⟩ = proj (hA m c) (wA m c) (ix2 (rowOf t r) ⟨16384 + (colOf t q).val, by omega⟩) := by
  rw [proj_apply]
  unfold prAt
  refine Finset.sum_congr rfl fun k _ => ?_
  rw [h_block, w_block]
  refine congrArg _ (Eq.trans (congrArg (headsOf (wA m c)) (congrArg (ix3 (headOf t) k) (Fin.ext ?_))) (heads_g (wA m c) (headOf t) k q))
  show 512 + (256 + q.val) = 768 + q.val; omega

theorem mix_eq (c : Dev nD) (t : Fin cfg0.N) (r : Fin 1024) (q : Fin 256) :
    mixAt (iblk m c 3 t) (iblk m c 4 t) (iblk m c 5 t) (iblk m c 13 t) (iblk m c 14 t) (iblk m c 15 t) (iblk m c 16 t) r q
      = spR (vA m c) (muA m c) (rsA m c) (lgA m c) (lbA m c) (spA m c) (sbA m c)
          (ix4 ⟨(rowOf t r).val / 128, by omega⟩ ⟨(rowOf t r).val % 128, by omega⟩ ⟨(colOf t q).val / 256, by omega⟩ ⟨(colOf t q).val % 256, by omega⟩) := by
  have ht := lt128 t
  have eg : (⟨(colOf t q).val / 256, by omega⟩ : Fin 16) = headOf t := Fin.ext (by show (256 * (t.val % 16) + q.val) / 256 = t.val % 16; omega)
  have eq' : (⟨(colOf t q).val % 256, by omega⟩ : Fin 256) = q := Fin.ext (by show (256 * (t.val % 16) + q.val) % 256 = q.val; omega)
  have ei : (⟨(rowOf t r).val % 128, by omega⟩ : Fin 128) = ⟨r.val % 128, by omega⟩ := Fin.ext (by show (1024 * (t.val / 16) + r.val) % 128 = r.val % 128; omega)
  rw [spR_apply, eg, eq', ei]
  unfold mixAt vnAt
  rw [sb_block]
  refine congrArg (· + _) (Finset.sum_congr rfl fun k _ => ?_)
  rw [wspM_apply, vnR_apply, v_block, mu_block, rs_block, lg_block, lb_block, sp_block, mul_comm]
  have es : (rowOf t ⟨128 * (r.val / 128) + k.val, by omega⟩ : Fin 8192) = ⟨(rowOf t r).val / 128 * 128 + k.val, by omega⟩ :=
    Fin.ext (by show 1024 * (t.val / 16) + (128 * (r.val / 128) + k.val) = (1024 * (t.val / 16) + r.val) / 128 * 128 + k.val; omega)
  have ed : (colOf t q : Fin 4096) = ⟨(headOf t).val * 256 + q.val, by omega⟩ :=
    Fin.ext (by show 256 * (t.val % 16) + q.val = t.val % 16 * 256 + q.val; omega)
  rw [es, ed]

theorem chunk_eq {c : Dev nD} (h : GateFin m c) (t : Fin cfg0.N) (r : Fin 1024) (q : Fin 256) :
    gatedAt (iblk m c 0 t) (iblk m c 2 t) (iblk m c 3 t) (iblk m c 4 t) (iblk m c 5 t) (iblk m c 13 t) (iblk m c 14 t) (iblk m c 15 t) (iblk m c 16 t) r q
      = outA m c (ix2 (rowOf t r) (colOf t q)) := by
  show _ = outR _ _ _ _ _ _ _ _ _ (ix2 (rowOf t r) (colOf t q))
  obtain ⟨z, hz⟩ := proj_real m h (rowOf t r) (colOf t q)
  rw [outR_apply, hz, ← gateT_eq, ← hz]
  unfold gatedAt
  rw [pr_u, pr_g, mix_eq]

/-- Where the four chunks are, the second half of the block is the reference's. -/
theorem block_eq {c : Dev nD} (h : GateFin m c) (t : Fin cfg0.N) {X : Vec Ideal S2x1024x256 .bf16} (hX : Gated m c t X) (r : Fin 1024) (q : Fin 256) :
    X (ix3 1 r q) = outA m c (ix2 (rowOf t r) (colOf t q)) := by
  rw [← chunk_eq m h]
  have go : ∀ (o : ℕ) (ho : o ≤ 768) (ho' : o % 128 = 0), o ≤ r.val → (hr : r.val < o + 256) →
      Half X o (gated (iblk m c 0 t) (iblk m c 2 t) (iblk m c 3 t) (iblk m c 4 t) (iblk m c 5 t) (iblk m c 13 t) (iblk m c 14 t) (iblk m c 15 t) (iblk m c 16 t) o ho) →
      X (ix3 1 r q) = gatedAt (iblk m c 0 t) (iblk m c 2 t) (iblk m c 3 t) (iblk m c 4 t) (iblk m c 5 t) (iblk m c 13 t) (iblk m c 14 t) (iblk m c 15 t) (iblk m c 16 t) r q := by
    intro o ho ho' hl hr hh
    refine (hh (ix3 1 r q) (ix3 0 ⟨r.val - o, by omega⟩ q) fun a => ?_).trans ((gated_apply _ _ _ _ _ _ _ _ _ o ho ho' _ q).trans ?_)
    · fin_cases a
      · rfl
      · show r.val = o + (r.val - o); omega
      · show q.val = 0 + q.val; omega
    · refine congrArg (fun r => gatedAt _ _ _ _ _ _ _ _ _ r q) (Fin.ext ?_)
      show o + (r.val - o) = r.val; omega
  have hr := r.isLt
  obtain ⟨h0, h1, h2, h3⟩ := hX
  by_cases c1 : r.val < 256
  · exact go 0 (by decide) (by decide) (by omega) (by omega) h0
  by_cases c2 : r.val < 512
  · exact go 256 (by decide) (by decide) (by omega) (by omega) h1
  by_cases c3 : r.val < 768
  · exact go 512 (by decide) (by decide) (by omega) (by omega) h2
  · exact go 768 (by decide) (by decide) (by omega) (by omega) h3

/-! ## The result -/

theorem three_eq {n k l : ℕ} (y : (⟨3, ![n, k, l]⟩ : Shape).Idx) : y = ix3 (y 0) (y 1) (y 2) := by
  funext a; fin_cases a <;> rfl

set_option backward.proofsInPublic true in
/-- The array of the result's window, on its second half. -/
theorem half_final {c : Dev nD} (h : GateFin m c) {A : Arrs Ideal c} (hA : Left m c A) (s : Fin 8192) (d : Fin 4096) :
    (A 18 : FVec Ideal S2x8192x4096 .bf16) (ix3 1 s d) = outA m c (ix2 s d) := by
  obtain ⟨after, hL, hE⟩ := RDat.ArrAt.exists_exact_all hA
  rw [hE 18]
  refine ((rdat m c).withAfter after).arrAt_forall_of_covers 18
    (fun (i : S2x8192x4096.Idx) (v : EReal) => (i 0).val = 1 → v = outA m c (ix2 (i 1) (i 2))) (by decide +kernel) (fun t hf y => ?_) (ix3 1 s d) (harr := by exact Memref.isWhole_whole _) rfl
  have hX : Gated m c t (after 18 t) := Dat.toRRel_leaves (dat m c) (show fgt 18 = true from rfl) (hL 18 t t.isLt hf)
  rw [RDat.withAfter_after]
  intro h1
  show after 18 t y = _
  have e0 : (win0_18.index t 0) * 2 + 1 * (y 0).val = 1 := h1
  rw [place18] at e0
  have e1 : 0 * 2 + 1 * (y 0).val = 1 := e0
  have e2 : (y 0).val = 1 := by omega
  have e0' : @Eq (Fin 2) (y 0) 1 := Fin.ext e2
  rw [three_eq (n := 2) (k := 1024) (l := 256) y]
  refine (congrArg (fun b : Fin 2 => after 18 t (ix3 b (y 1) (y 2))) e0').trans ((block_eq m h t hX (y 1) (y 2)).trans (congrArg (outA m c) (funext fun a => Fin.ext ?_)))
  fin_cases a
  · show 1024 * (t.val / 16) + (y 1).val = (win0_18.index t 1) * 1024 + 1 * (y 1).val
    rw [place18]; show _ = t.val / 16 * 1024 + 1 * (y 1).val; omega
  · show 256 * (t.val % 16) + (y 2).val = (win0_18.index t 2) * 256 + 1 * (y 2).val
    rw [place18]; show _ = t.val % 16 * 256 + 1 * (y 2).val; omega

theorem take_half (x : FVec Ideal S2x8192x4096 .bf16) (s : Fin 8192) (d : Fin 4096) :
    (shapeCast _ (extractStridedSlice S1x8192x4096 ![1, 0, 0] x slices_S2x8192x4096_S1x8192x4096_1_0_0) shapeCasts_S1x8192x4096_S8192x4096 : FVec Ideal S8192x4096 .bf16) (ix2 s d)
      = x (ix3 1 s d) := by
  pointwise

set_option backward.proofsInPublic true in
/-- What the program returns. -/
theorem result_final {r : PUnit × MemSt nD τ sig (Elt Ideal)} (hP : Post m r) {c : Dev nD} (h : GateFin m c) :
    r.2.mem ((c.tc : Thread nD τ).loc main_v25) = outA m c := by
  obtain ⟨A, hA, hr⟩ := (hP c).2
  refine (hr main_v25 (Pipeline.mem_restRefs_of main_v25 (by decide) (by decide))).trans ?_
  have e : final m c A main_v25 = (shapeCast _ (extractStridedSlice S1x8192x4096 ![1, 0, 0] (A 18 : FVec Ideal S2x8192x4096 .bf16) slices_S2x8192x4096_S1x8192x4096_1_0_0) shapeCasts_S1x8192x4096_S8192x4096 : FVec Ideal S8192x4096 .bf16) := by
    rw [← Pipeline.withArrays_arr_shared spec0 c (V0 m c) A ((rdat m c).ArrAt_sharedIn launch₀0.sharedIn (V0 m c) (fun _ => rfl) cfg0.N A hA) 18]
    unfold final
    generalize Pipeline.withArrays spec0 c (V0 m c) A = W
    rfl
  rw [e]
  refine funext fun i => ?_
  have hi : i = ix2 (i 0) (i 1) := by funext a; fin_cases a <;> rfl
  rw [hi]
  exact (take_half (A 18) (i 0) (i 1)).trans (half_final m h hA (i 0) (i 1))

/-! ## The precondition -/

instance preFacts : Cert.Pre_gate_finite.Facts where
  bcast_S_S8192x4096 := Cert.Reference3Ideal.Gen.facts.bcast_S_S8192x4096
  slices_S4096x20480_S4096x4096_0_16384 := by decide
  bcast_S_S4096x4096 := by decide

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

theorem real_of_abs {x : EReal} (h : Ideal.cmp .olt (max x (-x)) ⊤ = 1#1) : ∃ y : ℝ, x = (y : EReal) := by
  induction x using EReal.rec with
  | bot => simp [Ideal.cmp] at h
  | coe y => exact ⟨y, rfl⟩
  | top => simp [Ideal.cmp] at h

theorem real_of_bf16 (x : FVec Ideal S8192x4096 .bf16)
    (h : (cmpf .olt (Host.absf x) (broadcastInDim S8192x4096 ![] preFacts.bcast_S_S8192x4096 (constant Cert.Pre_gate_finite.S_ .bf16 0x7F80#16 : FVec Ideal Cert.Pre_gate_finite.S_ .bf16)) : IVec S8192x4096 1) = fun _ => 1#1)
    (s : Fin 8192) (k : Fin 4096) : ∃ y : ℝ, x (ix2 s k) = (y : EReal) := by
  have e : Ideal.cmp .olt (max (x (ix2 s k)) (-x (ix2 s k))) (Ideal.ofBits .bf16 0x7F80#16) = 1#1 := congrFun h (ix2 s k)
  rw [top_bf16] at e
  exact real_of_abs e

theorem take_gate (w : FVec Ideal S4096x20480 .f32) (k d : Fin 4096) :
    (extractStridedSlice Cert.Pre_gate_finite.S4096x4096 ![0, 16384] w preFacts.slices_S4096x20480_S4096x4096_0_16384 : FVec Ideal Cert.Pre_gate_finite.S4096x4096 .f32) (ix2 k d)
      = w (ix2 k ⟨16384 + d.val, by omega⟩) := by
  pointwise

theorem real_of_f32 (w : FVec Ideal S4096x20480 .f32)
    (h : (cmpf .olt (Host.absf (extractStridedSlice Cert.Pre_gate_finite.S4096x4096 ![0, 16384] w preFacts.slices_S4096x20480_S4096x4096_0_16384 : FVec Ideal Cert.Pre_gate_finite.S4096x4096 .f32))
      (broadcastInDim Cert.Pre_gate_finite.S4096x4096 ![] preFacts.bcast_S_S4096x4096 (constant Cert.Pre_gate_finite.S_ .f32 0x7F800000#32 : FVec Ideal Cert.Pre_gate_finite.S_ .f32)) : IVec Cert.Pre_gate_finite.S4096x4096 1) = fun _ => 1#1)
    (k d : Fin 4096) : ∃ y : ℝ, w (ix2 k ⟨16384 + d.val, by omega⟩) = (y : EReal) := by
  rw [← take_gate w k d]
  generalize (extractStridedSlice Cert.Pre_gate_finite.S4096x4096 ![0, 16384] w preFacts.slices_S4096x20480_S4096x4096_0_16384 : FVec Ideal Cert.Pre_gate_finite.S4096x4096 .f32) = x at h ⊢
  have e : Ideal.cmp .olt (max (x (ix2 k d)) (-x (ix2 k d))) (Ideal.ofBits .f32 0x7F800000#32) = 1#1 := congrFun h (ix2 k d)
  rw [top_f32] at e
  exact real_of_abs e

end Cert.Heads

end
-- ==== Proof.lean ====
/-
  The proof of `Cert.Claim`: for the output projection, for the normalise-and-project call and for the heads' call, the
  frames of the two prints and of the reference, and the equality of their results over the idealized floats. Each kernel
  runs once, over any float values (`run_main`, `run_proj`, `run_heads`); `Value.lean`, `VValue.lean` and `HValue.lean` read
  the results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Kernel3Ideal.Launch
public import proofs.«01_k».proof.Proof.Gen.Reference3Ideal
public import proofs.«01_k».proof.Proof.Gen.Reference3Ideal.Run
public import proofs.«01_k».proof.Proof.Value
public import proofs.«01_k».proof.Proof.VValue
public import proofs.«01_k».proof.Proof.HValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.OutProj

attribute [local instance] Cert.Kernel.Gen.facts Cert.KernelIdeal.Gen.facts Cert.ReferenceIdeal.Gen.facts
  Cert.Kernel2.Gen.facts Cert.Kernel2Ideal.Gen.facts Cert.Reference2Ideal.Gen.facts
  Cert.Kernel3.Gen.facts Cert.Kernel3Ideal.Gen.facts Cert.Reference3Ideal.Gen.facts

/-! ## The frames -/

/-- The one run, read at the bits. -/
theorem frame_kernel : Cert.quiescent_Kernel := fun m ρ _ =>
  (θ_run Cert.KernelIdeal.defs _ _).mono (fun _ h => ⟨fun c => ⟨(h.1 c).1.1.trans (Cert.KernelIdeal.Gen.V_main_arg0 m c),
      (h.1 c).1.2.1.trans (Cert.KernelIdeal.Gen.V_main_arg1 m c), (h.1 c).1.2.2.1.trans (Cert.KernelIdeal.Gen.V_main_arg2 m c),
      (h.1 c).1.2.2.2.trans (Cert.KernelIdeal.Gen.V_main_arg3 m c)⟩, h.2⟩) (run_main (F := Bits) m ρ)

/-- The same run, read at the extended reals. -/
theorem frame_kernelIdeal : Cert.quiescent_KernelIdeal := fun m ρ _ =>
  (θ_run Cert.KernelIdeal.defs _ _).mono (fun _ h => ⟨fun c => ⟨(h.1 c).1.1.trans (Cert.KernelIdeal.Gen.V_main_arg0 m c),
      (h.1 c).1.2.1.trans (Cert.KernelIdeal.Gen.V_main_arg1 m c), (h.1 c).1.2.2.1.trans (Cert.KernelIdeal.Gen.V_main_arg2 m c),
      (h.1 c).1.2.2.2.trans (Cert.KernelIdeal.Gen.V_main_arg3 m c)⟩, h.2⟩) (run_main (F := Ideal) m ρ)

/-- The reference names no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

theorem value : Cert.algebraic_KernelIdeal_ReferenceIdeal := fun m g m' g' _ hargs =>
  ⟨fun c => resW c (VXM m c) (VXW m c) (VXX m c) (VFG m c),
    (θ_run Cert.KernelIdeal.defs _ _).mono (fun _ h c => ⟨(h.1 c).2, (h.1 c).1.1.trans (Cert.KernelIdeal.Gen.V_main_arg0 m c),
      (h.1 c).1.2.1.trans (Cert.KernelIdeal.Gen.V_main_arg1 m c), (h.1 c).1.2.2.1.trans (Cert.KernelIdeal.Gen.V_main_arg2 m c),
      (h.1 c).1.2.2.2.trans (Cert.KernelIdeal.Gen.V_main_arg3 m c)⟩) (run_main (F := Ideal) m g),
    (θ_run Cert.ReferenceIdeal.defs _ _).mono (fun _ h c => ⟨(h c).1.trans (by
        obtain ⟨e0, e1, e2, e3⟩ := hargs c
        rw [e0, e1, e2, e3]
        exact (result_eq m c).symm), (h c).2⟩) (Cert.ReferenceIdeal.Value.run (F := Ideal) m' g')⟩

/-! ## The normalise-and-project call -/

/-- The one run with the arguments kept, over any float values. -/
theorem frame_proj {F : FTy → Type} [FloatOps F]
    (m : (ℓ : Loc Cert.Kernel2Ideal.nD Cert.Kernel2Ideal.τ Cert.Kernel2Ideal.sig) → Buf (Elt F) ℓ)
    (ρ : Dev Cert.Kernel2Ideal.nD → PrngReg) :
    θ_run (Cert.Kernel2Ideal.defs (F := F)) (onTc (τ := Cert.Kernel2Ideal.τ) (Cert.Kernel2Ideal.main (F := F)))
      ⟨m, fun _ => 0, ρ⟩ (fun r => (∀ c : Dev Cert.Kernel2Ideal.nD,
        r.2.mem (c.tc.loc Cert.Kernel2Ideal.main_arg0) = m (c.tc.loc Cert.Kernel2Ideal.main_arg0)
        ∧ r.2.mem (c.tc.loc Cert.Kernel2Ideal.main_arg1) = m (c.tc.loc Cert.Kernel2Ideal.main_arg1)
        ∧ r.2.mem (c.tc.loc Cert.Kernel2Ideal.main_arg2) = m (c.tc.loc Cert.Kernel2Ideal.main_arg2))
        ∧ r.2.sem = fun _ => 0) :=
  (θ_run Cert.Kernel2Ideal.defs _ _).mono (fun _ h => ⟨fun c => Cert.VProj.args_kept m h.1 c, h.2⟩)
    (Cert.VProj.run_proj m ρ)

set_option smartUnfolding false in
/-- That run, read at the bits. -/
theorem frame_kernel2 : Cert.quiescent_Kernel2 := fun m ρ _ => frame_proj (F := Bits) m ρ

/-- That run, read at the extended reals. -/
theorem frame_kernel2Ideal : Cert.quiescent_Kernel2Ideal := fun m ρ _ => frame_proj (F := Ideal) m ρ

/-- The reference names no semaphore. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem value2 : Cert.algebraic_Kernel2Ideal_Reference2Ideal := fun m g m' g' _ hargs =>
  ⟨fun c => Cert.VProj.hnR m c, fun c => Cert.VProj.gvR m c,
    (θ_run Cert.Kernel2Ideal.defs _ _).mono (fun _ h c => ⟨Cert.VProj.hn_final m h.1 c, Cert.VProj.gv_final m h.1 c,
      Cert.VProj.args_kept m h.1 c⟩) (Cert.VProj.run_proj (F := Ideal) m g),
    (θ_run Cert.Reference2Ideal.defs _ _).mono (fun _ h c => by
        obtain ⟨e0, e1, e2⟩ := hargs c
        refine ⟨(h c).1.trans ?_, (h c).2.1.trans ?_, (h c).2.2⟩
        · rw [e0, e1]; rfl
        · rw [e0, e1, e2]; rfl) (Cert.Reference2Ideal.Value.run (F := Ideal) m' g')⟩

/-! ## The heads' call -/

/-- The one run with the arguments kept, over any float values. -/
theorem frame_heads {F : FTy → Type} [FloatOps F]
    (m : (ℓ : Loc Cert.Kernel3Ideal.nD Cert.Kernel3Ideal.τ Cert.Kernel3Ideal.sig) → Buf (Elt F) ℓ) (ρ : Dev Cert.Kernel3Ideal.nD → PrngReg) :
    θ_run (Cert.Kernel3Ideal.defs (F := F)) (onTc (τ := Cert.Kernel3Ideal.τ) (Cert.Kernel3Ideal.main (F := F)))
      ⟨m, fun _ => 0, ρ⟩ (fun r => (∀ c : Dev Cert.Kernel3Ideal.nD,
        r.2.mem (c.tc.loc Cert.Kernel3Ideal.main_arg0) = m (c.tc.loc Cert.Kernel3Ideal.main_arg0)
        ∧ r.2.mem (c.tc.loc Cert.Kernel3Ideal.main_arg1) = m (c.tc.loc Cert.Kernel3Ideal.main_arg1)
        ∧ r.2.mem (c.tc.loc Cert.Kernel3Ideal.main_arg2) = m (c.tc.loc Cert.Kernel3Ideal.main_arg2)
        ∧ r.2.mem (c.tc.loc Cert.Kernel3Ideal.main_arg3) = m (c.tc.loc Cert.Kernel3Ideal.main_arg3)
        ∧ r.2.mem (c.tc.loc Cert.Kernel3Ideal.main_arg4) = m (c.tc.loc Cert.Kernel3Ideal.main_arg4)
        ∧ r.2.mem (c.tc.loc Cert.Kernel3Ideal.main_arg5) = m (c.tc.loc Cert.Kernel3Ideal.main_arg5)
        ∧ r.2.mem (c.tc.loc Cert.Kernel3Ideal.main_arg6) = m (c.tc.loc Cert.Kernel3Ideal.main_arg6)
        ∧ r.2.mem (c.tc.loc Cert.Kernel3Ideal.main_arg7) = m (c.tc.loc Cert.Kernel3Ideal.main_arg7)
        ∧ r.2.mem (c.tc.loc Cert.Kernel3Ideal.main_arg8) = m (c.tc.loc Cert.Kernel3Ideal.main_arg8)
        ∧ r.2.mem (c.tc.loc Cert.Kernel3Ideal.main_arg9) = m (c.tc.loc Cert.Kernel3Ideal.main_arg9)
        ∧ r.2.mem (c.tc.loc Cert.Kernel3Ideal.main_arg10) = m (c.tc.loc Cert.Kernel3Ideal.main_arg10)
        ∧ r.2.mem (c.tc.loc Cert.Kernel3Ideal.main_arg11) = m (c.tc.loc Cert.Kernel3Ideal.main_arg11)
        ∧ r.2.mem (c.tc.loc Cert.Kernel3Ideal.main_arg12) = m (c.tc.loc Cert.Kernel3Ideal.main_arg12)
        ∧ r.2.mem (c.tc.loc Cert.Kernel3Ideal.main_arg13) = m (c.tc.loc Cert.Kernel3Ideal.main_arg13)
        ∧ r.2.mem (c.tc.loc Cert.Kernel3Ideal.main_arg14) = m (c.tc.loc Cert.Kernel3Ideal.main_arg14)
        ∧ r.2.mem (c.tc.loc Cert.Kernel3Ideal.main_arg15) = m (c.tc.loc Cert.Kernel3Ideal.main_arg15)
        ∧ r.2.mem (c.tc.loc Cert.Kernel3Ideal.main_arg16) = m (c.tc.loc Cert.Kernel3Ideal.main_arg16))
        ∧ r.2.sem = fun _ => 0) :=
  (θ_run Cert.Kernel3Ideal.defs _ _).mono (fun _ h => ⟨fun c => Cert.Heads.args_kept m h.1 c, h.2⟩) (Cert.Heads.run_heads m ρ)

set_option maxHeartbeats 8000000 in
set_option smartUnfolding false in
/-- That run, read at the bits. -/
theorem frame_kernel3 : Cert.quiescent_Kernel3 := fun m ρ _ => frame_heads (F := Bits) m ρ

/-- That run, read at the extended reals. -/
theorem frame_kernel3Ideal : Cert.quiescent_Kernel3Ideal := fun m ρ _ => frame_heads (F := Ideal) m ρ
theorem frame_kernel3Ideal_finite : Cert.quiescent_Kernel3Ideal_pre_gate_finite := fun m ρ _ => frame_heads (F := Ideal) m ρ

/-- The reference names no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_reference3_finite : Cert.quiescent_Reference3Ideal_pre_gate_finite := fun m ρ _ => frame_reference3 m ρ trivial

theorem value3 : Cert.algebraic_Kernel3Ideal_Reference3Ideal_pre_gate_finite := fun m g m' g' hpre hargs =>
  ⟨fun c => Cert.Heads.outA m c,
    (θ_run Cert.Kernel3Ideal.defs _ _).mono (fun _ h c => ⟨Cert.Heads.result_final m h.1
        ⟨Cert.Heads.real_of_bf16 _ (hpre c).1, Cert.Heads.real_of_f32 _ (hpre c).2⟩, Cert.Heads.args_kept m h.1 c⟩)
      (Cert.Heads.run_heads (F := Ideal) m g),
    (θ_run Cert.Reference3Ideal.defs _ _).mono (fun _ h c => ⟨(h c).1.trans (by
        obtain ⟨e0, e1, e2, e3, e4, e5, e6, e7, e8, e9, e10, e11, e12, e13, e14, e15, e16⟩ := hargs c
        rw [Cert.Heads.out_eq, e0, e1, e2, e3, e4, e12, e13, e14, e15]
        rfl), (h c).2⟩) (Cert.Reference3Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Heads.preFacts,
  frame_kernel, frame_kernelIdeal, frame_reference, frame_kernel2, frame_kernel2Ideal, frame_reference2,
  frame_kernel3, frame_kernel3Ideal, frame_kernel3Ideal_finite, frame_reference3, frame_reference3_finite,
  trivial, value, trivial, value2, trivial, value3⟩

end Cert.Proof

end
